-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_finite [hPre_router_finite : Cert.Pre_router_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite [hPre_router_finite : Cert.Pre_router_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_router_finite [hKernelIdeal : Cert.KernelIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_router_finite [hReferenceIdeal : Cert.ReferenceIdeal.Facts] [hPre_router_finite : Cert.Pre_router_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  True

def algebraic_KernelIdeal_ReferenceIdeal_pre_router_finite [hKernelIdeal : Cert.KernelIdeal.Facts] [hReferenceIdeal : Cert.ReferenceIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v17)) (v1 : (c : Dev Cert.Kernel2Ideal.nD) → Buf (Elt Ideal) ((c.tc : Thread Cert.Kernel2Ideal.nD Cert.Kernel2Ideal.τ).loc Cert.Kernel2Ideal.main_v19)) (v2 : (c : Dev Cert.Kernel2Ideal.nD) → Buf (Elt Ideal) ((c.tc : Thread Cert.Kernel2Ideal.nD Cert.Kernel2Ideal.τ).loc Cert.Kernel2Ideal.main_v20)) (v3 : (c : Dev Cert.Kernel2Ideal.nD) → Buf (Elt Ideal) ((c.tc : Thread Cert.Kernel2Ideal.nD Cert.Kernel2Ideal.τ).loc Cert.Kernel2Ideal.main_v21)) (v4 : (c : Dev Cert.Kernel2Ideal.nD) → Buf (Elt Ideal) ((c.tc : Thread Cert.Kernel2Ideal.nD Cert.Kernel2Ideal.τ).loc Cert.Kernel2Ideal.main_v22)) (v5 : (c : Dev Cert.Kernel2Ideal.nD) → Buf (Elt Ideal) ((c.tc : Thread Cert.Kernel2Ideal.nD Cert.Kernel2Ideal.τ).loc Cert.Kernel2Ideal.main_v23)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_v19) = v1 c
          ∧ r.2.mem ((c.tc : Thread Cert.Kernel2Ideal.nD Cert.Kernel2Ideal.τ).loc Cert.Kernel2Ideal.main_v20) = v2 c
          ∧ r.2.mem ((c.tc : Thread Cert.Kernel2Ideal.nD Cert.Kernel2Ideal.τ).loc Cert.Kernel2Ideal.main_v21) = v3 c
          ∧ r.2.mem ((c.tc : Thread Cert.Kernel2Ideal.nD Cert.Kernel2Ideal.τ).loc Cert.Kernel2Ideal.main_v22) = v4 c
          ∧ r.2.mem ((c.tc : Thread Cert.Kernel2Ideal.nD Cert.Kernel2Ideal.τ).loc Cert.Kernel2Ideal.main_v23) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_v31) = v2 c
          ∧ r.2.mem ((c.tc : Thread Cert.Reference2Ideal.nD Cert.Reference2Ideal.τ).loc Cert.Reference2Ideal.main_v23) = v3 c
          ∧ r.2.mem ((c.tc : Thread Cert.Reference2Ideal.nD Cert.Reference2Ideal.τ).loc Cert.Reference2Ideal.main_v25) = v4 c
          ∧ r.2.mem ((c.tc : Thread Cert.Reference2Ideal.nD Cert.Reference2Ideal.τ).loc Cert.Reference2Ideal.main_v24) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_router_finite : Cert.Pre_router_finite.Facts),
    quiescent_Kernel (hKernel := hKernel)
    ∧ quiescent_KernelIdeal (hKernelIdeal := hKernelIdeal)
    ∧ quiescent_KernelIdeal_pre_router_finite (hKernelIdeal := hKernelIdeal) (hPre_router_finite := hPre_router_finite)
    ∧ quiescent_ReferenceIdeal (hReferenceIdeal := hReferenceIdeal)
    ∧ quiescent_ReferenceIdeal_pre_router_finite (hReferenceIdeal := hReferenceIdeal) (hPre_router_finite := hPre_router_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_router_finite (hKernelIdeal := hKernelIdeal) (hReferenceIdeal := hReferenceIdeal) (hPre_router_finite := hPre_router_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_router_finite.lean ====
abbrev S16384x1024 : Shape := ⟨2, ![16384, 1024]⟩
abbrev S1024 : Shape := ⟨1, ![1024]⟩
abbrev S1024x8 : Shape := ⟨2, ![1024, 8]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S16384x1024 .f32) (main_arg1 : FVec F S1024 .f32) (main_arg2 : FVec F S1024 .f32) (main_arg3 : FVec F S1024x8 .f32) (main_arg4 : FVec F S8x1024x3584 .f32) (main_arg5 : FVec F S8x1024x3584 .f32) (main_arg6 : FVec F S8x3584x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x8 .f32 := Host.absf main_arg3
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  main_v8
-- ==== Kernel.lean ====
abbrev S16384x1024 : Shape := ⟨2, ![16384, 1024]⟩
abbrev S1024 : Shape := ⟨1, ![1024]⟩
abbrev S1024x8 : Shape := ⟨2, ![1024, 8]⟩
abbrev S8x1024x3584 : Shape := ⟨3, ![8, 1024, 3584]⟩
abbrev S8x3584x1024 : Shape := ⟨3, ![8, 3584, 1024]⟩
abbrev S_ : Shape := ⟨0, ![]⟩
abbrev S1024x128 : Shape := ⟨2, ![1024, 128]⟩
abbrev S1x1024 : Shape := ⟨2, ![1, 1024]⟩
abbrev S16384x128 : Shape := ⟨2, ![16384, 128]⟩
abbrev S16x32x1024 : Shape := ⟨3, ![16, 32, 1024]⟩
abbrev S16x8x128 : Shape := ⟨3, ![16, 8, 128]⟩
abbrev S1024x1024 : Shape := ⟨2, ![1024, 1024]⟩
abbrev S1x32x1024 : Shape := ⟨3, ![1, 32, 1024]⟩
abbrev S1x8x128 : Shape := ⟨3, ![1, 8, 128]⟩
abbrev S1024x1 : Shape := ⟨2, ![1024, 1]⟩
abbrev S128x1024 : Shape := ⟨2, ![128, 1024]⟩
abbrev S8x1024 : Shape := ⟨2, ![8, 1024]⟩
abbrev S104x1024 : Shape := ⟨2, ![104, 1024]⟩
abbrev S32x1024 : Shape := ⟨2, ![32, 1024]⟩
abbrev S128 : Shape := ⟨1, ![128]⟩
abbrev S1x128 : Shape := ⟨2, ![1, 128]⟩
abbrev S8x128 : Shape := ⟨2, ![8, 128]⟩
abbrev S16x1x8 : Shape := ⟨3, ![16, 1, 8]⟩
abbrev S16x8 : Shape := ⟨2, ![16, 8]⟩
abbrev S1x1024x896 : Shape := ⟨3, ![1, 1024, 896]⟩
abbrev S1x896x1024 : Shape := ⟨3, ![1, 896, 1024]⟩
abbrev S3x1024x128 : Shape := ⟨3, ![3, 1024, 128]⟩
abbrev S1x1 : Shape := ⟨2, ![1, 1]⟩
abbrev S1x1024x128 : Shape := ⟨3, ![1, 1024, 128]⟩
abbrev S1x1x1024 : Shape := ⟨3, ![1, 1, 1024]⟩
abbrev S256x1024 : Shape := ⟨2, ![256, 1024]⟩
abbrev S1024x896 : Shape := ⟨2, ![1024, 896]⟩
abbrev S256x896 : Shape := ⟨2, ![256, 896]⟩
abbrev S896x1024 : Shape := ⟨2, ![896, 1024]⟩
abbrev S1024x256 : Shape := ⟨2, ![1024, 256]⟩
abbrev S128x896 : Shape := ⟨2, ![128, 896]⟩

abbrev nBuf : Space → Nat
  | .hbm => 21
  | .vmem => 33
  | .smem => 1
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x8, .f32⟩
  | .hbm, ⟨4, _⟩ => ⟨S8x1024x3584, .f32⟩
  | .hbm, ⟨5, _⟩ => ⟨S8x1024x3584, .f32⟩
  | .hbm, ⟨6, _⟩ => ⟨S8x3584x1024, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1x1024, .f32⟩
  | .hbm, ⟨11, _⟩ => ⟨S1x1024, .f32⟩
  | .hbm, ⟨12, _⟩ => ⟨S8x1024x3584, .bf16⟩
  | .hbm, ⟨13, _⟩ => ⟨S8x1024x3584, .bf16⟩
  | .hbm, ⟨14, _⟩ => ⟨S8x3584x1024, .bf16⟩
  | .hbm, ⟨15, _⟩ => ⟨S16384x1024, .bf16⟩
  | .hbm, ⟨16, _⟩ => ⟨S16384x128, .f32⟩
  | .hbm, ⟨17, _⟩ => ⟨S16x32x1024, .f32⟩
  | .hbm, ⟨18, _⟩ => ⟨S16x8x128, .i32⟩
  | .hbm, ⟨19, _⟩ => ⟨S16x1x8, .i32⟩
  | .hbm, ⟨20, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x128, .f32⟩
  | .local _ .vmem, ⟨4, _⟩ => ⟨S1024x1024, .bf16⟩
  | .local _ .vmem, ⟨5, _⟩ => ⟨S1024x1024, .bf16⟩
  | .local _ .vmem, ⟨6, _⟩ => ⟨S1024x128, .f32⟩
  | .local _ .vmem, ⟨7, _⟩ => ⟨S1024x128, .f32⟩
  | .local _ .vmem, ⟨8, _⟩ => ⟨S1x32x1024, .f32⟩
  | .local _ .vmem, ⟨9, _⟩ => ⟨S1x32x1024, .f32⟩
  | .local _ .vmem, ⟨10, _⟩ => ⟨S1x8x128, .i32⟩
  | .local _ .vmem, ⟨11, _⟩ => ⟨S1x8x128, .i32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x128, .f32⟩
  | .local _ .vmem, ⟨17, _⟩ => ⟨S1024x128, .f32⟩
  | .local _ .vmem, ⟨18, _⟩ => ⟨S1x32x1024, .f32⟩
  | .local _ .vmem, ⟨19, _⟩ => ⟨S1x32x1024, .f32⟩
  | .local _ .vmem, ⟨20, _⟩ => ⟨S1x1024, .f32⟩
  | .local _ .vmem, ⟨21, _⟩ => ⟨S1x1024x896, .bf16⟩
  | .local _ .vmem, ⟨22, _⟩ => ⟨S1x1024x896, .bf16⟩
  | .local _ .vmem, ⟨23, _⟩ => ⟨S1x1024x896, .bf16⟩
  | .local _ .vmem, ⟨24, _⟩ => ⟨S1x1024x896, .bf16⟩
  | .local _ .vmem, ⟨25, _⟩ => ⟨S1x896x1024, .bf16⟩
  | .local _ .vmem, ⟨26, _⟩ => ⟨S1x896x1024, .bf16⟩
  | .local _ .vmem, ⟨27, _⟩ => ⟨S1024x1024, .f32⟩
  | .local _ .vmem, ⟨28, _⟩ => ⟨S1024x1024, .f32⟩
  | .local _ .vmem, ⟨29, _⟩ => ⟨S1024x1024, .bf16⟩
  | .local _ .vmem, ⟨30, _⟩ => ⟨S1024x1024, .f32⟩
  | .local _ .vmem, ⟨31, _⟩ => ⟨S1024x1024, .f32⟩
  | .local _ .vmem, ⟨32, _⟩ => ⟨S3x1024x128, .f32⟩
  | .local _ .smem, ⟨0, _⟩ => ⟨S16x8, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v7 : Ref sig .tc := ⟨.hbm, 19, rfl⟩
abbrev main_v9 : Ref sig .tc := ⟨.hbm, 20, rfl⟩
abbrev main_v8 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc1_stg8_0 : Ref sig .tc := ⟨.vmem, 27, rfl⟩
abbrev cc1_stg8_1 : Ref sig .tc := ⟨.vmem, 28, rfl⟩
abbrev cc1_scratch0 : Ref sig .tc := ⟨.vmem, 29, rfl⟩
abbrev cc1_scratch1 : Ref sig .tc := ⟨.vmem, 30, rfl⟩
abbrev cc1_scratch2 : Ref sig .tc := ⟨.vmem, 31, rfl⟩
abbrev cc1_scratch3 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem5_1 : DmaSem sig := 22
abbrev cc1_sem6_0 : DmaSem sig := 23
abbrev cc1_sem6_1 : DmaSem sig := 24
abbrev cc1_sem7_0 : DmaSem sig := 25
abbrev cc1_sem7_1 : DmaSem sig := 26
abbrev cc1_sem8_0 : DmaSem sig := 27
abbrev cc1_sem8_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![16, 8, 4], ![false, false, false]⟩

abbrev pre1 : Pipeline.Prefetch sig := ⟨1, ![main_v8.idx], fun | 0 => main_v8.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 2 → Nat :=
  let arg0 : BitVec 32 := BitVec.ofNat 32 (i 0).val
  let v0 : Index := Scalar.indexCast arg0
  let arg1 : BitVec 32 := BitVec.ofNat 32 (i 1).val
  let v1 : Index := Scalar.indexCast arg1
  ![v0.toNat, v1.toNat]
def k1_cond4 (i : grid1.Coords) : BitVec 1 :=
  let arg2 : BitVec 32 := BitVec.ofNat 32 (i 2).val
  let c0_i32_13 : BitVec 32 := 0#32
  let v37 : BitVec 1 := Scalar.cmpi .eq arg2 c0_i32_13
  let v38 : BitVec 32 := Scalar.extui v37
  let c0_i32_14 : BitVec 32 := 0#32
  let v39 : BitVec 1 := Scalar.cmpi .ne v38 c0_i32_14
  v39

def k1_off2 (i : grid1.Coords) (c8_i32 : BitVec 32) : Fin 3 → Nat :=
  let c0_36 : Index := 0#32
  let arg1 : BitVec 32 := BitVec.ofNat 32 (i 1).val
  let v68 : BitVec 32 := Scalar.addi c8_i32 arg1
  let v69 : Index := Scalar.indexCast v68
  let c0_37 : Index := 0#32
  ![0, v69.toNat, 0]
def k1_cond7 (i : grid1.Coords) : BitVec 1 :=
  let arg2 : BitVec 32 := BitVec.ofNat 32 (i 2).val
  let c0_i32_13 : BitVec 32 := 0#32
  let v37 : BitVec 1 := Scalar.cmpi .eq arg2 c0_i32_13
  let v38 : BitVec 32 := Scalar.extui v37
  let c0_i32_14 : BitVec 32 := 0#32
  let v39 : BitVec 1 := Scalar.cmpi .ne v38 c0_i32_14
  v39

def k1_off3 (i : grid1.Coords) (c8_i32 : BitVec 32) : Fin 3 → Nat :=
  let c0_35 : Index := 0#32
  let arg1 : BitVec 32 := BitVec.ofNat 32 (i 1).val
  let v68 : BitVec 32 := Scalar.addi c8_i32 arg1
  let v69 : Index := Scalar.indexCast v68
  let c0_36 : Index := 0#32
  ![0, v69.toNat, 0]
def k1_cond10 (i : grid1.Coords) : BitVec 1 :=
  let arg2 : BitVec 32 := BitVec.ofNat 32 (i 2).val
  let c0_i32_13 : BitVec 32 := 0#32
  let v37 : BitVec 1 := Scalar.cmpi .eq arg2 c0_i32_13
  let v38 : BitVec 32 := Scalar.extui v37
  let c0_i32_14 : BitVec 32 := 0#32
  let v39 : BitVec 1 := Scalar.cmpi .ne v38 c0_i32_14
  v39

def k1_off4 (i : grid1.Coords) (c8_i32 : BitVec 32) : Fin 3 → Nat :=
  let c0_35 : Index := 0#32
  let arg1 : BitVec 32 := BitVec.ofNat 32 (i 1).val
  let v68 : BitVec 32 := Scalar.addi c8_i32 arg1
  let v69 : Index := Scalar.indexCast v68
  let c0_36 : Index := 0#32
  ![0, v69.toNat, 0]
def k1_cond13 (i : grid1.Coords) : BitVec 1 :=
  let arg2 : BitVec 32 := BitVec.ofNat 32 (i 2).val
  let c0_i32_13 : BitVec 32 := 0#32
  let v37 : BitVec 1 := Scalar.cmpi .eq arg2 c0_i32_13
  let v38 : BitVec 32 := Scalar.extui v37
  let c0_i32_14 : BitVec 32 := 0#32
  let v39 : BitVec 1 := Scalar.cmpi .ne v38 c0_i32_14
  v39

def k1_off5 (i : grid1.Coords) (c8_i32 : BitVec 32) : Fin 3 → Nat :=
  let c0_35 : Index := 0#32
  let arg1 : BitVec 32 := BitVec.ofNat 32 (i 1).val
  let v68 : BitVec 32 := Scalar.addi c8_i32 arg1
  let v69 : Index := Scalar.indexCast v68
  let c0_36 : Index := 0#32
  ![0, v69.toNat, 0]
def k1_cond16 (i : grid1.Coords) : BitVec 1 :=
  let arg2 : BitVec 32 := BitVec.ofNat 32 (i 2).val
  let c0_i32_13 : BitVec 32 := 0#32
  let v37 : BitVec 1 := Scalar.cmpi .eq arg2 c0_i32_13
  let v38 : BitVec 32 := Scalar.extui v37
  let c0_i32_14 : BitVec 32 := 0#32
  let v39 : BitVec 1 := Scalar.cmpi .ne v38 c0_i32_14
  v39

def k1_off6 (i : grid1.Coords) (c8_i32 : BitVec 32) : Fin 3 → Nat :=
  let c0_35 : Index := 0#32
  let arg1 : BitVec 32 := BitVec.ofNat 32 (i 1).val
  let v68 : BitVec 32 := Scalar.addi c8_i32 arg1
  let v69 : Index := Scalar.indexCast v68
  let c0_36 : Index := 0#32
  ![0, v69.toNat, 0]
def k1_cond19 (i : grid1.Coords) : BitVec 1 :=
  let arg2 : BitVec 32 := BitVec.ofNat 32 (i 2).val
  let c0_i32_13 : BitVec 32 := 0#32
  let v37 : BitVec 1 := Scalar.cmpi .eq arg2 c0_i32_13
  let v38 : BitVec 32 := Scalar.extui v37
  let c0_i32_14 : BitVec 32 := 0#32
  let v39 : BitVec 1 := Scalar.cmpi .ne v38 c0_i32_14
  v39

def k1_off7 (i : grid1.Coords) (c8_i32 : BitVec 32) : Fin 3 → Nat :=
  let c0_35 : Index := 0#32
  let arg1 : BitVec 32 := BitVec.ofNat 32 (i 1).val
  let v68 : BitVec 32 := Scalar.addi c8_i32 arg1
  let v69 : Index := Scalar.indexCast v68
  let c0_36 : Index := 0#32
  ![0, v69.toNat, 0]
def k1_cond22 (i : grid1.Coords) : BitVec 1 :=
  let arg2 : BitVec 32 := BitVec.ofNat 32 (i 2).val
  let c0_i32_13 : BitVec 32 := 0#32
  let v37 : BitVec 1 := Scalar.cmpi .eq arg2 c0_i32_13
  let v38 : BitVec 32 := Scalar.extui v37
  let c0_i32_14 : BitVec 32 := 0#32
  let v39 : BitVec 1 := Scalar.cmpi .ne v38 c0_i32_14
  v39

def k1_off8 (i : grid1.Coords) (c8_i32 : BitVec 32) : Fin 3 → Nat :=
  let c0_35 : Index := 0#32
  let arg1 : BitVec 32 := BitVec.ofNat 32 (i 1).val
  let v68 : BitVec 32 := Scalar.addi c8_i32 arg1
  let v69 : Index := Scalar.indexCast v68
  let c0_36 : Index := 0#32
  ![0, v69.toNat, 0]
def k1_cond24 (i : grid1.Coords) : BitVec 1 :=
  let arg1 : BitVec 32 := BitVec.ofNat 32 (i 1).val
  let c7_i32 : BitVec 32 := 7#32
  let v32 : BitVec 1 := Scalar.cmpi .eq arg1 c7_i32
  let arg2 : BitVec 32 := BitVec.ofNat 32 (i 2).val
  let c3_i32_11 : BitVec 32 := 3#32
  let v33 : BitVec 1 := Scalar.cmpi .eq arg2 c3_i32_11
  let v34 : BitVec 1 := Scalar.andi v32 v33
  let v35 : BitVec 32 := Scalar.extui v34
  let c0_i32_12 : BitVec 32 := 0#32
  let v36 : BitVec 1 := Scalar.cmpi .ne v35 c0_i32_12
  v36

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x32x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x1024x896 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, true]

abbrev stage1_6 : Fin 2 → Memref sig .tc .vmem S1x1024x896 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true, true]

abbrev stage1_7 : Fin 2 → Memref sig .tc .vmem S1x896x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true, true]

abbrev stage1_8 : Fin 2 → Memref sig .tc .vmem S1024x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false, false]
-- ==== ReferenceIdeal.lean ====
abbrev S16384x1024 : Shape := ⟨2, ![16384, 1024]⟩
abbrev S1024 : Shape := ⟨1, ![1024]⟩
abbrev S1024x8 : Shape := ⟨2, ![1024, 8]⟩
abbrev S8x1024x3584 : Shape := ⟨3, ![8, 1024, 3584]⟩
abbrev S8x3584x1024 : Shape := ⟨3, ![8, 3584, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8 : Shape := ⟨2, ![16384, 8]⟩
abbrev S16384x2 : Shape := ⟨2, ![16384, 2]⟩
abbrev S16384x2x1 : Shape := ⟨3, ![16384, 2, 1]⟩
abbrev S1x1x8 : Shape := ⟨3, ![1, 1, 8]⟩
abbrev S16384x2x8 : Shape := ⟨3, ![16384, 2, 8]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S16384x3584 : Shape := ⟨2, ![16384, 3584]⟩

abbrev nBuf : Space → Nat
  | .hbm => 254
  | .vmem => 0
  | .smem => 0
  | _ => 0

abbrev hbmTy0_0 (i : Nat) : BufTy := match i % 128 with
  | 0 => ⟨S16384x1024, .f32⟩
  | 1 => ⟨S1024, .f32⟩
  | 2 => ⟨S1024, .f32⟩
  | 3 => ⟨S1024x8, .f32⟩
  | 4 => ⟨S8x1024x3584, .f32⟩
  | 5 => ⟨S8x1024x3584, .f32⟩
  | 6 => ⟨S8x3584x1024, .f32⟩
  | 7 => ⟨S16384x1024, .f32⟩
  | 8 => ⟨S_, .f32⟩
  | 9 => ⟨S16384, .f32⟩
  | 10 => ⟨S16384x1, .f32⟩
  | 11 => ⟨S_, .f32⟩
  | 12 => ⟨S16384x1, .f32⟩
  | 13 => ⟨S16384x1, .f32⟩
  | 14 => ⟨S_, .f32⟩
  | 15 => ⟨S16384x1, .f32⟩
  | 16 => ⟨S16384x1, .f32⟩
  | 17 => ⟨S16384x1, .f32⟩
  | 18 => ⟨S16384x1024, .f32⟩
  | 19 => ⟨S16384x1024, .f32⟩
  | 20 => ⟨S1x1024, .f32⟩
  | 21 => ⟨S16384x1024, .f32⟩
  | 22 => ⟨S16384x1024, .f32⟩
  | 23 => ⟨S16384x8, .f32⟩
  | 24 => ⟨S16384x2, .f32⟩
  | 25 => ⟨S16384x2, .i32⟩
  | 26 => ⟨S_, .f32⟩
  | 27 => ⟨S16384, .f32⟩
  | 28 => ⟨S_, .f32⟩
  | 29 => ⟨S16384, .f32⟩
  | 30 => ⟨S16384, .f32⟩
  | 31 => ⟨S16384x1, .f32⟩
  | 32 => ⟨S16384x2, .f32⟩
  | 33 => ⟨S16384x2, .f32⟩
  | 34 => ⟨S16384x2, .f32⟩
  | 35 => ⟨S_, .f32⟩
  | 36 => ⟨S16384, .f32⟩
  | 37 => ⟨S16384x1, .f32⟩
  | 38 => ⟨S16384x2, .f32⟩
  | 39 => ⟨S16384x2, .f32⟩
  | 40 => ⟨S16384x2x1, .i32⟩
  | 41 => ⟨S1x1x8, .i32⟩
  | 42 => ⟨S16384x2x8, .i32⟩
  | 43 => ⟨S16384x2x8, .i32⟩
  | 44 => ⟨S16384x2x8, .i1⟩
  | 45 => ⟨S16384x2x8, .f32⟩
  | 46 => ⟨S16384x2x1, .f32⟩
  | 47 => ⟨S16384x2x8, .f32⟩
  | 48 => ⟨S16384x2x8, .f32⟩
  | 49 => ⟨S_, .f32⟩
  | 50 => ⟨S16384x8, .f32⟩
  | 51 => ⟨S_, .f32⟩
  | 52 => ⟨S16384x1024, .f32⟩
  | 53 => ⟨S16384x1, .f32⟩
  | 54 => ⟨S1x1024x3584, .f32⟩
  | 55 => ⟨S1024x3584, .f32⟩
  | 56 => ⟨S1x1024x3584, .f32⟩
  | 57 => ⟨S1024x3584, .f32⟩
  | 58 => ⟨S1x3584x1024, .f32⟩
  | 59 => ⟨S3584x1024, .f32⟩
  | 60 => ⟨S16384x3584, .f32⟩
  | 61 => ⟨S16384x3584, .f32⟩
  | 62 => ⟨S16384x3584, .f32⟩
  | 63 => ⟨S_, .f32⟩
  | 64 => ⟨S16384x3584, .f32⟩
  | 65 => ⟨S16384x3584, .f32⟩
  | 66 => ⟨S_, .f32⟩
  | 67 => ⟨S16384x3584, .f32⟩
  | 68 => ⟨S16384x3584, .f32⟩
  | 69 => ⟨S16384x3584, .f32⟩
  | 70 => ⟨S16384x3584, .f32⟩
  | 71 => ⟨S16384x3584, .f32⟩
  | 72 => ⟨S16384x1024, .f32⟩
  | 73 => ⟨S16384x1024, .f32⟩
  | 74 => ⟨S16384x1024, .f32⟩
  | 75 => ⟨S16384x1024, .f32⟩
  | 76 => ⟨S16384x1, .f32⟩
  | 77 => ⟨S1x1024x3584, .f32⟩
  | 78 => ⟨S1024x3584, .f32⟩
  | 79 => ⟨S1x1024x3584, .f32⟩
  | 80 => ⟨S1024x3584, .f32⟩
  | 81 => ⟨S1x3584x1024, .f32⟩
  | 82 => ⟨S3584x1024, .f32⟩
  | 83 => ⟨S16384x3584, .f32⟩
  | 84 => ⟨S16384x3584, .f32⟩
  | 85 => ⟨S16384x3584, .f32⟩
  | 86 => ⟨S_, .f32⟩
  | 87 => ⟨S16384x3584, .f32⟩
  | 88 => ⟨S16384x3584, .f32⟩
  | 89 => ⟨S_, .f32⟩
  | 90 => ⟨S16384x3584, .f32⟩
  | 91 => ⟨S16384x3584, .f32⟩
  | 92 => ⟨S16384x3584, .f32⟩
  | 93 => ⟨S16384x3584, .f32⟩
  | 94 => ⟨S16384x3584, .f32⟩
  | 95 => ⟨S16384x1024, .f32⟩
  | 96 => ⟨S16384x1024, .f32⟩
  | 97 => ⟨S16384x1024, .f32⟩
  | 98 => ⟨S16384x1024, .f32⟩
  | 99 => ⟨S16384x1, .f32⟩
  | 100 => ⟨S1x1024x3584, .f32⟩
  | 101 => ⟨S1024x3584, .f32⟩
  | 102 => ⟨S1x1024x3584, .f32⟩
  | 103 => ⟨S1024x3584, .f32⟩
  | 104 => ⟨S1x3584x1024, .f32⟩
  | 105 => ⟨S3584x1024, .f32⟩
  | 106 => ⟨S16384x3584, .f32⟩
  | 107 => ⟨S16384x3584, .f32⟩
  | 108 => ⟨S16384x3584, .f32⟩
  | 109 => ⟨S_, .f32⟩
  | 110 => ⟨S16384x3584, .f32⟩
  | 111 => ⟨S16384x3584, .f32⟩
  | 112 => ⟨S_, .f32⟩
  | 113 => ⟨S16384x3584, .f32⟩
  | 114 => ⟨S16384x3584, .f32⟩
  | 115 => ⟨S16384x3584, .f32⟩
  | 116 => ⟨S16384x3584, .f32⟩
  | 117 => ⟨S16384x3584, .f32⟩
  | 118 => ⟨S16384x1024, .f32⟩
  | 119 => ⟨S16384x1024, .f32⟩
  | 120 => ⟨S16384x1024, .f32⟩
  | 121 => ⟨S16384x1024, .f32⟩
  | 122 => ⟨S16384x1, .f32⟩
  | 123 => ⟨S1x1024x3584, .f32⟩
  | 124 => ⟨S1024x3584, .f32⟩
  | 125 => ⟨S1x1024x3584, .f32⟩
  | 126 => ⟨S1024x3584, .f32⟩
  | 127 => ⟨S1x3584x1024, .f32⟩
  | _ => ⟨S16384x1024, .f32⟩

abbrev hbmTy0_1 (i : Nat) : BufTy := match i % 128 with
  | 0 => ⟨S3584x1024, .f32⟩
  | 1 => ⟨S16384x3584, .f32⟩
  | 2 => ⟨S16384x3584, .f32⟩
  | 3 => ⟨S16384x3584, .f32⟩
  | 4 => ⟨S_, .f32⟩
  | 5 => ⟨S16384x3584, .f32⟩
  | 6 => ⟨S16384x3584, .f32⟩
  | 7 => ⟨S_, .f32⟩
  | 8 => ⟨S16384x3584, .f32⟩
  | 9 => ⟨S16384x3584, .f32⟩
  | 10 => ⟨S16384x3584, .f32⟩
  | 11 => ⟨S16384x3584, .f32⟩
  | 12 => ⟨S16384x3584, .f32⟩
  | 13 => ⟨S16384x1024, .f32⟩
  | 14 => ⟨S16384x1024, .f32⟩
  | 15 => ⟨S16384x1024, .f32⟩
  | 16 => ⟨S16384x1024, .f32⟩
  | 17 => ⟨S16384x1, .f32⟩
  | 18 => ⟨S1x1024x3584, .f32⟩
  | 19 => ⟨S1024x3584, .f32⟩
  | 20 => ⟨S1x1024x3584, .f32⟩
  | 21 => ⟨S1024x3584, .f32⟩
  | 22 => ⟨S1x3584x1024, .f32⟩
  | 23 => ⟨S3584x1024, .f32⟩
  | 24 => ⟨S16384x3584, .f32⟩
  | 25 => ⟨S16384x3584, .f32⟩
  | 26 => ⟨S16384x3584, .f32⟩
  | 27 => ⟨S_, .f32⟩
  | 28 => ⟨S16384x3584, .f32⟩
  | 29 => ⟨S16384x3584, .f32⟩
  | 30 => ⟨S_, .f32⟩
  | 31 => ⟨S16384x3584, .f32⟩
  | 32 => ⟨S16384x3584, .f32⟩
  | 33 => ⟨S16384x3584, .f32⟩
  | 34 => ⟨S16384x3584, .f32⟩
  | 35 => ⟨S16384x3584, .f32⟩
  | 36 => ⟨S16384x1024, .f32⟩
  | 37 => ⟨S16384x1024, .f32⟩
  | 38 => ⟨S16384x1024, .f32⟩
  | 39 => ⟨S16384x1024, .f32⟩
  | 40 => ⟨S16384x1, .f32⟩
  | 41 => ⟨S1x1024x3584, .f32⟩
  | 42 => ⟨S1024x3584, .f32⟩
  | 43 => ⟨S1x1024x3584, .f32⟩
  | 44 => ⟨S1024x3584, .f32⟩
  | 45 => ⟨S1x3584x1024, .f32⟩
  | 46 => ⟨S3584x1024, .f32⟩
  | 47 => ⟨S16384x3584, .f32⟩
  | 48 => ⟨S16384x3584, .f32⟩
  | 49 => ⟨S16384x3584, .f32⟩
  | 50 => ⟨S_, .f32⟩
  | 51 => ⟨S16384x3584, .f32⟩
  | 52 => ⟨S16384x3584, .f32⟩
  | 53 => ⟨S_, .f32⟩
  | 54 => ⟨S16384x3584, .f32⟩
  | 55 => ⟨S16384x3584, .f32⟩
  | 56 => ⟨S16384x3584, .f32⟩
  | 57 => ⟨S16384x3584, .f32⟩
  | 58 => ⟨S16384x3584, .f32⟩
  | 59 => ⟨S16384x1024, .f32⟩
  | 60 => ⟨S16384x1024, .f32⟩
  | 61 => ⟨S16384x1024, .f32⟩
  | 62 => ⟨S16384x1024, .f32⟩
  | 63 => ⟨S16384x1, .f32⟩
  | 64 => ⟨S1x1024x3584, .f32⟩
  | 65 => ⟨S1024x3584, .f32⟩
  | 66 => ⟨S1x1024x3584, .f32⟩
  | 67 => ⟨S1024x3584, .f32⟩
  | 68 => ⟨S1x3584x1024, .f32⟩
  | 69 => ⟨S3584x1024, .f32⟩
  | 70 => ⟨S16384x3584, .f32⟩
  | 71 => ⟨S16384x3584, .f32⟩
  | 72 => ⟨S16384x3584, .f32⟩
  | 73 => ⟨S_, .f32⟩
  | 74 => ⟨S16384x3584, .f32⟩
  | 75 => ⟨S16384x3584, .f32⟩
  | 76 => ⟨S_, .f32⟩
  | 77 => ⟨S16384x3584, .f32⟩
  | 78 => ⟨S16384x3584, .f32⟩
  | 79 => ⟨S16384x3584, .f32⟩
  | 80 => ⟨S16384x3584, .f32⟩
  | 81 => ⟨S16384x3584, .f32⟩
  | 82 => ⟨S16384x1024, .f32⟩
  | 83 => ⟨S16384x1024, .f32⟩
  | 84 => ⟨S16384x1024, .f32⟩
  | 85 => ⟨S16384x1024, .f32⟩
  | 86 => ⟨S16384x1, .f32⟩
  | 87 => ⟨S1x1024x3584, .f32⟩
  | 88 => ⟨S1024x3584, .f32⟩
  | 89 => ⟨S1x1024x3584, .f32⟩
  | 90 => ⟨S1024x3584, .f32⟩
  | 91 => ⟨S1x3584x1024, .f32⟩
  | 92 => ⟨S3584x1024, .f32⟩
  | 93 => ⟨S16384x3584, .f32⟩
  | 94 => ⟨S16384x3584, .f32⟩
  | 95 => ⟨S16384x3584, .f32⟩
  | 96 => ⟨S_, .f32⟩
  | 97 => ⟨S16384x3584, .f32⟩
  | 98 => ⟨S16384x3584, .f32⟩
  | 99 => ⟨S_, .f32⟩
  | 100 => ⟨S16384x3584, .f32⟩
  | 101 => ⟨S16384x3584, .f32⟩
  | 102 => ⟨S16384x3584, .f32⟩
  | 103 => ⟨S16384x3584, .f32⟩
  | 104 => ⟨S16384x3584, .f32⟩
  | 105 => ⟨S16384x1024, .f32⟩
  | 106 => ⟨S16384x1024, .f32⟩
  | 107 => ⟨S16384x1024, .f32⟩
  | 108 => ⟨S16384x1024, .f32⟩
  | 109 => ⟨S16384x1024, .f32⟩
  | 110 => ⟨S16384x1024, .f32⟩
  | 111 => ⟨S_, .f32⟩
  | 112 => ⟨S16384, .f32⟩
  | 113 => ⟨S16384x1, .f32⟩
  | 114 => ⟨S_, .f32⟩
  | 115 => ⟨S16384x1, .f32⟩
  | 116 => ⟨S16384x1, .f32⟩
  | 117 => ⟨S_, .f32⟩
  | 118 => ⟨S16384x1, .f32⟩
  | 119 => ⟨S16384x1, .f32⟩
  | 120 => ⟨S16384x1, .f32⟩
  | 121 => ⟨S16384x1024, .f32⟩
  | 122 => ⟨S16384x1024, .f32⟩
  | 123 => ⟨S1x1024, .f32⟩
  | 124 => ⟨S16384x1024, .f32⟩
  | 125 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_values : Ref sig .tc := ⟨.hbm, 24, rfl⟩
abbrev main_indices : Ref sig .tc := ⟨.hbm, 25, rfl⟩
abbrev main_cst_2 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call2_v0 : Ref sig .tc := ⟨.hbm, 84, rfl⟩
abbrev main_call2_v1 : Ref sig .tc := ⟨.hbm, 85, rfl⟩
abbrev main_call2_cst : Ref sig .tc := ⟨.hbm, 86, rfl⟩
abbrev main_call2_v2 : Ref sig .tc := ⟨.hbm, 87, rfl⟩
abbrev main_call2_v3 : Ref sig .tc := ⟨.hbm, 88, rfl⟩
abbrev main_call2_cst_0 : Ref sig .tc := ⟨.hbm, 89, rfl⟩
abbrev main_call2_v4 : Ref sig .tc := ⟨.hbm, 90, rfl⟩
abbrev main_call2_v5 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_call3_v0 : Ref sig .tc := ⟨.hbm, 107, rfl⟩
abbrev main_call3_v1 : Ref sig .tc := ⟨.hbm, 108, rfl⟩
abbrev main_call3_cst : Ref sig .tc := ⟨.hbm, 109, rfl⟩
abbrev main_call3_v2 : Ref sig .tc := ⟨.hbm, 110, rfl⟩
abbrev main_call3_v3 : Ref sig .tc := ⟨.hbm, 111, rfl⟩
abbrev main_call3_cst_0 : Ref sig .tc := ⟨.hbm, 112, rfl⟩
abbrev main_call3_v4 : Ref sig .tc := ⟨.hbm, 113, rfl⟩
abbrev main_call3_v5 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_call4_v0 : Ref sig .tc := ⟨.hbm, 130, rfl⟩
abbrev main_call4_v1 : Ref sig .tc := ⟨.hbm, 131, rfl⟩
abbrev main_call4_cst : Ref sig .tc := ⟨.hbm, 132, rfl⟩
abbrev main_call4_v2 : Ref sig .tc := ⟨.hbm, 133, rfl⟩
abbrev main_call4_v3 : Ref sig .tc := ⟨.hbm, 134, rfl⟩
abbrev main_call4_cst_0 : Ref sig .tc := ⟨.hbm, 135, rfl⟩
abbrev main_call4_v4 : Ref sig .tc := ⟨.hbm, 136, rfl⟩
abbrev main_call4_v5 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_call5_v0 : Ref sig .tc := ⟨.hbm, 153, rfl⟩
abbrev main_call5_v1 : Ref sig .tc := ⟨.hbm, 154, rfl⟩
abbrev main_call5_cst : Ref sig .tc := ⟨.hbm, 155, rfl⟩
abbrev main_call5_v2 : Ref sig .tc := ⟨.hbm, 156, rfl⟩
abbrev main_call5_v3 : Ref sig .tc := ⟨.hbm, 157, rfl⟩
abbrev main_call5_cst_0 : Ref sig .tc := ⟨.hbm, 158, rfl⟩
abbrev main_call5_v4 : Ref sig .tc := ⟨.hbm, 159, rfl⟩
abbrev main_call5_v5 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_call6_v0 : Ref sig .tc := ⟨.hbm, 176, rfl⟩
abbrev main_call6_v1 : Ref sig .tc := ⟨.hbm, 177, rfl⟩
abbrev main_call6_cst : Ref sig .tc := ⟨.hbm, 178, rfl⟩
abbrev main_call6_v2 : Ref sig .tc := ⟨.hbm, 179, rfl⟩
abbrev main_call6_v3 : Ref sig .tc := ⟨.hbm, 180, rfl⟩
abbrev main_call6_cst_0 : Ref sig .tc := ⟨.hbm, 181, rfl⟩
abbrev main_call6_v4 : Ref sig .tc := ⟨.hbm, 182, rfl⟩
abbrev main_call6_v5 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_call7_v0 : Ref sig .tc := ⟨.hbm, 199, rfl⟩
abbrev main_call7_v1 : Ref sig .tc := ⟨.hbm, 200, rfl⟩
abbrev main_call7_cst : Ref sig .tc := ⟨.hbm, 201, rfl⟩
abbrev main_call7_v2 : Ref sig .tc := ⟨.hbm, 202, rfl⟩
abbrev main_call7_v3 : Ref sig .tc := ⟨.hbm, 203, rfl⟩
abbrev main_call7_cst_0 : Ref sig .tc := ⟨.hbm, 204, rfl⟩
abbrev main_call7_v4 : Ref sig .tc := ⟨.hbm, 205, rfl⟩
abbrev main_call7_v5 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_call8_v0 : Ref sig .tc := ⟨.hbm, 222, rfl⟩
abbrev main_call8_v1 : Ref sig .tc := ⟨.hbm, 223, rfl⟩
abbrev main_call8_cst : Ref sig .tc := ⟨.hbm, 224, rfl⟩
abbrev main_call8_v2 : Ref sig .tc := ⟨.hbm, 225, rfl⟩
abbrev main_call8_v3 : Ref sig .tc := ⟨.hbm, 226, rfl⟩
abbrev main_call8_cst_0 : Ref sig .tc := ⟨.hbm, 227, rfl⟩
abbrev main_call8_v4 : Ref sig .tc := ⟨.hbm, 228, rfl⟩
abbrev main_call8_v5 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_cst_7 : Ref sig .tc := ⟨.hbm, 239, rfl⟩
abbrev main_v153 : Ref sig .tc := ⟨.hbm, 240, rfl⟩
abbrev main_v154 : Ref sig .tc := ⟨.hbm, 241, rfl⟩
abbrev main_cst_8 : Ref sig .tc := ⟨.hbm, 242, rfl⟩
abbrev main_v155 : Ref sig .tc := ⟨.hbm, 243, rfl⟩
abbrev main_v156 : Ref sig .tc := ⟨.hbm, 244, rfl⟩
abbrev main_cst_9 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x1024 : Shape := ⟨2, ![2, 1024]⟩
abbrev S2x1024x10256 : Shape := ⟨3, ![2, 1024, 10256]⟩
abbrev S2x10256 : Shape := ⟨2, ![2, 10256]⟩
abbrev S16384x1024 : Shape := ⟨2, ![16384, 1024]⟩
abbrev S2x1x1024 : Shape := ⟨3, ![2, 1, 1024]⟩
abbrev S2x1024x7168 : Shape := ⟨3, ![2, 1024, 7168]⟩
abbrev S2x1024x3072 : Shape := ⟨3, ![2, 1024, 3072]⟩
abbrev S2x1024x16 : Shape := ⟨3, ![2, 1024, 16]⟩
abbrev S_ : Shape := ⟨0, ![]⟩
abbrev S2x1024x112 : Shape := ⟨3, ![2, 1024, 112]⟩
abbrev S2x1024x10368 : Shape := ⟨3, ![2, 1024, 10368]⟩
abbrev S2x7168 : Shape := ⟨2, ![2, 7168]⟩
abbrev S2x3072 : Shape := ⟨2, ![2, 3072]⟩
abbrev S2x16 : Shape := ⟨2, ![2, 16]⟩
abbrev S2x112 : Shape := ⟨2, ![2, 112]⟩
abbrev S2x10368 : Shape := ⟨2, ![2, 10368]⟩
abbrev S2x1x10368 : Shape := ⟨3, ![2, 1, 10368]⟩
abbrev S16384x10368 : Shape := ⟨2, ![16384, 10368]⟩
abbrev S2048x1024 : Shape := ⟨2, ![2048, 1024]⟩
abbrev S1x1x1024 : Shape := ⟨3, ![1, 1, 1024]⟩
abbrev S1x1024x1152 : Shape := ⟨3, ![1, 1024, 1152]⟩
abbrev S1x1x1152 : Shape := ⟨3, ![1, 1, 1152]⟩
abbrev S2048x1152 : Shape := ⟨2, ![2048, 1152]⟩
abbrev S2048 : Shape := ⟨1, ![2048]⟩
abbrev S2048x1 : Shape := ⟨2, ![2048, 1]⟩
abbrev S1x1024 : Shape := ⟨2, ![1, 1024]⟩
abbrev S1024x1152 : Shape := ⟨2, ![1024, 1152]⟩
abbrev S1x1152 : Shape := ⟨2, ![1, 1152]⟩
abbrev S2x8192x10368 : Shape := ⟨3, ![2, 8192, 10368]⟩
abbrev S2x8192x512 : Shape := ⟨3, ![2, 8192, 512]⟩
abbrev S2x8192x8x64 : Shape := ⟨4, ![2, 8192, 8, 64]⟩
abbrev S2x3x3072 : Shape := ⟨3, ![2, 3, 3072]⟩
abbrev S2x8192x7168 : Shape := ⟨3, ![2, 8192, 7168]⟩
abbrev S2x8192x3072 : Shape := ⟨3, ![2, 8192, 3072]⟩
abbrev S2x8192x16 : Shape := ⟨3, ![2, 8192, 16]⟩

abbrev nBuf : Space → Nat
  | .hbm => 30
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024x10256, .f32⟩
  | .hbm, ⟨3, _⟩ => ⟨S2x10256, .f32⟩
  | .hbm, ⟨4, _⟩ => ⟨S16384x1024, .f32⟩
  | .hbm, ⟨5, _⟩ => ⟨S2x1x1024, .f32⟩
  | .hbm, ⟨6, _⟩ => ⟨S2x1024x10256, .bf16⟩
  | .hbm, ⟨7, _⟩ => ⟨S2x1024x7168, .bf16⟩
  | .hbm, ⟨8, _⟩ => ⟨S2x1024x3072, .bf16⟩
  | .hbm, ⟨9, _⟩ => ⟨S2x1024x16, .bf16⟩
  | .hbm, ⟨10, _⟩ => ⟨S_, .bf16⟩
  | .hbm, ⟨11, _⟩ => ⟨S2x1024x112, .bf16⟩
  | .hbm, ⟨12, _⟩ => ⟨S2x1024x10368, .bf16⟩
  | .hbm, ⟨13, _⟩ => ⟨S2x7168, .f32⟩
  | .hbm, ⟨14, _⟩ => ⟨S2x3072, .f32⟩
  | .hbm, ⟨15, _⟩ => ⟨S2x16, .f32⟩
  | .hbm, ⟨16, _⟩ => ⟨S_, .f32⟩
  | .hbm, ⟨17, _⟩ => ⟨S2x112, .f32⟩
  | .hbm, ⟨18, _⟩ => ⟨S2x10368, .f32⟩
  | .hbm, ⟨19, _⟩ => ⟨S2x1x10368, .f32⟩
  | .hbm, ⟨20, _⟩ => ⟨S16384x10368, .f32⟩
  | .hbm, ⟨21, _⟩ => ⟨S2x8192x10368, .f32⟩
  | .hbm, ⟨22, _⟩ => ⟨S2x8192x512, .f32⟩
  | .hbm, ⟨23, _⟩ => ⟨S2x8192x8x64, .f32⟩
  | .hbm, ⟨24, _⟩ => ⟨S2x8192x512, .f32⟩
  | .hbm, ⟨25, _⟩ => ⟨S2x8192x8x64, .f32⟩
  | .hbm, ⟨26, _⟩ => ⟨S2x3x3072, .f32⟩
  | .hbm, ⟨27, _⟩ => ⟨S2x8192x7168, .f32⟩
  | .hbm, ⟨28, _⟩ => ⟨S2x8192x3072, .f32⟩
  | .hbm, ⟨29, _⟩ => ⟨S2x8192x16, .f32⟩
  | .local _ .vmem, ⟨0, _⟩ => ⟨S2048x1024, .f32⟩
  | .local _ .vmem, ⟨1, _⟩ => ⟨S2048x1024, .f32⟩
  | .local _ .vmem, ⟨2, _⟩ => ⟨S1x1x1024, .f32⟩
  | .local _ .vmem, ⟨3, _⟩ => ⟨S1x1024x1152, .bf16⟩
  | .local _ .vmem, ⟨4, _⟩ => ⟨S1x1024x1152, .bf16⟩
  | .local _ .vmem, ⟨5, _⟩ => ⟨S1x1x1152, .f32⟩
  | .local _ .vmem, ⟨6, _⟩ => ⟨S1x1x1152, .f32⟩
  | .local _ .vmem, ⟨7, _⟩ => ⟨S2048x1152, .f32⟩
  | .local _ .vmem, ⟨8, _⟩ => ⟨S2048x1152, .f32⟩
  | .local _ .vmem, ⟨9, _⟩ => ⟨S2048x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S2x8192x1024 : Shape := ⟨3, ![2, 8192, 1024]⟩
abbrev S2x1024 : Shape := ⟨2, ![2, 1024]⟩
abbrev S2x1024x10256 : Shape := ⟨3, ![2, 1024, 10256]⟩
abbrev S2x10256 : Shape := ⟨2, ![2, 10256]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x10256 : Shape := ⟨3, ![1, 1024, 10256]⟩
abbrev S1024x10256 : Shape := ⟨2, ![1024, 10256]⟩
abbrev S2x8192x10256 : Shape := ⟨3, ![2, 8192, 10256]⟩
abbrev S1x10256 : Shape := ⟨2, ![1, 10256]⟩
abbrev S10256 : Shape := ⟨1, ![10256]⟩
abbrev S1x1x10256 : Shape := ⟨3, ![1, 1, 10256]⟩
abbrev S2x8192x7168 : Shape := ⟨3, ![2, 8192, 7168]⟩
abbrev S2x8192x16 : Shape := ⟨3, ![2, 8192, 16]⟩
abbrev S2x8192x3072 : Shape := ⟨3, ![2, 8192, 3072]⟩
abbrev S2x8192x512 : Shape := ⟨3, ![2, 8192, 512]⟩
abbrev S2x8192x8x64 : Shape := ⟨4, ![2, 8192, 8, 64]⟩
abbrev S2x3x3072 : Shape := ⟨3, ![2, 3, 3072]⟩

abbrev nBuf : Space → Nat
  | .hbm => 39
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024x10256, .f32⟩
  | .hbm, ⟨3, _⟩ => ⟨S2x10256, .f32⟩
  | .hbm, ⟨4, _⟩ => ⟨S1x1024, .f32⟩
  | .hbm, ⟨5, _⟩ => ⟨S1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S1x1024x10256, .f32⟩
  | .hbm, ⟨23, _⟩ => ⟨S1024x10256, .f32⟩
  | .hbm, ⟨24, _⟩ => ⟨S2x8192x10256, .f32⟩
  | .hbm, ⟨25, _⟩ => ⟨S1x10256, .f32⟩
  | .hbm, ⟨26, _⟩ => ⟨S10256, .f32⟩
  | .hbm, ⟨27, _⟩ => ⟨S1x1x10256, .f32⟩
  | .hbm, ⟨28, _⟩ => ⟨S2x8192x10256, .f32⟩
  | .hbm, ⟨29, _⟩ => ⟨S2x8192x10256, .f32⟩
  | .hbm, ⟨30, _⟩ => ⟨S2x8192x7168, .f32⟩
  | .hbm, ⟨31, _⟩ => ⟨S2x8192x16, .f32⟩
  | .hbm, ⟨32, _⟩ => ⟨S2x8192x3072, .f32⟩
  | .hbm, ⟨33, _⟩ => ⟨S2x8192x512, .f32⟩
  | .hbm, ⟨34, _⟩ => ⟨S2x8192x8x64, .f32⟩
  | .hbm, ⟨35, _⟩ => ⟨S2x8192x512, .f32⟩
  | .hbm, ⟨36, _⟩ => ⟨S2x8192x8x64, .f32⟩
  | .hbm, ⟨37, _⟩ => ⟨S2x8192x3072, .f32⟩
  | .hbm, ⟨38, _⟩ => ⟨S2x3x3072, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x1024 : Shape := ⟨2, ![1024, 1024]⟩
abbrev S1024x1408 : Shape := ⟨2, ![1024, 1408]⟩
abbrev S1408x1024 : Shape := ⟨2, ![1408, 1024]⟩
abbrev S1024x1 : Shape := ⟨2, ![1024, 1]⟩

abbrev nBuf : Space → Nat
  | .hbm => 12
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1408x1024, .bf16⟩
  | .local _ .vmem, ⟨9, _⟩ => ⟨S1408x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v28 : BitVec 1 := Scalar.cmpi .eq arg1 c1_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩

abbrev nD : Nat := 1
abbrev τ : Topo := Topo.v7x

variable {F : FTy → Type} [FloatOps F]
-- ==== Proof.Rules.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Tactic

/-! # Loads and stores of a memref owned at known contents, and one sub-block of the expert kernel

A load through a rectangle gives the contents at the rectangle's indices; an unmasked store
replaces the contents there (`Rect.overlay`). The expert kernel works through its packed rows in
seven sub-blocks of the same text; `Sub` is what one of them does to the scratch buffers, and
`blk_triple` is the triple of its program text. -/

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The model the assertions of the launches live in. -/
abbrev MM (F : FTy → Type) [FloatOps F] : Type := MT nD τ sig Unit (Elt F) ℕ (UR sig nD τ) ℕ

/-- A program of the TensorCore, as the kernel bodies are. -/
abbrev Code (F : FTy → Type) [FloatOps F] (α : Type) : Type 1 := Prog (TpuEff nD τ sig (Elt F) Λ₀ .tc) α

/-- The weakest precondition the bodies' triples are stated with. -/
abbrev WP (c : Dev nD) {α : Type} (p : Code F α) (K : α → sProp (MM F)) : sProp (MM F) :=
  wp frame (wpE (defs₀ (F := F)) Variants.none (c : Thread nD τ) none) Set.univ p K

/-- A load through a rectangle of a memref owned at `x` gives `x` at the rectangle's indices. -/
theorem owned_load (c : Dev nD) {cs : CoreSpace} {s : Shape} {e : EltTy} {m : Memref sig .tc cs s e}
    {r : Rect s} {hl : m.view.LoadsAt r.toLoadRect} {q : PosShare TreeShare} {x : s.Idx → Elt F e} {α : Type}
    {k : (r.shape.Idx → Elt F e) → Code F α} {K : α → sProp (MM F)} :
    iprop(owns (c : Thread nD τ) m q x ∗ (owns (c : Thread nD τ) m q x -∗ WP c (k (View.ld x r)) K))
      ⊢ WP c (.op (.load m r.toLoadRect hl) k) K := by
  unfold owns
  iintro ⟨⟨%f, %hf, H⟩, Hk⟩
  subst hf
  iapply (wp_load_rect (defs := defs₀ (F := F)) Variants.none (c : Thread nD τ) none Set.univ (m := m) (r := r) (hl := hl) (k := k)
    (S := m.view.set) (q := q) (f := f) (m.view.set_slice_subset r)) $$ H
  iintro H
  iapply Hk
  iexists f
  isplitr; · ipureintro; rfl
  iexact H

/-- An unmasked store through a rectangle of a memref owned at `x` replaces `x` there. -/
theorem owned_store (c : Dev nD) {cs : CoreSpace} {s : Shape} {e : EltTy} {m : Memref sig .tc cs s e}
    {r : Rect s} {w : r.shape.Idx → Elt F e} {hx : (m.access r).Stores Finset.univ}
    {hm : Finset.univ = Finset.univ ∨ ∀ a, r.stride a = 1} {x : s.Idx → Elt F e} {α : Type}
    {k : PUnit.{1} → Code F α} {K : α → sProp (MM F)} :
    iprop(owns (c : Thread nD τ) m fullShare x ∗ (owns (c : Thread nD τ) m fullShare (r.overlay x w) -∗ WP c (k ⟨⟩) K))
      ⊢ WP c (.op (.store m r w Finset.univ hx hm) k) K := by
  unfold owns
  iintro ⟨⟨%f, %hf, H⟩, Hk⟩
  subst hf
  iapply (wp_store (defs := defs₀ (F := F)) Variants.none (c : Thread nD τ) none Set.univ (m := m) (r := r) (w := w) (hx := hx) (hm := hm) (k := k)
    (Mk := Finset.univ) (S := m.view.set) (f := f) (by rw [View.setOn_univ]; exact m.view.set_slice_subset r)) $$ H
  iintro H
  iapply Hk
  iexists ((m.access r).write (Elt F) f w Finset.univ)
  isplitr
  · ipureintro
    funext y
    by_cases hy : y ∈ r.set
    · obtain ⟨i, rfl⟩ := r.exists_idx_of_mem hy
      exact (View.read_slice_write_emb r f w (Finset.mem_univ i)).trans (r.overlay_emb _ w i).symm
    · exact (View.read_slice_write_of_not_mem r f w Finset.univ (by rwa [Rect.map_emb_univ])).trans
        (r.overlay_of_not_mem _ w hy).symm
  · iexact H

/-- A load of one word of scalar memory owned at `x` gives `x` there. -/
theorem owned_smem (c : Dev nD) {s : Shape} {e : EltTy} {m : Memref sig .tc .smem s e}
    {r : Rect s} {hw : (m.access r).Loads} {j : r.shape.Idx} {q : PosShare TreeShare} {x : s.Idx → Elt F e} {α : Type}
    {k : Elt F e → Code F α} {K : α → sProp (MM F)} :
    iprop(owns (c : Thread nD τ) m q x ∗ (owns (c : Thread nD τ) m q x -∗ WP c (k (View.ld x r j)) K))
      ⊢ WP c (smemLoadElt m r hw j k) K := by
  unfold owns
  iintro ⟨⟨%f, %hf, H⟩, Hk⟩
  subst hf
  iapply (wp_smemLoadElt (defs := defs₀ (F := F)) Variants.none (c : Thread nD τ) none Set.univ (m := m) (r := r) (hw := hw) (x := j) (k := k)
    (S := m.view.set) (q := q) (f := f) (m.view.set_slice_subset r)) $$ H
  iintro H
  iapply Hk
  iexists f
  isplitr; · ipureintro; rfl
  iexact H

/-- A program that returns meets what holds of its result. -/
theorem owned_ret (c : Dev nD) {α : Type} {a : α} {K : α → sProp (MM F)} : K a ⊢ WP c (.ret a : Code F α) K := fupd_intro

/-- A program followed by another, by its own weakest precondition. -/
theorem owned_bind (c : Dev nD) {α β : Type} {p : Code F α} {k : α → Code F β} {K : β → sProp (MM F)} :
    WP c p (fun a => WP c (k a) K) ⊢ WP c (p >>= k) K := by
  unfold WP; rw [wp_bind]

/-! ## One sub-block -/

/-- The scratch buffers a sub-block changes: the gathered rows, their accumulator, the sum over the experts. -/
structure Acc (F : FTy → Type) [FloatOps F] where
  hc : Vec F S1024x1024 .bf16
  y : Vec F S1024x1024 .f32
  tot : Vec F S1024x1024 .f32

/-- The whole rectangle of a 1024×1024 buffer. -/
abbrev rAll : Rect S1024x1024 := Rect.unit (s := S1024x1024) ![0, 0] S1024x1024.size inb_S1024x1024_S1024x1024_0_0
/-- The whole rectangle of an expert's first two weight blocks. -/
abbrev rW : Rect S1x1024x896 := Rect.unit (s := S1x1024x896) ![0, 0, 0] S1x1024x896.size inb_S1x1024x896_S1x1024x896_0_0_0
/-- The whole rectangle of an expert's last weight block. -/
abbrev rD : Rect S1x896x1024 := Rect.unit (s := S1x896x1024) ![0, 0, 0] S1x896x1024.size inb_S1x896x1024_S1x896x1024_0_0_0
/-- The plane of an expert's gates. -/
abbrev rE0 : Rect S3x1024x128 := Rect.unit (s := S3x1024x128) ![0, 0, 0] S1x1024x128.size inb_S3x1024x128_S1x1024x128_0_0_0
/-- The plane of an expert's ranks. -/
abbrev rE1 : Rect S3x1024x128 := Rect.unit (s := S3x1024x128) ![1, 0, 0] S1x1024x128.size inb_S3x1024x128_S1x1024x128_1_0_0
/-- The plane of an expert's choices. -/
abbrev rE2 : Rect S3x1024x128 := Rect.unit (s := S3x1024x128) ![2, 0, 0] S1x1024x128.size inb_S3x1024x128_S1x1024x128_2_0_0

/-- The values of a sub-block's four stores. -/
structure Pays (F : FTy → Type) [FloatOps F] (R : Shape) where
  g : Vec F S1x1x1024 .f32 → Vec F S1x1x1024 .f32 → Vec F S1024x1024 .bf16 → FVec F R .bf16
  z : FVec F R .f32
  d : Vec F R .bf16 → Vec F S1x1024x896 .bf16 → Vec F S1x1024x896 .bf16 → Vec F R .f32 → Vec F S1x896x1024 .bf16 → FVec F R .f32
  p : Vec F S1x1024x128 .f32 → Vec F S1x1024x128 .f32 → Vec F S1024x1024 .f32 → Vec F S1x1024x128 .f32 → Vec F R .f32 → FVec F S1024x1024 .f32

/-- What the windows hold while a grid point runs. -/
structure Wins (F : FTy → Type) [FloatOps F] where
  hn : Vec F S1024x1024 .bf16
  row : Vec F S1x32x1024 .f32
  wg : Vec F S1x1024x896 .bf16
  wu : Vec F S1x1024x896 .bf16
  wd : Vec F S1x896x1024 .bf16

section
variable (sz off : Fin 2 → ℕ) (hin : ∀ a, off a + sz a ≤ S1024x1024.size a)

/-- The rows of a sub-block. -/
abbrev rSub : Rect S1024x1024 := Rect.unit (s := S1024x1024) off sz hin

/-- Gathering an expert's rows into a sub-block, and clearing its accumulator. -/
def gatherStep (P : Pays F ⟨2, sz⟩) (o8 o16 : Fin 3 → ℕ) (h8 : ∀ a, o8 a + S1x1x1024.size a ≤ S1x32x1024.size a)
    (h16 : ∀ a, o16 a + S1x1x1024.size a ≤ S1x32x1024.size a) (W : Wins F) (s : Acc F) : Acc F :=
  { s with
    hc := (rSub sz off hin).overlay s.hc
      (P.g (View.ld W.row (Rect.unit (s := S1x32x1024) o8 S1x1x1024.size h8)) (View.ld W.row (Rect.unit (s := S1x32x1024) o16 S1x1x1024.size h16))
        (View.ld W.hn rAll))
    y := (rSub sz off hin).overlay s.y P.z }

/-- The accumulator of a sub-block after one block of the expert's columns. -/
def downStep (P : Pays F ⟨2, sz⟩) (W : Wins F) (s : Acc F) : Acc F :=
  { s with
    y := (rSub sz off hin).overlay s.y
      (P.d (View.ld s.hc (rSub sz off hin)) (View.ld W.wg rW) (View.ld W.wu rW) (View.ld s.y (rSub sz off hin)) (View.ld W.wd rD)) }

/-- The sum over the experts after a sub-block's rows went back to their places. -/
def placeStep (P : Pays F ⟨2, sz⟩) (ec : Vec F S3x1024x128 .f32) (s : Acc F) : Acc F :=
  { s with
    tot := rAll.overlay s.tot
      (P.p (View.ld ec rE1) (View.ld ec rE2) (View.ld s.tot rAll) (View.ld ec rE0) (View.ld s.y (rSub sz off hin))) }

/-- What a sub-block does to the scratch buffers. -/
def Sub (v c1 c3 : BitVec 1) (P : Pays F ⟨2, sz⟩) (o8 o16 : Fin 3 → ℕ) (h8 : c1 = 1#1 → ∀ a, o8 a + S1x1x1024.size a ≤ S1x32x1024.size a)
    (h16 : c1 = 1#1 → ∀ a, o16 a + S1x1x1024.size a ≤ S1x32x1024.size a) (W : Wins F) (ec : Vec F S3x1024x128 .f32) (s : Acc F) : Acc F :=
  if v = 1#1 then
    let s1 := if h : c1 = 1#1 then gatherStep sz off hin P o8 o16 (h8 h) (h16 h) W s else s
    let s2 := downStep sz off hin P W s1
    if c3 = 1#1 then placeStep sz off hin P ec s2 else s2
  else s

variable (a5 : Memref sig .tc .vmem S1024x1024 .bf16) (a7 : Memref sig .tc .vmem S1x32x1024 .f32)
  (a9 a10 : Memref sig .tc .vmem S1x1024x896 .bf16) (a11 : Memref sig .tc .vmem S1x896x1024 .bf16)
  (a13 : Memref sig .tc .vmem S1024x1024 .bf16) (a14 a15 : Memref sig .tc .vmem S1024x1024 .f32) (a16 : Memref sig .tc .vmem S3x1024x128 .f32)
  (hn : 0 < (⟨2, sz⟩ : Shape).numel) (hx13 : (a13.access (rSub sz off hin)).Stores Finset.univ) (hx14 : (a14.access (rSub sz off hin)).Stores Finset.univ)

/-- The program text of a sub-block, before the rest `k` of the body. -/
def blk {α : Type} (v c1 c3 : BitVec 1) (P : Pays F ⟨2, sz⟩) (o8 o16 : Fin 3 → ℕ)
    (h8 : c1 = 1#1 → ∀ a, o8 a + S1x1x1024.size a ≤ S1x32x1024.size a)
    (h16 : c1 = 1#1 → ∀ a, o16 a + S1x1x1024.size a ≤ S1x32x1024.size a) (k : PUnit.{1} → Code F α) : Code F α :=
  if v = 1#1 then
    have inner : PUnit.{1} → Code F α := fun _ =>
      .op (.load a13 (rSub sz off hin).toLoadRect (View.loadsAt_vmem hn)) fun v40 =>
      .op (.load a9 rW.toLoadRect (View.loadsAt_vmem h_S1x1024x896)) fun v41 =>
      .op (.load a10 rW.toLoadRect (View.loadsAt_vmem h_S1x1024x896)) fun v52 =>
      .op (.load a14 (rSub sz off hin).toLoadRect (View.loadsAt_vmem hn)) fun v57 =>
      .op (.load a11 rD.toLoadRect (View.loadsAt_vmem h_S1x896x1024)) fun v58 =>
      .op (.load a14 (rSub sz off hin).toLoadRect (View.loadsAt_vmem hn)) fun _ =>
      .op (.store a14 (rSub sz off hin) (P.d v40 v41 v52 v57 v58) Finset.univ hx14 (.inl rfl)) fun _ =>
      if c3 = 1#1 then
        .op (.load a16 rE1.toLoadRect (View.loadsAt_vmem h_S1x1024x128)) fun v72 =>
        .op (.load a16 rE2.toLoadRect (View.loadsAt_vmem h_S1x1024x128)) fun v77 =>
        .op (.load a15 rAll.toLoadRect (View.loadsAt_vmem h_S1024x1024)) fun v85 =>
        .op (.load a16 rE0.toLoadRect (View.loadsAt_vmem h_S1x1024x128)) fun v86 =>
        .op (.load a14 (rSub sz off hin).toLoadRect (View.loadsAt_vmem hn)) fun v89 =>
        .op (.load a15 rAll.toLoadRect (View.loadsAt_vmem h_S1024x1024)) fun _ =>
        .op (.store a15 rAll (P.p v72 v77 v85 v86 v89) Finset.univ (View.stores_vmem_bits_univ h_S1024x1024 rfl) (.inl rfl)) fun _ =>
        k ⟨⟩
      else k ⟨⟩
    if h : c1 = 1#1 then
      .op (.load a7 (Rect.unit (s := S1x32x1024) o8 S1x1x1024.size (h8 h)).toLoadRect (View.loadsAt_vmem h_S1x1x1024)) fun v70 =>
      .op (.load a7 (Rect.unit (s := S1x32x1024) o16 S1x1x1024.size (h16 h)).toLoadRect (View.loadsAt_vmem h_S1x1x1024)) fun v74 =>
      .op (.load a5 rAll.toLoadRect (View.loadsAt_vmem h_S1024x1024)) fun v87 =>
      .op (.load a13 (rSub sz off hin).toLoadRect (View.loadsAt_vmem hn)) fun _ =>
      .op (.store a13 (rSub sz off hin) (P.g v70 v74 v87) Finset.univ hx13 (.inl rfl)) fun _ =>
      .op (.load a14 (rSub sz off hin).toLoadRect (View.loadsAt_vmem hn)) fun _ =>
      .op (.store a14 (rSub sz off hin) P.z Finset.univ hx14 (.inl rfl)) fun _ =>
      inner ⟨⟩
    else inner ⟨⟩
  else k ⟨⟩

/-- The buffers a grid point of the expert kernel works on, at their contents. -/
def State (c : Dev nD) (W : Wins F) (ec : Vec F S3x1024x128 .f32) (s : Acc F) : sProp (MM F) :=
  iprop(owns (c : Thread nD τ) a5 fullShare W.hn ∗ owns (c : Thread nD τ) a7 fullShare W.row ∗ owns (c : Thread nD τ) a9 fullShare W.wg
    ∗ owns (c : Thread nD τ) a10 fullShare W.wu ∗ owns (c : Thread nD τ) a11 fullShare W.wd
    ∗ owns (c : Thread nD τ) a13 fullShare s.hc ∗ owns (c : Thread nD τ) a14 fullShare s.y ∗ owns (c : Thread nD τ) a15 fullShare s.tot
    ∗ owns (c : Thread nD τ) a16 fullShare ec)

/-- The buffers of a grid point, one by one. -/
theorem state_open (c : Dev nD) {W : Wins F} {ec : Vec F S3x1024x128 .f32} {s : Acc F} :
    State a5 a7 a9 a10 a11 a13 a14 a15 a16 c W ec s ⊢
    iprop(owns (c : Thread nD τ) a5 fullShare W.hn ∗ owns (c : Thread nD τ) a7 fullShare W.row ∗ owns (c : Thread nD τ) a9 fullShare W.wg
    ∗ owns (c : Thread nD τ) a10 fullShare W.wu ∗ owns (c : Thread nD τ) a11 fullShare W.wd
    ∗ owns (c : Thread nD τ) a13 fullShare s.hc ∗ owns (c : Thread nD τ) a14 fullShare s.y ∗ owns (c : Thread nD τ) a15 fullShare s.tot
    ∗ owns (c : Thread nD τ) a16 fullShare ec) := .rfl

/-- The buffers of a grid point, together. -/
theorem state_pack (c : Dev nD) {W : Wins F} {ec : Vec F S3x1024x128 .f32} {hc : Vec F S1024x1024 .bf16} {y tot : Vec F S1024x1024 .f32} :
    iprop(owns (c : Thread nD τ) a5 fullShare W.hn ∗ owns (c : Thread nD τ) a7 fullShare W.row ∗ owns (c : Thread nD τ) a9 fullShare W.wg
    ∗ owns (c : Thread nD τ) a10 fullShare W.wu ∗ owns (c : Thread nD τ) a11 fullShare W.wd
    ∗ owns (c : Thread nD τ) a13 fullShare hc ∗ owns (c : Thread nD τ) a14 fullShare y ∗ owns (c : Thread nD τ) a15 fullShare tot
    ∗ owns (c : Thread nD τ) a16 fullShare ec) ⊢ State a5 a7 a9 a10 a11 a13 a14 a15 a16 c W ec ⟨hc, y, tot⟩ := .rfl

/-- A sub-block's triple: from the buffers at their contents, the rest of the body starts from the
    contents `Sub` gives. -/
theorem blk_triple (c : Dev nD) {α : Type} {v c1 c3 : BitVec 1} {P : Pays F ⟨2, sz⟩} {o8 o16 : Fin 3 → ℕ}
    {h8 : c1 = 1#1 → ∀ a, o8 a + S1x1x1024.size a ≤ S1x32x1024.size a}
    {h16 : c1 = 1#1 → ∀ a, o16 a + S1x1x1024.size a ≤ S1x32x1024.size a} {k : PUnit.{1} → Code F α} {K : α → sProp (MM F)}
    {W : Wins F} {ec : Vec F S3x1024x128 .f32} {s : Acc F} :
    iprop(State a5 a7 a9 a10 a11 a13 a14 a15 a16 c W ec s
        ∗ (State a5 a7 a9 a10 a11 a13 a14 a15 a16 c W ec (Sub sz off hin v c1 c3 P o8 o16 h8 h16 W ec s) -∗ WP c (k ⟨⟩) K))
      ⊢ WP c (blk sz off hin a5 a7 a9 a10 a11 a13 a14 a15 a16 hn hx13 hx14 v c1 c3 P o8 o16 h8 h16 k) K := by
  by_cases hv : v = 1#1
  swap
  · unfold blk Sub; rw [if_neg hv, if_neg hv]
    iintro ⟨H, Hk⟩; iapply Hk; iexact H
  have inner : ∀ s : Acc F, iprop(State a5 a7 a9 a10 a11 a13 a14 a15 a16 c W ec s
        ∗ (State a5 a7 a9 a10 a11 a13 a14 a15 a16 c W ec (if c3 = 1#1 then placeStep sz off hin P ec (downStep sz off hin P W s) else downStep sz off hin P W s) -∗ WP c (k ⟨⟩) K))
      ⊢ WP c (blk sz off hin a5 a7 a9 a10 a11 a13 a14 a15 a16 hn hx13 hx14 1#1 0#1 c3 P o8 o16 (fun h => absurd h (by decide)) (fun h => absurd h (by decide)) k) K := by
    intro s
    unfold blk State
    rw [if_pos rfl, dif_neg (by decide)]
    iintro ⟨⟨H5, H7, H9, H10, H11, H13, H14, H15, H16⟩, Hk⟩
    iapply owned_load c (α := α); isplitl [H13]; · iexact H13
    iintro H13
    iapply owned_load c (α := α); isplitl [H9]; · iexact H9
    iintro H9
    iapply owned_load c (α := α); isplitl [H10]; · iexact H10
    iintro H10
    iapply owned_load c (α := α); isplitl [H14]; · iexact H14
    iintro H14
    iapply owned_load c (α := α); isplitl [H11]; · iexact H11
    iintro H11
    iapply owned_load c (α := α); isplitl [H14]; · iexact H14
    iintro H14
    iapply owned_store c (α := α); isplitl [H14]; · iexact H14
    iintro H14
    by_cases h3 : c3 = 1#1
    · rw [if_pos h3, if_pos h3]
      iapply owned_load c (α := α); isplitl [H16]; · iexact H16
      iintro H16
      iapply owned_load c (α := α); isplitl [H16]; · iexact H16
      iintro H16
      iapply owned_load c (α := α); isplitl [H15]; · iexact H15
      iintro H15
      iapply owned_load c (α := α); isplitl [H16]; · iexact H16
      iintro H16
      iapply owned_load c (α := α); isplitl [H14]; · iexact H14
      iintro H14
      iapply owned_load c (α := α); isplitl [H15]; · iexact H15
      iintro H15
      iapply owned_store c (α := α); isplitl [H15]; · iexact H15
      iintro H15
      iapply Hk
      isplitl [H5]; · iexact H5
      isplitl [H7]; · iexact H7
      isplitl [H9]; · iexact H9
      isplitl [H10]; · iexact H10
      isplitl [H11]; · iexact H11
      isplitl [H13]; · iexact H13
      isplitl [H14]; · iexact H14
      isplitl [H15]; · iexact H15
      iexact H16
    · rw [if_neg h3, if_neg h3]
      iapply Hk
      isplitl [H5]; · iexact H5
      isplitl [H7]; · iexact H7
      isplitl [H9]; · iexact H9
      isplitl [H10]; · iexact H10
      isplitl [H11]; · iexact H11
      isplitl [H13]; · iexact H13
      isplitl [H14]; · iexact H14
      isplitl [H15]; · iexact H15
      iexact H16
  by_cases h1 : c1 = 1#1
  · subst hv
    unfold Sub
    rw [if_pos rfl, dif_pos h1]
    refine BIBase.Entails.trans ?_ (show WP c (blk sz off hin a5 a7 a9 a10 a11 a13 a14 a15 a16 hn hx13 hx14 1#1 c1 c3 P o8 o16 h8 h16 k) K ⊢ _ from .rfl)
    have hi := inner (gatherStep sz off hin P o8 o16 (h8 h1) (h16 h1) W s)
    unfold blk at hi ⊢
    rw [if_pos rfl, dif_neg (by decide)] at hi
    rw [if_pos rfl, dif_pos h1]
    refine BIBase.Entails.trans ?_ (BIBase.Entails.rfl)
    iintro ⟨Hs, Hk⟩
    unfold State
    icases Hs with ⟨H5, H7, H9, H10, H11, H13, H14, H15, H16⟩
    iapply owned_load c (α := α); isplitl [H7]; · iexact H7
    iintro H7
    iapply owned_load c (α := α); isplitl [H7]; · iexact H7
    iintro H7
    iapply owned_load c (α := α); isplitl [H5]; · iexact H5
    iintro H5
    iapply owned_load c (α := α); isplitl [H13]; · iexact H13
    iintro H13
    iapply owned_store c (α := α); isplitl [H13]; · iexact H13
    iintro H13
    iapply owned_load c (α := α); isplitl [H14]; · iexact H14
    iintro H14
    iapply owned_store c (α := α); isplitl [H14]; · iexact H14
    iintro H14
    iapply hi
    isplitr [Hk]
    swap
    · iexact Hk
    unfold State
    isplitl [H5]; · iexact H5
    isplitl [H7]; · iexact H7
    isplitl [H9]; · iexact H9
    isplitl [H10]; · iexact H10
    isplitl [H11]; · iexact H11
    isplitl [H13]; · iexact H13
    isplitl [H14]; · iexact H14
    isplitl [H15]; · iexact H15
    iexact H16
  · have hi := inner s
    unfold Sub
    unfold blk at hi ⊢
    rw [if_pos rfl, dif_neg (by decide)] at hi
    rw [if_pos hv, dif_neg h1, if_pos hv, dif_neg h1]
    exact hi

end

end Cert.KernelIdeal.Moe

end
-- ==== Proof.Body.lean ====
module

public import proofs.«01_k».proof.Proof.Rules

/-! # The body of the expert kernel, as its seven sub-blocks

The printed body loads the row count of its expert, clears the sum at the first expert, spreads
the expert's gates, ranks and choices at the last block of its columns, runs the seven
sub-blocks, and writes the normalised sum at the last expert. -/

@[expose] public section

set_option maxRecDepth 65536

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The block shape of sub-block `j`. -/
def szJ : Fin 7 → Fin 2 → ℕ
  | 0 => S256x1024.size
  | 1 => S128x1024.size
  | 2 => S128x1024.size
  | 3 => S128x1024.size
  | 4 => S128x1024.size
  | 5 => S128x1024.size
  | 6 => S128x1024.size

/-- The first row of sub-block `j`. -/
def lo : Fin 7 → ℕ
  | 0 => 0
  | 1 => 256
  | 2 => 384
  | 3 => 512
  | 4 => 640
  | 5 => 768
  | 6 => 896

/-- Where sub-block `j` starts in the scratch buffers. -/
def offJ : Fin 7 → Fin 2 → ℕ
  | 0 => ![0, 0]
  | 1 => ![256, 0]
  | 2 => ![384, 0]
  | 3 => ![512, 0]
  | 4 => ![640, 0]
  | 5 => ![768, 0]
  | 6 => ![896, 0]

/-- A sub-block lies inside the scratch buffers. -/
theorem hinJ : ∀ (j : Fin 7) (a : Fin 2), offJ j a + szJ j a ≤ S1024x1024.size a := by decide

/-- A sub-block has elements. -/
theorem posJ : ∀ j : Fin 7, 0 < (⟨2, szJ j⟩ : Shape).numel
  | 0 => h_S256x1024 | 1 => h_S128x1024 | 2 => h_S128x1024 | 3 => h_S128x1024 | 4 => h_S128x1024 | 5 => h_S128x1024 | 6 => h_S128x1024

/-- The values of sub-block `j`'s stores. -/
def payJ : (j : Fin 7) → Pays F ⟨2, szJ j⟩
  | 0 => ⟨k1_pay12, k1_pay13, k1_pay14, k1_pay15⟩
  | 1 => ⟨k1_pay16, k1_pay17, k1_pay18, k1_pay19⟩
  | 2 => ⟨k1_pay20, k1_pay21, k1_pay22, k1_pay23⟩
  | 3 => ⟨k1_pay24, k1_pay25, k1_pay26, k1_pay27⟩
  | 4 => ⟨k1_pay28, k1_pay29, k1_pay30, k1_pay31⟩
  | 5 => ⟨k1_pay32, k1_pay33, k1_pay34, k1_pay35⟩
  | 6 => ⟨k1_pay1, k1_pay2, k1_pay3, k1_pay4⟩

/-- Whether sub-block `j` has rows when the expert has `v2` rows. -/
def actJ (v2 : BitVec 32) (j : Fin 7) : BitVec 1 := Scalar.cmpi .ne (Scalar.extui (Scalar.cmpi .sgt v2 (BitVec.ofNat 32 (lo j))) : BitVec 32) 0#32

/-- Whether a grid point is the last block of its expert's columns. -/
def lastF (i : grid1.Coords) : BitVec 1 := Scalar.cmpi .ne (Scalar.extui (Scalar.cmpi .eq (BitVec.ofNat 32 (i 2).val) 3#32) : BitVec 32) 0#32

/-- Whether a grid point is the first of its rows. -/
def firstP (i : grid1.Coords) : BitVec 1 :=
  Scalar.cmpi .ne (Scalar.extui (Scalar.andi (Scalar.cmpi .eq (BitVec.ofNat 32 (i 1).val) 0#32) (Scalar.cmpi .eq (BitVec.ofNat 32 (i 2).val) 0#32)) : BitVec 32) 0#32

/-- The rank row of an expert is inside the table. -/
theorem in8 (i : grid1.Coords) : ∀ a, k1_off2 i 8#32 a + S1x1x1024.size a ≤ S1x32x1024.size a := by
  have h := k1_off2_eq i 0
  have h1 : (i 1).val < 8 := (i 1).isLt
  intro a
  rw [show k1_off2 i 8#32 = k1_off2 i (BitVec.ofNat 32 (8 + 8 * (0 : Fin 2).val)) from rfl, h]
  fin_cases a
  · exact (by decide : (0 + 1 ≤ 1))
  · show 8 * 0 + (i 1).val + 8 + 1 ≤ 32; omega
  · exact (by decide : (0 + 1024 ≤ 1024))

/-- The choice row of an expert is inside the table. -/
theorem in16 (i : grid1.Coords) : ∀ a, k1_off2 i 16#32 a + S1x1x1024.size a ≤ S1x32x1024.size a := by
  have h := k1_off2_eq i 1
  have h1 : (i 1).val < 8 := (i 1).isLt
  intro a
  rw [show k1_off2 i 16#32 = k1_off2 i (BitVec.ofNat 32 (8 + 8 * (1 : Fin 2).val)) from rfl, h]
  fin_cases a
  · exact (by decide : (0 + 1 ≤ 1))
  · show 8 * 1 + (i 1).val + 8 + 1 ≤ 32; omega
  · exact (by decide : (0 + 1024 ≤ 1024))

/-- What sub-block `j` does. -/
def subJ (i : grid1.Coords) (v2 : BitVec 32) (j : Fin 7) (W : Wins F) (ec : Vec F S3x1024x128 .f32) (s : Acc F) : Acc F :=
  Sub (szJ j) (offJ j) (hinJ j) (actJ v2 j) (k1_cond4 i) (lastF i) (payJ j) (k1_off2 i 8#32) (k1_off2 i 16#32) (fun _ => in8 i) (fun _ => in16 i) W ec s

/-- The sum, cleared at the first point of the rows. -/
def clearStep (i : grid1.Coords) (s : Acc F) : Acc F :=
  if firstP i = 1#1 then { s with tot := rAll.overlay s.tot (k1_pay10 (F := F)) } else s

/-- The whole rectangle of the table by rows. -/
abbrev rC : Rect S1024x128 := Rect.unit (s := S1024x128) ![0, 0] S1024x128.size inb_S1024x128_S1024x128_0_0

/-- The expert's gates, ranks and choices, spread at the last block of its columns. -/
def planeStep (i : grid1.Coords) (col : Vec F S1024x128 .f32) (ec : Vec F S3x1024x128 .f32) : Vec F S3x1024x128 .f32 :=
  if lastF i = 1#1 then
    rE2.overlay (rE1.overlay (rE0.overlay ec (k1_pay7 (BitVec.ofNat 32 (i 1).val) (View.ld col rC))) (k1_pay8 (BitVec.ofNat 32 (i 1).val) (View.ld col rC)))
      (k1_pay11 (k1_pay9 (BitVec.ofNat 32 (i 1).val) (View.ld col rC)))
  else ec

/-- The rectangle of one element of the table of counts. -/
abbrev rT (i : grid1.Coords) : Rect S16x8 := Rect.unit (s := S16x8) (k1_off1 i) S1x1.size (k1_off1_inb i)

/-- The number of rows of the expert of a grid point. -/
def cntAt (i : grid1.Coords) (tb : Vec F S16x8 .i32) : BitVec 32 :=
  View.ld (e' := .i32) tb (rT i) (Shape.Idx.first (numel1_S1x1.symm ▸ Nat.one_pos))

/-- The scratch buffers after the seven sub-blocks. -/
def subs (i : grid1.Coords) (v2 : BitVec 32) (W : Wins F) (ec : Vec F S3x1024x128 .f32) (s : Acc F) : Acc F :=
  subJ i v2 6 W ec (subJ i v2 5 W ec (subJ i v2 4 W ec (subJ i v2 3 W ec (subJ i v2 2 W ec (subJ i v2 1 W ec (subJ i v2 0 W ec s))))))

variable (i : grid1.Coords) (arg3 : Memref sig .tc .smem S16x8 .i32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x128 .f32) (harg6 : arg6.IsWhole) (arg7 : Memref sig .tc .vmem S1x32x1024 .f32) (harg7 : arg7.IsWhole) (arg8 : Memref sig .tc .vmem S1x1024 .f32) (harg8 : arg8.IsWhole) (arg9 : Memref sig .tc .vmem S1x1024x896 .bf16) (harg9 : arg9.IsWhole) (arg10 : Memref sig .tc .vmem S1x1024x896 .bf16) (harg10 : arg10.IsWhole) (arg11 : Memref sig .tc .vmem S1x896x1024 .bf16) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S1024x1024 .f32) (harg14 : arg14.IsWhole) (arg15 : Memref sig .tc .vmem S1024x1024 .f32) (harg15 : arg15.IsWhole) (arg16 : Memref sig .tc .vmem S3x1024x128 .f32) (harg16 : arg16.IsWhole)

include harg13 in
/-- A sub-block of 128 rows leaves the gathered rows' words whole. -/
theorem stores13 : ∀ j : Fin 7, (arg13.access (rSub (szJ j) (offJ j) (hinJ j))).Stores Finset.univ
  | 0 => View.stores_vmem h_S256x1024 (harg13.storeExact_slice rfl _ packedbf16_S1024x1024_S256x1024_0_0) (fun _ => rfl)
  | 1 => View.stores_vmem h_S128x1024 (harg13.storeExact_slice rfl _ packedbf16_S1024x1024_S128x1024_256_0) (fun _ => rfl)
  | 2 => View.stores_vmem h_S128x1024 (harg13.storeExact_slice rfl _ packedbf16_S1024x1024_S128x1024_384_0) (fun _ => rfl)
  | 3 => View.stores_vmem h_S128x1024 (harg13.storeExact_slice rfl _ packedbf16_S1024x1024_S128x1024_512_0) (fun _ => rfl)
  | 4 => View.stores_vmem h_S128x1024 (harg13.storeExact_slice rfl _ packedbf16_S1024x1024_S128x1024_640_0) (fun _ => rfl)
  | 5 => View.stores_vmem h_S128x1024 (harg13.storeExact_slice rfl _ packedbf16_S1024x1024_S128x1024_768_0) (fun _ => rfl)
  | 6 => View.stores_vmem h_S128x1024 (harg13.storeExact_slice rfl _ packedbf16_S1024x1024_S128x1024_896_0) (fun _ => rfl)

/-- A sub-block of the accumulator may be stored. -/
theorem stores14 : ∀ j : Fin 7, (arg14.access (rSub (szJ j) (offJ j) (hinJ j))).Stores Finset.univ
  | 0 => View.stores_vmem_bits_univ h_S256x1024 rfl
  | 1 => View.stores_vmem_bits_univ h_S128x1024 rfl
  | 2 => View.stores_vmem_bits_univ h_S128x1024 rfl
  | 3 => View.stores_vmem_bits_univ h_S128x1024 rfl
  | 4 => View.stores_vmem_bits_univ h_S128x1024 rfl
  | 5 => View.stores_vmem_bits_univ h_S128x1024 rfl
  | 6 => View.stores_vmem_bits_univ h_S128x1024 rfl

/-- Sub-block `j`'s program text. -/
def blkJ {α : Type} (v2 : BitVec 32) (j : Fin 7) (k : PUnit.{1} → Code F α) : Code F α :=
  blk (szJ j) (offJ j) (hinJ j) arg5 arg7 arg9 arg10 arg11 arg13 arg14 arg15 arg16 (posJ j) (stores13 arg13 harg13 j) (stores14 arg14 j)
    (actJ v2 j) (k1_cond4 i) (lastF i) (payJ j) (k1_off2 i 8#32) (k1_off2 i 16#32) (fun _ => in8 i) (fun _ => in16 i) k

/-- The body's first part after the row count is loaded: clearing, spreading, six sub-blocks. -/
def mid {α : Type} (v2 : BitVec 32) (k : PUnit.{1} → Code F α) : Code F α :=
  have jp2 : PUnit.{1} → Code F α := fun _ =>
    blkJ i arg5 arg7 arg9 arg10 arg11 arg13 harg13 arg14 arg15 arg16 v2 0 fun _ =>
    blkJ i arg5 arg7 arg9 arg10 arg11 arg13 harg13 arg14 arg15 arg16 v2 1 fun _ =>
    blkJ i arg5 arg7 arg9 arg10 arg11 arg13 harg13 arg14 arg15 arg16 v2 2 fun _ =>
    blkJ i arg5 arg7 arg9 arg10 arg11 arg13 harg13 arg14 arg15 arg16 v2 3 fun _ =>
    blkJ i arg5 arg7 arg9 arg10 arg11 arg13 harg13 arg14 arg15 arg16 v2 4 fun _ =>
    blkJ i arg5 arg7 arg9 arg10 arg11 arg13 harg13 arg14 arg15 arg16 v2 5 k
  have jp1 : PUnit.{1} → Code F α := fun _ =>
    if lastF i = 1#1 then
      .op (.load arg6 rC.toLoadRect (View.loadsAt_vmem h_S1024x128)) fun v38 =>
      .op (.load arg16 rE0.toLoadRect (View.loadsAt_vmem h_S1x1024x128)) fun _ =>
      .op (.store arg16 rE0 (k1_pay7 (BitVec.ofNat 32 (i 1).val) v38) Finset.univ (View.stores_vmem_bits_univ h_S1x1024x128 rfl) (.inl rfl)) fun _ =>
      .op (.load arg16 rE1.toLoadRect (View.loadsAt_vmem h_S1x1024x128)) fun _ =>
      .op (.store arg16 rE1 (k1_pay8 (BitVec.ofNat 32 (i 1).val) v38) Finset.univ (View.stores_vmem_bits_univ h_S1x1024x128 rfl) (.inl rfl)) fun _ =>
      .op (.load arg16 rE2.toLoadRect (View.loadsAt_vmem h_S1x1024x128)) fun _ =>
      .op (.store arg16 rE2 (k1_pay11 (k1_pay9 (BitVec.ofNat 32 (i 1).val) v38)) Finset.univ (View.stores_vmem_bits_univ h_S1x1024x128 rfl) (.inl rfl)) fun _ =>
      jp2 ⟨⟩
    else jp2 ⟨⟩
  if firstP i = 1#1 then
    .op (.load arg15 rAll.toLoadRect (View.loadsAt_vmem h_S1024x1024)) fun _ =>
    .op (.store arg15 rAll (k1_pay10 (F := F)) Finset.univ (View.stores_vmem_bits_univ h_S1024x1024 rfl) (.inl rfl)) fun _ =>
    jp1 ⟨⟩
  else jp1 ⟨⟩

/-- The body's last statements: the normalised sum at the last point of the rows. -/
def last {α : Type} (k : PUnit.{1} → Code F α) : Code F α :=
  if k1_cond24 i = 1#1 then
    .op (.load arg15 rAll.toLoadRect (View.loadsAt_vmem h_S1024x1024)) fun v37 =>
    .op (.load arg4 rAll.toLoadRect (View.loadsAt_vmem h_S1024x1024)) fun v38 =>
    .op (.load arg8 (Rect.unit (s := S1x1024) ![0, 0] S1x1024.size inb_S1x1024_S1x1024_0_0).toLoadRect (View.loadsAt_vmem h_S1x1024)) fun v50 =>
    .op (.load arg12 rAll.toLoadRect (View.loadsAt_vmem h_S1024x1024)) fun _ =>
    .op (.store arg12 rAll (k1_pay5 v37 v38 v50) Finset.univ (View.stores_vmem_bits_univ h_S1024x1024 rfl) (.inl rfl)) fun _ =>
    k ⟨⟩
  else k ⟨⟩

/-- The printed first part of the body, in this form. -/
theorem part2_eq : k1_part2 (F := F) i arg3 harg3 arg4 harg4 arg5 harg5 arg6 harg6 arg7 harg7 arg8 harg8 arg9 harg9 arg10 harg10 arg11 harg11 arg12 harg12 arg13 harg13 arg14 harg14 arg15 harg15 arg16 harg16 =
    smemLoadElt arg3 (rT i) (View.loads_smem_one rfl numel1_S1x1) (Shape.Idx.first (numel1_S1x1.symm ▸ Nat.one_pos)) fun v2 =>
      mid i arg5 arg6 arg7 arg9 arg10 arg11 arg13 harg13 arg14 arg15 arg16 v2 fun _ =>
        .ret ⟨BitVec.ofNat 32 (i 1).val, BitVec.ofNat 32 (i 2).val, Scalar.extui (Scalar.cmpi .sgt v2 896#32)⟩ := by
  rw [k1_part2_eq_skeleton]
  rfl

/-- The printed body, in this form. -/
theorem body_eq : cc1_moe_experts (F := F) i arg3 harg3 arg4 harg4 arg5 harg5 arg6 harg6 arg7 harg7 arg8 harg8 arg9 harg9 arg10 harg10 arg11 harg11 arg12 harg12 arg13 harg13 arg14 harg14 arg15 harg15 arg16 harg16 =
    k1_part2 i arg3 harg3 arg4 harg4 arg5 harg5 arg6 harg6 arg7 harg7 arg8 harg8 arg9 harg9 arg10 harg10 arg11 harg11 arg12 harg12 arg13 harg13 arg14 harg14 arg15 harg15 arg16 harg16 >>= fun r =>
      blk (szJ 6) (offJ 6) (hinJ 6) arg5 arg7 arg9 arg10 arg11 arg13 arg14 arg15 arg16 (posJ 6) (stores13 arg13 harg13 6) (stores14 arg14 6)
        (Scalar.cmpi .ne r.2.2 0#32) (k1_cond4 i) (Scalar.cmpi .ne (Scalar.extui (Scalar.cmpi .eq r.2.1 3#32) : BitVec 32) 0#32) (payJ 6) (k1_off2 i 8#32) (k1_off2 i 16#32) (fun _ => in8 i) (fun _ => in16 i)
        fun _ => last i arg4 arg8 arg12 arg15 fun _ => .ret ⟨⟩ := by
  rw [cc1_moe_experts_eq_skeleton]
  rfl

/-- The whole rectangle of the final norm's weights. -/
abbrev rG : Rect S1x1024 := Rect.unit (s := S1x1024) ![0, 0] S1x1024.size inb_S1x1024_S1x1024_0_0

/-- The triple of the body's first part after the row count is loaded. -/
theorem mid_triple (c : Dev nD) {α : Type} {v2 : BitVec 32} {k : PUnit.{1} → Code F α} {K : α → sProp (MM F)}
    {W : Wins F} {ec : Vec F S3x1024x128 .f32} {s : Acc F} {col : Vec F S1024x128 .f32} :
    iprop(State arg5 arg7 arg9 arg10 arg11 arg13 arg14 arg15 arg16 c W ec s ∗ owns (c : Thread nD τ) arg6 fullShare col
        ∗ (iprop(State arg5 arg7 arg9 arg10 arg11 arg13 arg14 arg15 arg16 c W (planeStep i col ec)
              (subJ i v2 5 W (planeStep i col ec) (subJ i v2 4 W (planeStep i col ec) (subJ i v2 3 W (planeStep i col ec)
                (subJ i v2 2 W (planeStep i col ec) (subJ i v2 1 W (planeStep i col ec) (subJ i v2 0 W (planeStep i col ec) (clearStep i s)))))))
            ∗ owns (c : Thread nD τ) arg6 fullShare col) -∗ WP c (k ⟨⟩) K))
      ⊢ WP c (mid i arg5 arg6 arg7 arg9 arg10 arg11 arg13 harg13 arg14 arg15 arg16 v2 k) K := by
  have h2 : ∀ (ec : Vec F S3x1024x128 .f32) (s : Acc F),
      iprop(State arg5 arg7 arg9 arg10 arg11 arg13 arg14 arg15 arg16 c W ec s
        ∗ (State arg5 arg7 arg9 arg10 arg11 arg13 arg14 arg15 arg16 c W ec
              (subJ i v2 5 W ec (subJ i v2 4 W ec (subJ i v2 3 W ec (subJ i v2 2 W ec (subJ i v2 1 W ec (subJ i v2 0 W ec s)))))) -∗ WP c (k ⟨⟩) K))
      ⊢ WP c (blkJ i arg5 arg7 arg9 arg10 arg11 arg13 harg13 arg14 arg15 arg16 v2 0 fun _ =>
    blkJ i arg5 arg7 arg9 arg10 arg11 arg13 harg13 arg14 arg15 arg16 v2 1 fun _ =>
    blkJ i arg5 arg7 arg9 arg10 arg11 arg13 harg13 arg14 arg15 arg16 v2 2 fun _ =>
    blkJ i arg5 arg7 arg9 arg10 arg11 arg13 harg13 arg14 arg15 arg16 v2 3 fun _ =>
    blkJ i arg5 arg7 arg9 arg10 arg11 arg13 harg13 arg14 arg15 arg16 v2 4 fun _ =>
    blkJ i arg5 arg7 arg9 arg10 arg11 arg13 harg13 arg14 arg15 arg16 v2 5 k) K := by
    intro ec s
    iintro ⟨Hs, Hk⟩
    unfold blkJ
    iapply (blk_triple (F := F) _ _ _ _ _ _ _ _ _ _ _ _ _ _ _ c); isplitl [Hs]; · iexact Hs
    iintro Hs
    iapply (blk_triple (F := F) _ _ _ _ _ _ _ _ _ _ _ _ _ _ _ c); isplitl [Hs]; · iexact Hs
    iintro Hs
    iapply (blk_triple (F := F) _ _ _ _ _ _ _ _ _ _ _ _ _ _ _ c); isplitl [Hs]; · iexact Hs
    iintro Hs
    iapply (blk_triple (F := F) _ _ _ _ _ _ _ _ _ _ _ _ _ _ _ c); isplitl [Hs]; · iexact Hs
    iintro Hs
    iapply (blk_triple (F := F) _ _ _ _ _ _ _ _ _ _ _ _ _ _ _ c); isplitl [Hs]; · iexact Hs
    iintro Hs
    iapply (blk_triple (F := F) _ _ _ _ _ _ _ _ _ _ _ _ _ _ _ c); isplitl [Hs]; · iexact Hs
    iintro Hs
    iapply Hk; iexact Hs
  have h1 : ∀ (s : Acc F),
      iprop(State arg5 arg7 arg9 arg10 arg11 arg13 arg14 arg15 arg16 c W ec s ∗ owns (c : Thread nD τ) arg6 fullShare col
        ∗ (iprop(State arg5 arg7 arg9 arg10 arg11 arg13 arg14 arg15 arg16 c W (planeStep i col ec)
              (subJ i v2 5 W (planeStep i col ec) (subJ i v2 4 W (planeStep i col ec) (subJ i v2 3 W (planeStep i col ec)
                (subJ i v2 2 W (planeStep i col ec) (subJ i v2 1 W (planeStep i col ec) (subJ i v2 0 W (planeStep i col ec) s))))))
            ∗ owns (c : Thread nD τ) arg6 fullShare col) -∗ WP c (k ⟨⟩) K))
      ⊢ WP c (if lastF i = 1#1 then
      .op (.load arg6 rC.toLoadRect (View.loadsAt_vmem h_S1024x128)) fun v38 =>
      .op (.load arg16 rE0.toLoadRect (View.loadsAt_vmem h_S1x1024x128)) fun _ =>
      .op (.store arg16 rE0 (k1_pay7 (BitVec.ofNat 32 (i 1).val) v38) Finset.univ (View.stores_vmem_bits_univ h_S1x1024x128 rfl) (.inl rfl)) fun _ =>
      .op (.load arg16 rE1.toLoadRect (View.loadsAt_vmem h_S1x1024x128)) fun _ =>
      .op (.store arg16 rE1 (k1_pay8 (BitVec.ofNat 32 (i 1).val) v38) Finset.univ (View.stores_vmem_bits_univ h_S1x1024x128 rfl) (.inl rfl)) fun _ =>
      .op (.load arg16 rE2.toLoadRect (View.loadsAt_vmem h_S1x1024x128)) fun _ =>
      .op (.store arg16 rE2 (k1_pay11 (k1_pay9 (BitVec.ofNat 32 (i 1).val) v38)) Finset.univ (View.stores_vmem_bits_univ h_S1x1024x128 rfl) (.inl rfl)) fun _ =>
      (blkJ i arg5 arg7 arg9 arg10 arg11 arg13 harg13 arg14 arg15 arg16 v2 0 fun _ =>
    blkJ i arg5 arg7 arg9 arg10 arg11 arg13 harg13 arg14 arg15 arg16 v2 1 fun _ =>
    blkJ i arg5 arg7 arg9 arg10 arg11 arg13 harg13 arg14 arg15 arg16 v2 2 fun _ =>
    blkJ i arg5 arg7 arg9 arg10 arg11 arg13 harg13 arg14 arg15 arg16 v2 3 fun _ =>
    blkJ i arg5 arg7 arg9 arg10 arg11 arg13 harg13 arg14 arg15 arg16 v2 4 fun _ =>
    blkJ i arg5 arg7 arg9 arg10 arg11 arg13 harg13 arg14 arg15 arg16 v2 5 k)
    else (blkJ i arg5 arg7 arg9 arg10 arg11 arg13 harg13 arg14 arg15 arg16 v2 0 fun _ =>
    blkJ i arg5 arg7 arg9 arg10 arg11 arg13 harg13 arg14 arg15 arg16 v2 1 fun _ =>
    blkJ i arg5 arg7 arg9 arg10 arg11 arg13 harg13 arg14 arg15 arg16 v2 2 fun _ =>
    blkJ i arg5 arg7 arg9 arg10 arg11 arg13 harg13 arg14 arg15 arg16 v2 3 fun _ =>
    blkJ i arg5 arg7 arg9 arg10 arg11 arg13 harg13 arg14 arg15 arg16 v2 4 fun _ =>
    blkJ i arg5 arg7 arg9 arg10 arg11 arg13 harg13 arg14 arg15 arg16 v2 5 k)) K := by
    intro s
    by_cases hl : lastF i = 1#1
    · rw [if_pos hl, show planeStep i col ec = rE2.overlay (rE1.overlay (rE0.overlay ec (k1_pay7 (BitVec.ofNat 32 (i 1).val) (View.ld col rC))) (k1_pay8 (BitVec.ofNat 32 (i 1).val) (View.ld col rC)))
        (k1_pay11 (k1_pay9 (BitVec.ofNat 32 (i 1).val) (View.ld col rC))) from if_pos hl]
      iintro ⟨Hs, H6, Hk⟩
      ihave Hs := (state_open arg5 arg7 arg9 arg10 arg11 arg13 arg14 arg15 arg16 c) $$ Hs
      icases Hs with ⟨H5, H7, H9, H10, H11, H13, H14, H15, H16⟩
      iapply owned_load c (α := α); isplitl [H6]; · iexact H6
      iintro H6
      iapply owned_load c (α := α); isplitl [H16]; · iexact H16
      iintro H16
      iapply owned_store c (α := α); isplitl [H16]; · iexact H16
      iintro H16
      iapply owned_load c (α := α); isplitl [H16]; · iexact H16
      iintro H16
      iapply owned_store c (α := α); isplitl [H16]; · iexact H16
      iintro H16
      iapply owned_load c (α := α); isplitl [H16]; · iexact H16
      iintro H16
      iapply owned_store c (α := α); isplitl [H16]; · iexact H16
      iintro H16
      iapply h2
      isplitr [Hk H6]
      · iapply (state_pack arg5 arg7 arg9 arg10 arg11 arg13 arg14 arg15 arg16 c)
        isplitl [H5]; · iexact H5
        isplitl [H7]; · iexact H7
        isplitl [H9]; · iexact H9
        isplitl [H10]; · iexact H10
        isplitl [H11]; · iexact H11
        isplitl [H13]; · iexact H13
        isplitl [H14]; · iexact H14
        isplitl [H15]; · iexact H15
        iexact H16
      iintro Hs
      iapply Hk
      isplitl [Hs]
      · iexact Hs
      iexact H6
    · rw [if_neg hl, show planeStep i col ec = ec from if_neg hl]
      iintro ⟨Hs, H6, Hk⟩
      iapply h2
      isplitl [Hs]; · iexact Hs
      iintro Hs
      iapply Hk
      isplitl [Hs]; · iexact Hs
      iexact H6
  unfold mid
  by_cases hf : firstP i = 1#1
  · rw [if_pos hf, show clearStep i s = { s with tot := rAll.overlay s.tot (k1_pay10 (F := F)) } from if_pos hf]
    iintro ⟨Hs, H6, Hk⟩
    ihave Hs := (state_open arg5 arg7 arg9 arg10 arg11 arg13 arg14 arg15 arg16 c) $$ Hs
    icases Hs with ⟨H5, H7, H9, H10, H11, H13, H14, H15, H16⟩
    iapply owned_load c (α := α); isplitl [H15]; · iexact H15
    iintro H15
    iapply owned_store c (α := α); isplitl [H15]; · iexact H15
    iintro H15
    iapply (h1 { s with tot := rAll.overlay s.tot (k1_pay10 (F := F)) })
    isplitr [Hk H6]
    · iapply (state_pack arg5 arg7 arg9 arg10 arg11 arg13 arg14 arg15 arg16 c)
      isplitl [H5]; · iexact H5
      isplitl [H7]; · iexact H7
      isplitl [H9]; · iexact H9
      isplitl [H10]; · iexact H10
      isplitl [H11]; · iexact H11
      isplitl [H13]; · iexact H13
      isplitl [H14]; · iexact H14
      isplitl [H15]; · iexact H15
      iexact H16
    isplitl [H6]; · iexact H6
    iexact Hk
  · rw [if_neg hf, show clearStep i s = s from if_neg hf]
    exact h1 s

/-- What the output window's buffer holds after a grid point. -/
def outStep (x : Vec F S1024x1024 .f32) (gf : Vec F S1x1024 .f32) (s : Acc F) (o : Vec F S1024x1024 .f32) : Vec F S1024x1024 .f32 :=
  if k1_cond24 i = 1#1 then rAll.overlay o (k1_pay5 (View.ld s.tot rAll) (View.ld x rAll) (View.ld gf rG)) else o

/-- The triple of the whole body. -/
theorem body_triple (c : Dev nD) {K : PUnit → sProp (MM F)} {q : PosShare TreeShare} {tb : Vec F S16x8 .i32}
    {W : Wins F} {ec : Vec F S3x1024x128 .f32} {s : Acc F} {col : Vec F S1024x128 .f32} {x : Vec F S1024x1024 .f32} {gf : Vec F S1x1024 .f32} {o : Vec F S1024x1024 .f32} :
    iprop(State arg5 arg7 arg9 arg10 arg11 arg13 arg14 arg15 arg16 c W ec s ∗ owns (c : Thread nD τ) arg6 fullShare col
        ∗ owns (c : Thread nD τ) arg3 q tb ∗ owns (c : Thread nD τ) arg4 fullShare x ∗ owns (c : Thread nD τ) arg8 fullShare gf ∗ owns (c : Thread nD τ) arg12 fullShare o
        ∗ (iprop(State arg5 arg7 arg9 arg10 arg11 arg13 arg14 arg15 arg16 c W (planeStep i col ec) (subs i (cntAt i tb) W (planeStep i col ec) (clearStep i s))
            ∗ owns (c : Thread nD τ) arg6 fullShare col
            ∗ owns (c : Thread nD τ) arg3 q tb ∗ owns (c : Thread nD τ) arg4 fullShare x ∗ owns (c : Thread nD τ) arg8 fullShare gf
            ∗ owns (c : Thread nD τ) arg12 fullShare (outStep i x gf (subs i (cntAt i tb) W (planeStep i col ec) (clearStep i s)) o)) -∗ K ⟨⟩))
      ⊢ WP c (cc1_moe_experts (F := F) i arg3 harg3 arg4 harg4 arg5 harg5 arg6 harg6 arg7 harg7 arg8 harg8 arg9 harg9 arg10 harg10 arg11 harg11 arg12 harg12 arg13 harg13 arg14 harg14 arg15 harg15 arg16 harg16) K := by
  rw [body_eq, part2_eq]
  refine BIBase.Entails.trans ?_ (owned_bind c)
  iintro ⟨Hs, H6, H3, H4, H8, H12, Hk⟩
  iapply owned_smem c; isplitl [H3]; · iexact H3
  iintro H3
  iapply (mid_triple i arg5 arg6 arg7 arg9 arg10 arg11 arg13 harg13 arg14 arg15 arg16 c)
  isplitl [Hs]; · iexact Hs
  isplitl [H6]; · iexact H6
  iintro ⟨Hs, H6⟩
  iapply owned_ret c
  iapply (blk_triple (F := F) _ _ _ _ _ _ _ _ _ _ _ _ _ _ _ c)
  isplitl [Hs]; · iexact Hs
  iintro Hs
  unfold last
  by_cases h : k1_cond24 i = 1#1
  · rw [if_pos h]
    unfold outStep
    rw [if_pos h]
    ihave Hs := (state_open arg5 arg7 arg9 arg10 arg11 arg13 arg14 arg15 arg16 c) $$ Hs
    icases Hs with ⟨H5, H7, H9, H10, H11, H13, H14, H15, H16⟩
    iapply owned_load c; isplitl [H15]; · iexact H15
    iintro H15
    iapply owned_load c; isplitl [H4]; · iexact H4
    iintro H4
    iapply owned_load c; isplitl [H8]; · iexact H8
    iintro H8
    iapply owned_load c; isplitl [H12]; · iexact H12
    iintro H12
    iapply owned_store c; isplitl [H12]; · iexact H12
    iintro H12
    iapply owned_ret c
    iapply Hk
    isplitr [H6 H3 H4 H8 H12]
    · iapply (state_pack arg5 arg7 arg9 arg10 arg11 arg13 arg14 arg15 arg16 c)
      isplitl [H5]; · iexact H5
      isplitl [H7]; · iexact H7
      isplitl [H9]; · iexact H9
      isplitl [H10]; · iexact H10
      isplitl [H11]; · iexact H11
      isplitl [H13]; · iexact H13
      isplitl [H14]; · iexact H14
      isplitl [H15]; · iexact H15
      iexact H16
    isplitl [H6]; · iexact H6
    isplitl [H3]; · iexact H3
    isplitl [H4]; · iexact H4
    isplitl [H8]; · iexact H8
    iexact H12
  · rw [if_neg h]
    unfold outStep
    rw [if_neg h]
    iapply owned_ret c
    iapply Hk
    isplitl [Hs]; · iexact Hs
    isplitl [H6]; · iexact H6
    isplitl [H3]; · iexact H3
    isplitl [H4]; · iexact H4
    isplitl [H8]; · iexact H8
    iexact H12

end Cert.KernelIdeal.Moe

end
-- ==== Proof.Closed.lean ====
module

public import proofs.«01_k».proof.Proof.Body

/-! # What the expert kernel computes, in closed form

`Arrs` is what the kernel's windows hold, block by block. `HC` are the rows gathered for an expert,
`YY` its accumulator after a number of blocks of its columns, `TOT` the sum over the experts so far and
`OUT` the block written. `step_post` says that a grid point keeps them. -/

@[expose] public section

set_option maxRecDepth 16384

noncomputable section

namespace Cert.KernelIdeal.Moe

open Idealize.ShloMosaic Idealize.ShloMosaic.TcCoe
open Cert.KernelIdeal Cert.KernelIdeal.Gen

variable {F : FTy → Type} [FloatOps F]

/-- What the windows hold: rows by block of rows, weights by expert and block of columns. -/
structure Arrs (F : FTy → Type) [FloatOps F] where
  x : ℕ → Vec F S1024x1024 .f32
  hn : ℕ → Vec F S1024x1024 .bf16
  col : ℕ → Vec F S1024x128 .f32
  row : ℕ → Vec F S1x32x1024 .f32
  gf : Vec F S1x1024 .f32
  wg : ℕ → ℕ → Vec F S1x1024x896 .bf16
  wu : ℕ → ℕ → Vec F S1x1024x896 .bf16
  wd : ℕ → ℕ → Vec F S1x896x1024 .bf16
  tb : Vec F S16x8 .i32

/-- The grid point of a block of rows, an expert and a block of columns. -/
def at3 (i e f : ℕ) : grid1.Coords := fun
  | 0 => (⟨i % 16, Nat.mod_lt _ (by decide)⟩ : Fin 16)
  | 1 => (⟨e % 8, Nat.mod_lt _ (by decide)⟩ : Fin 8)
  | 2 => (⟨f % 4, Nat.mod_lt _ (by decide)⟩ : Fin 4)

/-- A grid point is the one of its coordinates. -/
theorem at3_self (p : grid1.Coords) : at3 (p 0).val (p 1).val (p 2).val = p := by
  funext a
  fin_cases a
  · exact Fin.ext (Nat.mod_eq_of_lt (p 0).isLt)
  · exact Fin.ext (Nat.mod_eq_of_lt (p 1).isLt)
  · exact Fin.ext (Nat.mod_eq_of_lt (p 2).isLt)

section conds

/-- The last block of columns is the fourth. -/
theorem lastF_iff (p : grid1.Coords) : lastF p = 1#1 ↔ (p 2).val = 3 := by
  have h : ∀ f : Fin 4, (Scalar.cmpi .ne (Scalar.extui (Scalar.cmpi .eq (BitVec.ofNat 32 f.val) 3#32) : BitVec 32) 0#32 = 1#1) ↔ f.val = 3 := by decide
  exact h (p 2)

/-- The first point of the rows is the first block of the first expert. -/
theorem firstP_iff (p : grid1.Coords) : firstP p = 1#1 ↔ (p 1).val = 0 ∧ (p 2).val = 0 := by
  have h : ∀ (e : Fin 8) (f : Fin 4), (Scalar.cmpi .ne (Scalar.extui (Scalar.andi (Scalar.cmpi .eq (BitVec.ofNat 32 e.val) 0#32) (Scalar.cmpi .eq (BitVec.ofNat 32 f.val) 0#32)) : BitVec 32) 0#32 = 1#1) ↔ e.val = 0 ∧ f.val = 0 := by decide
  exact h (p 1) (p 2)

/-- The rows are gathered at the first block of columns. -/
theorem cond4_iff (p : grid1.Coords) : k1_cond4 p = 1#1 ↔ (p 2).val = 0 := by
  have h : ∀ f : Fin 4, (Scalar.cmpi .ne (Scalar.extui (Scalar.cmpi .eq (BitVec.ofNat 32 f.val) 0#32) : BitVec 32) 0#32 = 1#1) ↔ f.val = 0 := by decide
  exact h (p 2)

/-- The block is written at the last point of the rows. -/
theorem cond24_iff (p : grid1.Coords) : k1_cond24 p = 1#1 ↔ (p 1).val = 7 ∧ (p 2).val = 3 := by
  have h : ∀ (e : Fin 8) (f : Fin 4), (Scalar.cmpi .ne (Scalar.extui (Scalar.andi (Scalar.cmpi .eq (BitVec.ofNat 32 e.val) 7#32) (Scalar.cmpi .eq (BitVec.ofNat 32 f.val) 3#32)) : BitVec 32) 0#32 = 1#1) ↔ e.val = 7 ∧ f.val = 3 := by decide
  exact h (p 1) (p 2)

end conds

section rects

/-- A load through the whole rectangle is the contents. -/
theorem ld_rAll {e : EltTy} (X : Vec F S1024x1024 e) : View.ld (e' := e) X rAll = X := by
  funext y
  refine congrArg X ?_
  funext a
  refine Fin.ext ?_
  fin_cases a
  · show 0 + 1 * _ = _; rw [Nat.zero_add, Nat.one_mul]
  · show 0 + 1 * _ = _; rw [Nat.zero_add, Nat.one_mul]

/-- A store through the whole rectangle replaces the contents. -/
theorem overlay_rAll {e : EltTy} (X G : Vec F S1024x1024 e) : rAll.overlay (α := Elt F e) X G = G := by
  have h : View.ld (e' := e) (rAll.overlay (α := Elt F e) X G) rAll = G := by
    funext y
    exact rAll.overlay_emb X G y
  rw [ld_rAll] at h
  exact h

/-- What a store wrote is read back. -/
theorem ld_overlay {s : Shape} {e : EltTy} (r : Rect s) (X : s.Idx → Elt F e) (G : r.shape.Idx → Elt F e) : View.ld (e' := e) (r.overlay X G) r = G := by
  funext y
  exact r.overlay_emb X G y

/-- A store elsewhere is not read. -/
theorem ld_overlay_other {s : Shape} {e : EltTy} (r r' : Rect s) (X : s.Idx → Elt F e) (G : r.shape.Idx → Elt F e) (h : ∀ y, r'.idx y ∉ r.set) :
    View.ld (e' := e) (r.overlay X G) r' = View.ld (e' := e) X r' := by
  funext y
  exact r.overlay_of_not_mem X G (h y)

/-- Where a sub-block starts. -/
theorem offJ_zero : ∀ j : Fin 7, offJ j 0 = lo j := by decide

/-- Sub-blocks do not meet. -/
theorem apart : ∀ j j' : Fin 7, j ≠ j' → lo j + szJ j 0 ≤ lo j' ∨ lo j' + szJ j' 0 ≤ lo j := by decide

/-- The rows of sub-block `j`. -/
abbrev rJ (j : Fin 7) : Rect S1024x1024 := rSub (szJ j) (offJ j) (hinJ j)

/-- An index of one sub-block is in no other. -/
theorem rJ_apart {j j' : Fin 7} (h : j ≠ j') (y : (rJ j').shape.Idx) : (rJ j').idx y ∉ (rJ j).set := by
  intro hm
  have h1 := (Rect.mem_set_unit.mp hm) 0
  have h2 : (((rJ j').idx y) 0).val = lo j' + (y 0).val := by
    show offJ j' 0 + 1 * (y 0).val = _
    rw [offJ_zero, Nat.one_mul]
  have h3 : (y 0).val < szJ j' 0 := (y 0).isLt
  rw [h2, offJ_zero] at h1
  rcases apart j j' h with h4 | h4 <;> omega

end rects

/-- The number of rows of an expert in a block of rows. -/
def cnt (A : Arrs F) (i e : ℕ) : BitVec 32 := cntAt (at3 i e 0) A.tb

/-- The rows gathered for an expert in sub-block `j`. -/
def HC (A : Arrs F) (i e : ℕ) (j : Fin 7) : Vec F ⟨2, szJ j⟩ .bf16 :=
  (payJ j).g (View.ld (A.row i) (Rect.unit (s := S1x32x1024) (k1_off2 (at3 i e 0) 8#32) S1x1x1024.size (in8 (at3 i e 0))))
    (View.ld (A.row i) (Rect.unit (s := S1x32x1024) (k1_off2 (at3 i e 0) 16#32) S1x1x1024.size (in16 (at3 i e 0)))) (View.ld (A.hn i) rAll)

/-- The accumulator of an expert in sub-block `j` after `f` blocks of its columns. -/
def YY (A : Arrs F) (i e : ℕ) (j : Fin 7) : ℕ → Vec F ⟨2, szJ j⟩ .f32
  | 0 => (payJ j).z
  | f + 1 => (payJ j).d (HC A i e j) (View.ld (A.wg e f) rW) (View.ld (A.wu e f) rW) (YY A i e j f) (View.ld (A.wd e f) rD)

/-- The sum after sub-block `j` of an expert, from the sum before. -/
def placed (A : Arrs F) (i e : ℕ) (j : Fin 7) (T : Vec F S1024x1024 .f32) : Vec F S1024x1024 .f32 :=
  if actJ (cnt A i e) j = 1#1 then
    (payJ j).p (k1_pay8 (BitVec.ofNat 32 e) (View.ld (A.col i) rC)) (k1_pay11 (k1_pay9 (BitVec.ofNat 32 e) (View.ld (A.col i) rC))) T
      (k1_pay7 (BitVec.ofNat 32 e) (View.ld (A.col i) rC)) (YY A i e j 4)
  else T

/-- The sum over the first `e` experts. -/
def TOT (A : Arrs F) (i : ℕ) : ℕ → Vec F S1024x1024 .f32
  | 0 => k1_pay10
  | e + 1 => placed A i e 6 (placed A i e 5 (placed A i e 4 (placed A i e 3 (placed A i e 2 (placed A i e 1 (placed A i e 0 (TOT A i e)))))))

/-- The block of rows written. -/
def OUT (A : Arrs F) (i : ℕ) : Vec F S1024x1024 .f32 := k1_pay5 (TOT A i 8) (A.x i) (View.ld A.gf rG)

/-- What holds of the scratch buffers before a grid point. -/
def Inv (A : Arrs F) (i e f : ℕ) (s : Acc F) : Prop :=
  (¬ (e = 0 ∧ f = 0) → s.tot = TOT A i e) ∧
    (f ≠ 0 → ∀ j, actJ (cnt A i e) j = 1#1 → View.ld (e' := .bf16) s.hc (rJ j) = HC A i e j ∧ View.ld (e' := .f32) s.y (rJ j) = YY A i e j f)

/-- The windows' contents at a grid point. -/
def winsOf (A : Arrs F) (p : grid1.Coords) : Wins F :=
  ⟨A.hn (p 0).val, A.row (p 0).val, A.wg (p 1).val (p 2).val, A.wu (p 1).val (p 2).val, A.wd (p 1).val (p 2).val⟩

section steps
variable (A : Arrs F) (p : grid1.Coords) (ec : Vec F S3x1024x128 .f32)

/-- Only the expert's coordinate moves the rank and choice rows. -/
theorem off_at3 (b : BitVec 32) : k1_off2 (at3 (p 0).val (p 1).val 0) b = k1_off2 p b := by
  have h : ((at3 (p 0).val (p 1).val 0) 1).val = (p 1).val := Nat.mod_eq_of_lt (p 1).isLt
  unfold k1_off2
  rw [h]

/-- The rows a grid point gathers are its expert's. -/
theorem HC_at (j : Fin 7) :
    (payJ j).g (View.ld (A.row (p 0).val) (Rect.unit (s := S1x32x1024) (k1_off2 p 8#32) S1x1x1024.size (in8 p)))
      (View.ld (A.row (p 0).val) (Rect.unit (s := S1x32x1024) (k1_off2 p 16#32) S1x1x1024.size (in16 p))) (View.ld (A.hn (p 0).val) rAll)
      = HC A (p 0).val (p 1).val j := by
  have gen : ∀ (o o' o2 o2' : Fin 3 → ℕ) (h h' h2 h2'), o = o' → o2 = o2' →
      (payJ (F := F) j).g (View.ld (A.row (p 0).val) (Rect.unit (s := S1x32x1024) o S1x1x1024.size h)) (View.ld (A.row (p 0).val) (Rect.unit (s := S1x32x1024) o2 S1x1x1024.size h2)) (View.ld (A.hn (p 0).val) rAll)
      = (payJ j).g (View.ld (A.row (p 0).val) (Rect.unit (s := S1x32x1024) o' S1x1x1024.size h')) (View.ld (A.row (p 0).val) (Rect.unit (s := S1x32x1024) o2' S1x1x1024.size h2')) (View.ld (A.hn (p 0).val) rAll) := by
    intro o o' o2 o2' h h' h2 h2' e1 e2; subst e1 e2; rfl
  exact gen _ _ _ _ _ _ _ _ (off_at3 p _).symm (off_at3 p _).symm

/-- The count a grid point loads is its expert's. -/
theorem cnt_at : cntAt p A.tb = cnt A (p 0).val (p 1).val := by
  have h0 : ((at3 (p 0).val (p 1).val 0) 0).val = (p 0).val := Nat.mod_eq_of_lt (p 0).isLt
  have h1 : ((at3 (p 0).val (p 1).val 0) 1).val = (p 1).val := Nat.mod_eq_of_lt (p 1).isLt
  have e : k1_off1 (at3 (p 0).val (p 1).val 0) = k1_off1 p := by rw [k1_off1_eq, k1_off1_eq, h0, h1]
  have gen : ∀ (o o' : Fin 2 → ℕ) (h h'), o = o' →
      View.ld (e' := .i32) A.tb (Rect.unit (s := S16x8) o S1x1.size h) (Shape.Idx.first (numel1_S1x1.symm ▸ Nat.one_pos))
        = View.ld (e' := .i32) A.tb (Rect.unit (s := S16x8) o' S1x1.size h') (Shape.Idx.first (numel1_S1x1.symm ▸ Nat.one_pos)) := by
    intro o o' h h' e; subst e; rfl
  exact gen _ _ _ _ e.symm

/-- A sub-block leaves the others as they were. -/
theorem subJ_other {v2 : BitVec 32} {W : Wins F} {j j' : Fin 7} (h : j ≠ j') (s : Acc F) :
    View.ld (e' := .bf16) (subJ p v2 j W ec s).hc (rJ j') = View.ld (e' := .bf16) s.hc (rJ j')
      ∧ View.ld (e' := .f32) (subJ p v2 j W ec s).y (rJ j') = View.ld (e' := .f32) s.y (rJ j') := by
  unfold subJ Sub
  have hn := rJ_apart h
  by_cases hv : actJ v2 j = 1#1
  · rw [if_pos hv]
    by_cases h1 : k1_cond4 p = 1#1 <;> by_cases h3 : lastF p = 1#1
    all_goals
      simp only [h1, h3, if_true, if_false, dif_pos, dif_neg, not_false_eq_true, gatherStep, downStep, placeStep]
      first
      | exact ⟨rfl, ld_overlay_other _ _ _ _ hn⟩
      | exact ⟨ld_overlay_other _ _ _ _ hn, (ld_overlay_other _ _ _ _ hn).trans (ld_overlay_other _ _ _ _ hn)⟩
      | (refine ⟨?_, ?_⟩ <;> simp [ld_overlay_other _ _ _ _ hn])
  · rw [if_neg hv]; exact ⟨rfl, rfl⟩

/-- A sub-block with rows, from what holds before it to what holds after. -/
theorem subJ_self {j : Fin 7} (hv : actJ (cnt A (p 0).val (p 1).val) j = 1#1) (s : Acc F)
    (hs : (p 2).val ≠ 0 → View.ld (e' := .bf16) s.hc (rJ j) = HC A (p 0).val (p 1).val j ∧ View.ld (e' := .f32) s.y (rJ j) = YY A (p 0).val (p 1).val j (p 2).val) :
    View.ld (e' := .bf16) (subJ p (cnt A (p 0).val (p 1).val) j (winsOf A p) ec s).hc (rJ j) = HC A (p 0).val (p 1).val j
      ∧ View.ld (e' := .f32) (subJ p (cnt A (p 0).val (p 1).val) j (winsOf A p) ec s).y (rJ j) = YY A (p 0).val (p 1).val j ((p 2).val + 1)
      ∧ (subJ p (cnt A (p 0).val (p 1).val) j (winsOf A p) ec s).tot =
        if (p 2).val = 3 then (payJ j).p (View.ld ec rE1) (View.ld ec rE2) s.tot (View.ld ec rE0) (YY A (p 0).val (p 1).val j 4) else s.tot := by
  unfold subJ Sub
  rw [if_pos hv]
  -- the state after the gathering, if any
  obtain ⟨s1, hs1, e1, e2, e3⟩ : ∃ s1 : Acc F, (if h : k1_cond4 p = 1#1 then
      gatherStep (szJ j) (offJ j) (hinJ j) (payJ j) (k1_off2 p 8#32) (k1_off2 p 16#32) (in8 p) (in16 p) (winsOf A p) s else s) = s1
      ∧ View.ld (e' := .bf16) s1.hc (rJ j) = HC A (p 0).val (p 1).val j ∧ View.ld (e' := .f32) s1.y (rJ j) = YY A (p 0).val (p 1).val j (p 2).val ∧ s1.tot = s.tot := by
    refine ⟨_, rfl, ?_⟩
    by_cases h : k1_cond4 p = 1#1
    · rw [dif_pos h]
      have hf := (cond4_iff p).mp h
      refine ⟨(ld_overlay _ _ _).trans (HC_at A p j), ?_, rfl⟩
      rw [hf]
      exact ld_overlay _ _ _
    · rw [dif_neg h]
      have hf : (p 2).val ≠ 0 := fun h' => h ((cond4_iff p).mpr h')
      exact ⟨(hs hf).1, (hs hf).2, rfl⟩
  have e4 : View.ld (e' := .f32) (downStep (szJ j) (offJ j) (hinJ j) (payJ j) (winsOf A p) s1).y (rJ j) = YY A (p 0).val (p 1).val j ((p 2).val + 1) := by
    refine (ld_overlay _ _ _).trans ?_
    show (payJ j).d (View.ld (e' := .bf16) s1.hc (rJ j)) _ _ (View.ld (e' := .f32) s1.y (rJ j)) _ = _
    rw [e1, e2]
    rfl
  by_cases h3 : lastF p = 1#1
  · have hf := (lastF_iff p).mp h3
    dsimp only
    rw [hs1, if_pos h3, if_pos hf]
    refine ⟨e1, e4, ?_⟩
    refine (overlay_rAll _ _).trans ?_
    show (payJ j).p _ _ (View.ld (e' := .f32) s1.tot rAll) _ (View.ld (e' := .f32) (downStep (szJ j) (offJ j) (hinJ j) (payJ j) (winsOf A p) s1).y (rJ j)) = _
    rw [e4, ld_rAll, e3, hf]
  · have hf : (p 2).val ≠ 3 := fun h => h3 ((lastF_iff p).mpr h)
    dsimp only
    rw [hs1, if_neg h3, if_neg hf]
    exact ⟨e1, e4, e3⟩

/-- A sub-block without rows does nothing. -/
theorem subJ_off {v2 : BitVec 32} {W : Wins F} {j : Fin 7} (hv : ¬ actJ v2 j = 1#1) (s : Acc F) : subJ p v2 j W ec s = s := by
  unfold subJ Sub
  rw [if_neg hv]

/-- What holds of the scratch buffers before sub-block `k` of a grid point. -/
def Mid (k : ℕ) (T : Vec F S1024x1024 .f32) (s : Acc F) : Prop :=
  s.tot = T ∧ ∀ j, actJ (cnt A (p 0).val (p 1).val) j = 1#1 →
    (j.val < k → View.ld (e' := .bf16) s.hc (rJ j) = HC A (p 0).val (p 1).val j ∧ View.ld (e' := .f32) s.y (rJ j) = YY A (p 0).val (p 1).val j ((p 2).val + 1)) ∧
    (k ≤ j.val → (p 2).val ≠ 0 → View.ld (e' := .bf16) s.hc (rJ j) = HC A (p 0).val (p 1).val j ∧ View.ld (e' := .f32) s.y (rJ j) = YY A (p 0).val (p 1).val j (p 2).val)

/-- The expert's planes hold its gates, ranks and choices at the last block of its columns. -/
def Planes : Prop := (p 2).val = 3 →
  View.ld (e' := .f32) ec rE0 = k1_pay7 (BitVec.ofNat 32 (p 1).val) (View.ld (A.col (p 0).val) rC)
    ∧ View.ld (e' := .f32) ec rE1 = k1_pay8 (BitVec.ofNat 32 (p 1).val) (View.ld (A.col (p 0).val) rC)
    ∧ View.ld (e' := .f32) ec rE2 = k1_pay11 (k1_pay9 (BitVec.ofNat 32 (p 1).val) (View.ld (A.col (p 0).val) rC))

/-- One sub-block takes what holds before it to what holds before the next. -/
theorem mid_step (hp : Planes A p ec) (k : Fin 7) {T : Vec F S1024x1024 .f32} {s : Acc F} (h : Mid A p k.val T s) :
    Mid A p (k.val + 1) (if (p 2).val = 3 then placed A (p 0).val (p 1).val k T else T) (subJ p (cnt A (p 0).val (p 1).val) k (winsOf A p) ec s) := by
  obtain ⟨ht, hj⟩ := h
  by_cases hv : actJ (cnt A (p 0).val (p 1).val) k = 1#1
  · obtain ⟨e1, e2, e3⟩ := subJ_self A p ec hv s ((hj k hv).2 le_rfl)
    refine ⟨?_, fun j hja => ?_⟩
    · rw [e3, ht]
      by_cases h3 : (p 2).val = 3
      · obtain ⟨p0, p1, p2⟩ := hp h3
        rw [if_pos h3, if_pos h3, p0, p1, p2]
        unfold placed
        rw [if_pos hv]
      · rw [if_neg h3, if_neg h3]
    · by_cases hjk : k = j
      · subst hjk
        exact ⟨fun _ => ⟨e1, e2⟩, fun h => absurd h (by omega)⟩
      · have hne : k.val ≠ j.val := fun h => hjk (Fin.ext h)
        obtain ⟨o1, o2⟩ := subJ_other p ec (v2 := cnt A (p 0).val (p 1).val) (W := winsOf A p) hjk s
        rw [o1, o2]
        exact ⟨fun h => (hj j hja).1 (by omega), fun h => (hj j hja).2 (by omega)⟩
  · rw [subJ_off p ec hv]
    refine ⟨?_, fun j hja => ?_⟩
    · by_cases h3 : (p 2).val = 3
      · rw [if_pos h3, ht]; unfold placed; rw [if_neg hv]
      · rw [if_neg h3, ht]
    · have hne : k.val ≠ j.val := fun h => hv (by rw [Fin.ext h]; exact hja)
      exact ⟨fun h => (hj j hja).1 (by omega), fun h => (hj j hja).2 (by omega)⟩

/-- The planes after they are spread. -/
theorem planes_step : Planes A p (planeStep p (A.col (p 0).val) ec) := by
  intro h3
  unfold planeStep
  rw [if_pos ((lastF_iff p).mpr h3)]
  have n01 : ∀ y, rE0.idx y ∉ rE1.set := fun y hm => by
    have h := (Rect.mem_set_unit.mp hm) 0
    have h2 : ((rE0.idx y) 0).val = 0 + 1 * (y 0).val := rfl
    have h4 : (y 0).val < 1 := (y 0).isLt
    have h5 : (1 : ℕ) ≤ ((rE0.idx y) 0).val := h.1
    omega
  have n02 : ∀ y, rE0.idx y ∉ rE2.set := fun y hm => by
    have h := (Rect.mem_set_unit.mp hm) 0
    have h2 : ((rE0.idx y) 0).val = 0 + 1 * (y 0).val := rfl
    have h4 : (y 0).val < 1 := (y 0).isLt
    have h5 : (2 : ℕ) ≤ ((rE0.idx y) 0).val := h.1
    omega
  have n12 : ∀ y, rE1.idx y ∉ rE2.set := fun y hm => by
    have h := (Rect.mem_set_unit.mp hm) 0
    have h2 : ((rE1.idx y) 0).val = 1 + 1 * (y 0).val := rfl
    have h4 : (y 0).val < 1 := (y 0).isLt
    have h5 : (2 : ℕ) ≤ ((rE1.idx y) 0).val := h.1
    omega
  refine ⟨?_, ?_, ?_⟩
  · exact (ld_overlay_other (e := .f32) _ _ _ _ n02).trans ((ld_overlay_other (e := .f32) _ _ _ _ n01).trans (ld_overlay (e := .f32) _ _ _))
  · exact (ld_overlay_other (e := .f32) _ _ _ _ n12).trans (ld_overlay (e := .f32) _ _ _)
  · exact ld_overlay (e := .f32) _ _ _

/-- A grid point from what holds before it: the sum, the rows and the accumulators after it. -/
theorem step_post {s : Acc F} (h : Inv A (p 0).val (p 1).val (p 2).val s) :
    Mid A p 7 (if (p 2).val = 3 then TOT A (p 0).val ((p 1).val + 1) else TOT A (p 0).val (p 1).val)
      (subs p (cntAt p A.tb) (winsOf A p) (planeStep p (A.col (p 0).val) ec) (clearStep p s)) := by
  rw [cnt_at]
  have hp := planes_step A p ec
  have h0 : Mid A p 0 (TOT A (p 0).val (p 1).val) (clearStep p s) := by
    unfold clearStep
    by_cases hf : firstP p = 1#1
    · obtain ⟨he, hf0⟩ := (firstP_iff p).mp hf
      rw [if_pos hf]
      refine ⟨(overlay_rAll _ _).trans (by rw [he]; rfl), fun j hj => ⟨fun h => absurd h (by omega), fun _ h => absurd hf0 h⟩⟩
    · rw [if_neg hf]
      exact ⟨h.1 (fun hh => hf ((firstP_iff p).mpr hh)), fun j hj => ⟨fun h => absurd h (by omega), fun _ hh => h.2 hh j hj⟩⟩
  have h7 := mid_step A p _ hp 6 (mid_step A p _ hp 5 (mid_step A p _ hp 4 (mid_step A p _ hp 3 (mid_step A p _ hp 2 (mid_step A p _ hp 1 (mid_step A p _ hp 0 h0))))))
  by_cases h3 : (p 2).val = 3
  · simp only [if_pos h3] at h7 ⊢
    exact h7
  · simp only [if_neg h3] at h7 ⊢
    exact h7

end steps

end Cert.KernelIdeal.Moe

end
-- ==== Proof.Blocks.lean ====
module

public import proofs.«01_k».proof.Proof.Closed

/-! # The blocks of the expert kernel's windows

Which elements of its array a window's block is, and at which grid points the windows move. -/

@[expose] public section

set_option maxRecDepth 16384

noncomputable section

namespace Cert.KernelIdeal.Moe

open Idealize.ShloMosaic Idealize.ShloMosaic.TcCoe
open Cert.KernelIdeal Cert.KernelIdeal.Gen

variable {F : FTy → Type} [FloatOps F]

/-- The index of a matrix at a row and a column. -/
def ix2 {n m : ℕ} (i : Fin n) (j : Fin m) : Shape.Idx ⟨2, ![n, m]⟩ := fun
  | 0 => i
  | 1 => j

/-- The index of an array of three axes. -/
def ix3 {n m k : ℕ} (i : Fin n) (j : Fin m) (l : Fin k) : Shape.Idx ⟨3, ![n, m, k]⟩ := fun
  | 0 => i
  | 1 => j
  | 2 => l

/-- Row `r` of block `i` of 1024 rows. -/
def rowOf (i : ℕ) (r : Fin 1024) : Fin 16384 := ⟨1024 * (i % 16) + r.val, by omega⟩
/-- Column `k` of block `f` of 896 columns. -/
def midOf (f : ℕ) (k : Fin 896) : Fin 3584 := ⟨896 * (f % 4) + k.val, by omega⟩
/-- Expert `e`. -/
def expOf (e : ℕ) : Fin 8 := ⟨e % 8, Nat.mod_lt _ (by decide)⟩

/-- Block `i` of the rows of a 16384-row array. -/
def rowBlk {e : EltTy} (X : Vec F S16384x1024 e) (i : ℕ) : Vec F S1024x1024 e := fun y => X (ix2 (rowOf i (y 0)) (y 1))

/-- Block `i` of the rows of the table by rows. -/
def colBlk {e : EltTy} (X : Vec F S16384x128 e) (i : ℕ) : Vec F S1024x128 e := fun y => X (ix2 (rowOf i (y 0)) (y 1))

/-- Block `i` of the table by lanes. -/
def laneBlk {e : EltTy} (X : Vec F S16x32x1024 e) (i : ℕ) : Vec F S1x32x1024 e :=
  fun y => X (ix3 (⟨i % 16, Nat.mod_lt _ (by decide)⟩ : Fin 16) (y 1) (y 2))

/-- Block `f` of the columns of expert `e`'s gate or up weights. -/
def upBlk {t : EltTy} (X : Vec F S8x1024x3584 t) (e f : ℕ) : Vec F S1x1024x896 t := fun y => X (ix3 (expOf e) (y 1) (midOf f (y 2)))

/-- Block `f` of the rows of expert `e`'s down weights. -/
def downBlk {t : EltTy} (X : Vec F S8x3584x1024 t) (e f : ℕ) : Vec F S1x896x1024 t := fun y => X (ix3 (expOf e) (midOf f (y 1)) (y 2))

/-- The windows' contents from their arrays. -/
def arrs (x : Vec F S16384x1024 .f32) (hn : Vec F S16384x1024 .bf16) (col : Vec F S16384x128 .f32) (row : Vec F S16x32x1024 .f32)
    (gf : Vec F S1x1024 .f32) (wg wu : Vec F S8x1024x3584 .bf16) (wd : Vec F S8x3584x1024 .bf16) (tb : Vec F S16x8 .i32) : Arrs F :=
  ⟨rowBlk x, rowBlk hn, colBlk col, laneBlk row, gf, upBlk wg, upBlk wu, downBlk wd, tb⟩

section blocks
variable (a : (pcfg1 (F := F)).Adm) (t : Fin (cfg1 a).N)

/-- The block of rows of a grid point is below 16. -/
theorem co0 (p : grid1.Coords) : (p 0).val < 16 := (p 0).isLt
/-- The expert of a grid point is below 8. -/
theorem co1 (p : grid1.Coords) : (p 1).val < 8 := (p 1).isLt
/-- The block of columns of a grid point is below 4. -/
theorem co2 (p : grid1.Coords) : (p 2).val < 4 := (p 2).isLt

/-- Window 0's block is its block of rows. -/
theorem blk1_0 (X : Vec F S16384x1024 .f32) : ((win1 a 0).blk t).view.read (Elt F) X = rowBlk X (grid1.coords t 0).val := by
  funext y
  have h := co0 (grid1.coords t)
  show X _ = X _
  refine congrArg X ?_
  funext b
  refine Fin.ext ?_
  fin_cases b
  · show (BitVec.ofNat 32 (grid1.coords t 0).val).toNat * 1024 + 1 * (y 0).val = 1024 * ((grid1.coords t 0).val % 16) + (y 0).val
    rw [BitVec.toNat_ofNat]; omega
  · show 0 * 1024 + 1 * (y 1).val = (y 1).val
    omega

/-- Window 1's block is its block of rows. -/
theorem blk1_1 (X : Vec F S16384x1024 .bf16) : ((win1 a 1).blk t).view.read (Elt F) X = rowBlk X (grid1.coords t 0).val := by
  funext y
  have h := co0 (grid1.coords t)
  show X _ = X _
  refine congrArg X ?_
  funext b
  refine Fin.ext ?_
  fin_cases b
  · show (BitVec.ofNat 32 (grid1.coords t 0).val).toNat * 1024 + 1 * (y 0).val = 1024 * ((grid1.coords t 0).val % 16) + (y 0).val
    rw [BitVec.toNat_ofNat]; omega
  · show 0 * 1024 + 1 * (y 1).val = (y 1).val
    omega

/-- Window 2's block is its block of rows. -/
theorem blk1_2 (X : Vec F S16384x128 .f32) : ((win1 a 2).blk t).view.read (Elt F) X = colBlk X (grid1.coords t 0).val := by
  funext y
  have h := co0 (grid1.coords t)
  show X _ = X _
  refine congrArg X ?_
  funext b
  refine Fin.ext ?_
  fin_cases b
  · show (BitVec.ofNat 32 (grid1.coords t 0).val).toNat * 1024 + 1 * (y 0).val = 1024 * ((grid1.coords t 0).val % 16) + (y 0).val
    rw [BitVec.toNat_ofNat]; omega
  · show 0 * 128 + 1 * (y 1).val = (y 1).val
    omega

/-- Window 3's block is its slab. -/
theorem blk1_3 (X : Vec F S16x32x1024 .f32) : ((win1 a 3).blk t).view.read (Elt F) X = laneBlk X (grid1.coords t 0).val := by
  funext y
  have h := co0 (grid1.coords t)
  show X _ = X _
  refine congrArg X ?_
  funext b
  refine Fin.ext ?_
  fin_cases b
  · have h0 : (y 0).val < 1 := (y 0).isLt
    show (BitVec.ofNat 32 (grid1.coords t 0).val).toNat * 1 + 1 * (y 0).val = (grid1.coords t 0).val % 16
    rw [BitVec.toNat_ofNat]; omega
  · show 0 * 32 + 1 * (y 1).val = (y 1).val
    omega
  · show 0 * 1024 + 1 * (y 2).val = (y 2).val
    omega

/-- Window 4's block is its array. -/
theorem blk1_4 (X : Vec F S1x1024 .f32) : ((win1 a 4).blk t).view.read (Elt F) X = X := by
  funext y
  show X _ = X _
  refine congrArg X ?_
  funext b
  refine Fin.ext ?_
  fin_cases b
  · show 0 * 1 + 1 * (y 0).val = (y 0).val
    omega
  · show 0 * 1024 + 1 * (y 1).val = (y 1).val
    omega

/-- Window 5's block is its expert's block. -/
theorem blk1_5 (X : Vec F S8x1024x3584 .bf16) : ((win1 a 5).blk t).view.read (Elt F) X = upBlk X (grid1.coords t 1).val (grid1.coords t 2).val := by
  funext y
  have h := co1 (grid1.coords t)
  have h2 := co2 (grid1.coords t)
  show X _ = X _
  refine congrArg X ?_
  funext b
  refine Fin.ext ?_
  fin_cases b
  · have h0 : (y 0).val < 1 := (y 0).isLt
    show (BitVec.ofNat 32 (grid1.coords t 1).val).toNat * 1 + 1 * (y 0).val = (grid1.coords t 1).val % 8
    rw [BitVec.toNat_ofNat]; omega
  · show 0 * 1024 + 1 * (y 1).val = (y 1).val
    omega
  · show (BitVec.ofNat 32 (grid1.coords t 2).val).toNat * 896 + 1 * (y 2).val = 896 * ((grid1.coords t 2).val % 4) + (y 2).val
    rw [BitVec.toNat_ofNat]; omega

/-- Window 6's block is its expert's block. -/
theorem blk1_6 (X : Vec F S8x1024x3584 .bf16) : ((win1 a 6).blk t).view.read (Elt F) X = upBlk X (grid1.coords t 1).val (grid1.coords t 2).val := by
  funext y
  have h := co1 (grid1.coords t)
  have h2 := co2 (grid1.coords t)
  show X _ = X _
  refine congrArg X ?_
  funext b
  refine Fin.ext ?_
  fin_cases b
  · have h0 : (y 0).val < 1 := (y 0).isLt
    show (BitVec.ofNat 32 (grid1.coords t 1).val).toNat * 1 + 1 * (y 0).val = (grid1.coords t 1).val % 8
    rw [BitVec.toNat_ofNat]; omega
  · show 0 * 1024 + 1 * (y 1).val = (y 1).val
    omega
  · show (BitVec.ofNat 32 (grid1.coords t 2).val).toNat * 896 + 1 * (y 2).val = 896 * ((grid1.coords t 2).val % 4) + (y 2).val
    rw [BitVec.toNat_ofNat]; omega

/-- Window 7's block is its expert's block. -/
theorem blk1_7 (X : Vec F S8x3584x1024 .bf16) : ((win1 a 7).blk t).view.read (Elt F) X = downBlk X (grid1.coords t 1).val (grid1.coords t 2).val := by
  funext y
  have h := co1 (grid1.coords t)
  have h2 := co2 (grid1.coords t)
  show X _ = X _
  refine congrArg X ?_
  funext b
  refine Fin.ext ?_
  fin_cases b
  · have h0 : (y 0).val < 1 := (y 0).isLt
    show (BitVec.ofNat 32 (grid1.coords t 1).val).toNat * 1 + 1 * (y 0).val = (grid1.coords t 1).val % 8
    rw [BitVec.toNat_ofNat]; omega
  · show (BitVec.ofNat 32 (grid1.coords t 2).val).toNat * 896 + 1 * (y 1).val = 896 * ((grid1.coords t 2).val % 4) + (y 1).val
    rw [BitVec.toNat_ofNat]; omega
  · show 0 * 1024 + 1 * (y 2).val = (y 2).val
    omega

/-- The result's block is written back at the last point of its rows. -/
theorem flush1_8 : (win1 a 8).flush t = true ↔ t.val % 32 = 31 :=
  Pipeline.Window.flush_reads (win1 a 8) rfl 0 (by decide) (show grid1.fixedAfter reads1_8 0 = true by decide) (Pipeline.Window.sep_of_coord cc1_transform_8 0 0 (fun _ => rfl) (by decide)) (P := 32) (m := 31) (by decide) rfl t

end blocks

end Cert.KernelIdeal.Moe

end
-- ==== Proof.Experts.lean ====
module

public import proofs.«01_k».proof.Proof.Blocks

/-! # The expert kernel's launch

The launch's proof data over the arrays it is entered with: before a point the scratch buffers hold
what `Inv` says, every input window its block, and the result's window is written at the last point
of a block of rows, with `OUT`. -/

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

/-- The windows' contents from a valuation of the buffers, the table at `a`. -/
def arrsOf (a : (pcfg1 (F := F)).Adm) (V : Valuation τ sig (Elt F)) : Arrs F :=
  arrs (V main_arg0) (V main_v6_0) (V main_v6_1) (V main_v6_2) (V main_v2) (V main_v3) (V main_v4) (V main_v5) (a.1 0)

section point
variable (a : (pcfg1 (F := F)).Adm) (t : Fin (cfg1 a).N)

/-- There are 512 points. -/
theorem lt512 : t.val < 512 := lt_of_lt_of_eq t.isLt N_1
/-- A point's block of rows. -/
theorem p0 : (grid1.coords t 0).val = t.val / 32 := by
  rw [Pipeline.Grid.coords_val (G := grid1) t 0 (S := 32) (B := 16) (by decide) rfl]
  have := lt512 a t; omega
/-- A point's expert. -/
theorem p1 : (grid1.coords t 1).val = t.val % 32 / 4 := by
  rw [Pipeline.Grid.coords_val (G := grid1) t 1 (S := 4) (B := 8) (by decide) rfl]
  omega
/-- A point's block of columns. -/
theorem p2 : (grid1.coords t 2).val = t.val % 4 := by
  rw [Pipeline.Grid.coords_val (G := grid1) t 2 (S := 1) (B := 4) (by decide) rfl]
  omega

end point

/-- What holds of the scratch buffers before point `n`. -/
def InvN (A : Arrs F) (n : ℕ) (s : Acc F) : Prop := Inv A (n / 32) (n % 32 / 4) (n % 4) s

/-- A point keeps what holds of the scratch buffers. -/
theorem invN_step (A : Arrs F) (a : (pcfg1 (F := F)).Adm) (t : Fin (cfg1 a).N) (ec : Vec F S3x1024x128 .f32) {s : Acc F} (h : InvN A t.val s) :
    InvN A (t.val + 1) (subs (grid1.coords t) (cntAt (grid1.coords t) A.tb) (winsOf A (grid1.coords t)) (planeStep (grid1.coords t) (A.col (grid1.coords t 0).val) ec) (clearStep (grid1.coords t) s)) := by
  have hp := step_post A (grid1.coords t) ec (s := s) (by rw [p0 a t, p1 a t, p2 a t]; exact h)
  have e0 := p0 a t
  have e1 := p1 a t
  have e2 := p2 a t
  generalize subs (F := F) (grid1.coords t) _ _ _ _ = s' at hp ⊢
  unfold Mid at hp
  rw [e0, e1, e2] at hp
  obtain ⟨ht, hj⟩ := hp
  unfold InvN Inv
  by_cases h3 : t.val % 4 = 3
  · rw [if_pos h3] at ht
    refine ⟨fun hne => ?_, fun hne => absurd ?_ hne⟩
    · rw [ht]
      have q0 : (t.val + 1) / 32 = t.val / 32 := by omega
      have q1 : (t.val + 1) % 32 / 4 = t.val % 32 / 4 + 1 := by omega
      rw [q0, q1]
    · omega
  · rw [if_neg h3] at ht
    have q0 : (t.val + 1) / 32 = t.val / 32 := by omega
    have q1 : (t.val + 1) % 32 / 4 = t.val % 32 / 4 := by omega
    have q2 : (t.val + 1) % 4 = t.val % 4 + 1 := by omega
    rw [q0, q1, q2]
    refine ⟨fun _ => ht, fun _ j hja => ?_⟩
    exact (hj j hja).1 j.isLt

/-- The sum over the experts at the last point of a block of rows. -/
theorem tot_last (A : Arrs F) (a : (pcfg1 (F := F)).Adm) (t : Fin (cfg1 a).N) (ec : Vec F S3x1024x128 .f32) {s : Acc F} (h : InvN A t.val s)
    (hl : k1_cond24 (grid1.coords t) = 1#1) :
    (subs (grid1.coords t) (cntAt (grid1.coords t) A.tb) (winsOf A (grid1.coords t)) (planeStep (grid1.coords t) (A.col (grid1.coords t 0).val) ec) (clearStep (grid1.coords t) s)).tot
      = TOT A (grid1.coords t 0).val 8 := by
  have hp := (step_post A (grid1.coords t) ec (s := s) (by rw [p0 a t, p1 a t, p2 a t]; exact h)).1
  obtain ⟨h7, h3⟩ := (cond24_iff _).mp hl
  rw [hp, if_pos h3, h7]

section dat
variable (a : (pcfg1 (F := F)).Adm) (V : Valuation τ sig (Elt F)) (c : Dev nD)

/-- A buffer at some contents. -/
abbrev anyAt (r : Ref sig .tc) : sProp (MM F) := iprop(∃ f : Buf (Elt F) ((c : Thread nD τ).loc r), ((c : Thread nD τ).loc r) ↦{fullShare} f)

/-- The first kernel's staging buffers, at some contents. -/
def idleBufs : sProp (MM F) :=
  iprop(anyAt c cc0_stg0_0 ∗ anyAt c cc0_stg0_1 ∗ anyAt c cc0_stg1_0 ∗ anyAt c cc0_stg2_0 ∗ anyAt c cc0_stg3_0 ∗ anyAt c cc0_stg3_1
    ∗ anyAt c cc0_stg4_0 ∗ anyAt c cc0_stg4_1 ∗ anyAt c cc0_stg5_0 ∗ anyAt c cc0_stg5_1 ∗ anyAt c cc0_stg6_0 ∗ anyAt c cc0_stg6_1)

/-- What is held between the points: the scratch buffers with what holds of them, the table, the rest. -/
def Between (n : ℕ) : sProp (MM F) :=
  iprop(∃ (s : Acc F) (ec : Vec F S3x1024x128 .f32), ⌜InvN (arrsOf a V) n s⌝
    ∗ owns (c : Thread nD τ) (Memref.whole cc1_scratch0) fullShare s.hc ∗ owns (c : Thread nD τ) (Memref.whole cc1_scratch1) fullShare s.y
    ∗ owns (c : Thread nD τ) (Memref.whole cc1_scratch2) fullShare s.tot ∗ owns (c : Thread nD τ) (Memref.whole cc1_scratch3) fullShare ec
    ∗ owns (c : Thread nD τ) (Memref.whole main_v8) fullShare (arrsOf a V).tb ∗ idleBufs (F := F) c)

/-- The launch's proof data. -/
def dat1 : Dat τ (Elt F) Unit ℕ (UR sig nD τ) ℕ (cfg1 a) c where
  A w := V (Proc.devRef .tc (Pipeline.arrRef spec1 w))
  after w t := match w with
    | ⟨0, _⟩ => (arrsOf a V).x (grid1.coords t 0).val
    | ⟨1, _⟩ => (arrsOf a V).hn (grid1.coords t 0).val
    | ⟨2, _⟩ => (arrsOf a V).col (grid1.coords t 0).val
    | ⟨3, _⟩ => (arrsOf a V).row (grid1.coords t 0).val
    | ⟨4, _⟩ => (arrsOf a V).gf
    | ⟨5, _⟩ => (arrsOf a V).wg (grid1.coords t 1).val (grid1.coords t 2).val
    | ⟨6, _⟩ => (arrsOf a V).wu (grid1.coords t 1).val (grid1.coords t 2).val
    | ⟨7, _⟩ => (arrsOf a V).wd (grid1.coords t 1).val (grid1.coords t 2).val
    | ⟨8, _⟩ => OUT (arrsOf a V) (grid1.coords t 0).val
  Φ k := Between a V c k.val
  q _ := fullShare
  owed _ := 0

/-- The proof data's arrays are the valuation's. -/
theorem dat1_A (w : Fin 9) : (dat1 a V c).A w = V (Proc.devRef .tc (Pipeline.arrRef spec1 w)) := by dsimp only [dat1]

variable (t : Fin (cfg1 a).N)

/-- After a step window 0 still holds the activations' block of the step's row tile. -/
theorem after1_0 : (dat1 a V c).after 0 t = (arrsOf a V).x (grid1.coords t 0).val := by dsimp only [dat1]; rfl
/-- After a step window 1 still holds the normed activations' block of the step's row tile. -/
theorem after1_1 : (dat1 a V c).after 1 t = (arrsOf a V).hn (grid1.coords t 0).val := by dsimp only [dat1]; rfl
/-- After a step window 2 still holds the gate, rank and selection columns of the step's row tile. -/
theorem after1_2 : (dat1 a V c).after 2 t = (arrsOf a V).col (grid1.coords t 0).val := by dsimp only [dat1]; rfl
/-- After a step window 3 still holds the transposed table of the step's row tile. -/
theorem after1_3 : (dat1 a V c).after 3 t = (arrsOf a V).row (grid1.coords t 0).val := by dsimp only [dat1]; rfl
/-- After a step window 4 still holds the last norm's gains. -/
theorem after1_4 : (dat1 a V c).after 4 t = (arrsOf a V).gf := by dsimp only [dat1]; rfl
/-- After a step window 5 still holds the gate projection's tile of the step's expert and slice. -/
theorem after1_5 : (dat1 a V c).after 5 t = (arrsOf a V).wg (grid1.coords t 1).val (grid1.coords t 2).val := by dsimp only [dat1]; rfl
/-- After a step window 6 still holds the up projection's tile of the step's expert and slice. -/
theorem after1_6 : (dat1 a V c).after 6 t = (arrsOf a V).wu (grid1.coords t 1).val (grid1.coords t 2).val := by dsimp only [dat1]; rfl
/-- After a step window 7 still holds the down projection's tile of the step's expert and slice. -/
theorem after1_7 : (dat1 a V c).after 7 t = (arrsOf a V).wd (grid1.coords t 1).val (grid1.coords t 2).val := by dsimp only [dat1]; rfl
/-- The result's block of rows. -/
theorem after1_8 : (dat1 a V c).after 8 t = OUT (arrsOf a V) (grid1.coords t 0).val := by dsimp only [dat1]; rfl

/-- Window 0 holds its block before every point. -/
theorem before1_0 (d) : (dat1 a V c).before 0 t d = (arrsOf a V).x (grid1.coords t 0).val :=
  ((dat1 a V c).before_in_eq_fetched 0 rfl (fun _ => rfl) (fun _ _ _ => rfl) (fun t => by rw [after1_0]; unfold Dat.blockOf; rw [dat1_A]; exact (blk1_0 a t _).symm) t d).trans
    (by unfold Dat.fetched Dat.blockOf; rw [dat1_A]; exact blk1_0 a t _)
/-- Window 1 holds its block before every point. -/
theorem before1_1 (d) : (dat1 a V c).before 1 t d = (arrsOf a V).hn (grid1.coords t 0).val :=
  ((dat1 a V c).before_in_eq_fetched 1 rfl (fun _ => rfl) (fun _ _ _ => rfl) (fun t => by rw [after1_1]; unfold Dat.blockOf; rw [dat1_A]; exact (blk1_1 a t _).symm) t d).trans
    (by unfold Dat.fetched Dat.blockOf; rw [dat1_A]; exact blk1_1 a t _)
/-- Window 2 holds its block before every point. -/
theorem before1_2 (d) : (dat1 a V c).before 2 t d = (arrsOf a V).col (grid1.coords t 0).val :=
  ((dat1 a V c).before_in_eq_fetched 2 rfl (fun _ => rfl) (fun _ _ _ => rfl) (fun t => by rw [after1_2]; unfold Dat.blockOf; rw [dat1_A]; exact (blk1_2 a t _).symm) t d).trans
    (by unfold Dat.fetched Dat.blockOf; rw [dat1_A]; exact blk1_2 a t _)
/-- Window 3 holds its block before every point. -/
theorem before1_3 (d) : (dat1 a V c).before 3 t d = (arrsOf a V).row (grid1.coords t 0).val :=
  ((dat1 a V c).before_in_eq_fetched 3 rfl (fun _ => rfl) (fun _ _ _ => rfl) (fun t => by rw [after1_3]; unfold Dat.blockOf; rw [dat1_A]; exact (blk1_3 a t _).symm) t d).trans
    (by unfold Dat.fetched Dat.blockOf; rw [dat1_A]; exact blk1_3 a t _)
/-- Window 4 holds its block before every point. -/
theorem before1_4 (d) : (dat1 a V c).before 4 t d = (arrsOf a V).gf :=
  ((dat1 a V c).before_in_eq_fetched 4 rfl (fun _ => rfl) (fun _ _ _ => rfl) (fun t => by rw [after1_4]; unfold Dat.blockOf; rw [dat1_A]; exact (blk1_4 a t _).symm) t d).trans
    (by unfold Dat.fetched Dat.blockOf; rw [dat1_A]; exact blk1_4 a t _)
/-- Window 5 holds its block before every point. -/
theorem before1_5 (d) : (dat1 a V c).before 5 t d = (arrsOf a V).wg (grid1.coords t 1).val (grid1.coords t 2).val :=
  ((dat1 a V c).before_in_eq_fetched 5 rfl (fun _ => rfl) (fun _ _ _ => rfl) (fun t => by rw [after1_5]; unfold Dat.blockOf; rw [dat1_A]; exact (blk1_5 a t _).symm) t d).trans
    (by unfold Dat.fetched Dat.blockOf; rw [dat1_A]; exact blk1_5 a t _)
/-- Window 6 holds its block before every point. -/
theorem before1_6 (d) : (dat1 a V c).before 6 t d = (arrsOf a V).wu (grid1.coords t 1).val (grid1.coords t 2).val :=
  ((dat1 a V c).before_in_eq_fetched 6 rfl (fun _ => rfl) (fun _ _ _ => rfl) (fun t => by rw [after1_6]; unfold Dat.blockOf; rw [dat1_A]; exact (blk1_6 a t _).symm) t d).trans
    (by unfold Dat.fetched Dat.blockOf; rw [dat1_A]; exact blk1_6 a t _)
/-- Window 7 holds its block before every point. -/
theorem before1_7 (d) : (dat1 a V c).before 7 t d = (arrsOf a V).wd (grid1.coords t 1).val (grid1.coords t 2).val :=
  ((dat1 a V c).before_in_eq_fetched 7 rfl (fun _ => rfl) (fun _ _ _ => rfl) (fun t => by rw [after1_7]; unfold Dat.blockOf; rw [dat1_A]; exact (blk1_7 a t _).symm) t d).trans
    (by unfold Dat.fetched Dat.blockOf; rw [dat1_A]; exact blk1_7 a t _)

/-- The program text of the body at a point. -/
abbrev bodyAt1 (t : Fin (cfg1 a).N) : Code F PUnit.{1} :=
  (defs₀ (F := F)) .tc (cfg1 a).body ((cfg1 a).bodyArgs t ((cfg1 a).slots t))

/-- The staging buffer of window `w` at a point. -/
abbrev stg (w : Fin 9) := ((cfg1 a).win w).stage ((cfg1 a).slots t w)

/-- The body at a point, from its windows' blocks. -/
theorem point_triple {K : PUnit → sProp (MM F)} (o : Vec F S1024x1024 .f32) :
    iprop(Between a V c t.val
        ∗ owns (c : Thread nD τ) (stg a t 0) fullShare ((arrsOf a V).x (grid1.coords t 0).val)
        ∗ owns (c : Thread nD τ) (stg a t 1) fullShare ((arrsOf a V).hn (grid1.coords t 0).val)
        ∗ owns (c : Thread nD τ) (stg a t 2) fullShare ((arrsOf a V).col (grid1.coords t 0).val)
        ∗ owns (c : Thread nD τ) (stg a t 3) fullShare ((arrsOf a V).row (grid1.coords t 0).val)
        ∗ owns (c : Thread nD τ) (stg a t 4) fullShare ((arrsOf a V).gf)
        ∗ owns (c : Thread nD τ) (stg a t 5) fullShare ((arrsOf a V).wg (grid1.coords t 1).val (grid1.coords t 2).val)
        ∗ owns (c : Thread nD τ) (stg a t 6) fullShare ((arrsOf a V).wu (grid1.coords t 1).val (grid1.coords t 2).val)
        ∗ owns (c : Thread nD τ) (stg a t 7) fullShare ((arrsOf a V).wd (grid1.coords t 1).val (grid1.coords t 2).val)
        ∗ owns (c : Thread nD τ) (stg a t 8) fullShare o
        ∗ (iprop(Between a V c (t.val + 1)
            ∗ owns (c : Thread nD τ) (stg a t 0) fullShare ((arrsOf a V).x (grid1.coords t 0).val)
            ∗ owns (c : Thread nD τ) (stg a t 1) fullShare ((arrsOf a V).hn (grid1.coords t 0).val)
            ∗ owns (c : Thread nD τ) (stg a t 2) fullShare ((arrsOf a V).col (grid1.coords t 0).val)
            ∗ owns (c : Thread nD τ) (stg a t 3) fullShare ((arrsOf a V).row (grid1.coords t 0).val)
            ∗ owns (c : Thread nD τ) (stg a t 4) fullShare ((arrsOf a V).gf)
            ∗ owns (c : Thread nD τ) (stg a t 5) fullShare ((arrsOf a V).wg (grid1.coords t 1).val (grid1.coords t 2).val)
            ∗ owns (c : Thread nD τ) (stg a t 6) fullShare ((arrsOf a V).wu (grid1.coords t 1).val (grid1.coords t 2).val)
            ∗ owns (c : Thread nD τ) (stg a t 7) fullShare ((arrsOf a V).wd (grid1.coords t 1).val (grid1.coords t 2).val)
            ∗ owns (c : Thread nD τ) (stg a t 8) fullShare (if k1_cond24 (grid1.coords t) = 1#1 then OUT (arrsOf a V) (grid1.coords t 0).val else o)) -∗ K ⟨⟩))
      ⊢ WP c (bodyAt1 a t) K := by
  unfold Between
  iintro ⟨⟨%s, %ec, %hI, H13, H14, H15, H16, H3, HR⟩, H4, H5, H6, H7, H8, H9, H10, H11, H12, Hk⟩
  have hN := invN_step (arrsOf a V) a t ec hI
  have hT := tot_last (arrsOf a V) a t ec hI
  iapply (body_triple (F := F) (grid1.coords t) (Memref.whole main_v8) (Memref.isWhole_whole _)
    (stg a t 0) (hstage1_0 (((cfg1 a).slots t 0).cast nbuf1_0)) (stg a t 1) (hstage1_1 (((cfg1 a).slots t 1).cast nbuf1_1))
    (stg a t 2) (hstage1_2 (((cfg1 a).slots t 2).cast nbuf1_2)) (stg a t 3) (hstage1_3 (((cfg1 a).slots t 3).cast nbuf1_3))
    (stg a t 4) (hstage1_4 (((cfg1 a).slots t 4).cast nbuf1_4)) (stg a t 5) (hstage1_5 (((cfg1 a).slots t 5).cast nbuf1_5))
    (stg a t 6) (hstage1_6 (((cfg1 a).slots t 6).cast nbuf1_6)) (stg a t 7) (hstage1_7 (((cfg1 a).slots t 7).cast nbuf1_7))
    (stg a t 8) (hstage1_8 (((cfg1 a).slots t 8).cast nbuf1_8))
    (Memref.whole cc1_scratch0) (Memref.isWhole_whole _) (Memref.whole cc1_scratch1) (Memref.isWhole_whole _)
    (Memref.whole cc1_scratch2) (Memref.isWhole_whole _) (Memref.whole cc1_scratch3) (Memref.isWhole_whole _) c
    (W := winsOf (arrsOf a V) (grid1.coords t)) (ec := ec) (s := s) (tb := (arrsOf a V).tb) (q := fullShare) (o := o)
    (col := (arrsOf a V).col (grid1.coords t 0).val) (x := (arrsOf a V).x (grid1.coords t 0).val) (gf := (arrsOf a V).gf))
  isplitl [H5 H7 H9 H10 H11 H13 H14 H15 H16]
  · iapply (state_pack (F := F) _ _ _ _ _ _ _ _ _ c)
    isplitl [H5]; · iexact H5
    isplitl [H7]; · iexact H7
    isplitl [H9]; · iexact H9
    isplitl [H10]; · iexact H10
    isplitl [H11]; · iexact H11
    isplitl [H13]; · iexact H13
    isplitl [H14]; · iexact H14
    isplitl [H15]; · iexact H15
    iexact H16
  isplitl [H6]; · iexact H6
  isplitl [H3]; · iexact H3
  isplitl [H4]; · iexact H4
  isplitl [H8]; · iexact H8
  isplitl [H12]; · iexact H12
  iintro ⟨Hs, H6, H3, H4, H8, H12⟩
  ihave Hs := (state_open (F := F) _ _ _ _ _ _ _ _ _ c) $$ Hs
  icases Hs with ⟨H5, H7, H9, H10, H11, H13, H14, H15, H16⟩
  iapply Hk
  isplitl [H13 H14 H15 H16 H3 HR]
  · iexists _, _
    isplitr
    · ipureintro; exact hN
    isplitl [H13]; · iexact H13
    isplitl [H14]; · iexact H14
    isplitl [H15]; · iexact H15
    isplitl [H16]; · iexact H16
    isplitl [H3]; · iexact H3
    iexact HR
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  unfold outStep
  by_cases hl : k1_cond24 (grid1.coords t) = 1#1
  · rw [if_pos hl, if_pos hl]
    rw [overlay_rAll, ld_rAll, ld_rAll, hT hl]
    iexact H12
  · rw [if_neg hl, if_neg hl]
    iexact H12

/-- What is held before a point. -/
theorem phi_before : (dat1 a V c).Φ t.castSucc = Between a V c t.val := by
  dsimp only [dat1]
  exact Pipeline.Dat.Φ_castSucc (fun n _ => Between a V c n) t
/-- What is held after a point. -/
theorem phi_after : (dat1 a V c).Φ t.succ = Between a V c (t.val + 1) := by dsimp only [dat1]; rfl
/-- What the core owes does not change. -/
theorem owes_same : (dat1 a V c).owesAt () t.castSucc = (dat1 a V c).owesAt () t.succ := by
  have h1 : (dat1 a V c).recorded t.castSucc = (dat1 a V c).recorded t.succ := by dsimp only [dat1]
  have h2 : (dat1 a V c).owed t.castSucc = (dat1 a V c).owed t.succ := by dsimp only [dat1]
  unfold Dat.owesAt Dat.bound
  rw [h1, h2]

/-- What a window that may be idle is left at, by whether it is idle, written back and loose. -/
def pick (b fl lo : Bool) (X Y Z : sProp (MM F)) : sProp (MM F) :=
  match b with
  | true =>
    match fl with
    | false => X
    | true =>
      match lo with
      | true => Y
      | false => Z
  | false =>
    match lo with
    | true => Y
    | false => Z

/-- An idle window not written back is left as found, one not idle at its new contents. -/
theorem pick_intro {b fl : Bool} {P X Y Z : sProp (MM F)} (h : b = true → fl = false ∧ (P ⊢ X)) (h' : b = false → (P ⊢ Z)) : P ⊢ pick b fl false X Y Z := by
  cases b
  · exact h' rfl
  · obtain ⟨e, hx⟩ := h rfl
    subst e
    exact hx

/-- What the body leaves in the result's window is what the library asks for. -/
theorem out_post (d : ((cfg1 a).win 8).block.Idx → Elt F ((cfg1 a).win 8).elt) {Y : sProp (MM F)} :
    owns (c : Thread nD τ) (stg a t 8) fullShare (if k1_cond24 (grid1.coords t) = 1#1 then OUT (arrsOf a V) (grid1.coords t 0).val else (dat1 a V c).before 8 t d)
      ⊢ pick ((cfg1 a).idle 8 ((cfg1 a).grid.coords t)) (((cfg1 a).win 8).flush t) ((cfg1 a).loose 8)
        iprop(∃ d, owns (c : Thread nD τ) (stg a t 8) fullShare ((dat1 a V c).before 8 t d)) Y
        (owns (c : Thread nD τ) (stg a t 8) fullShare ((dat1 a V c).after 8 t)) := by
  refine pick_intro (fun hb => ?_) fun hb => ?_
  · have hl : ¬ k1_cond24 (grid1.coords t) = 1#1 := by
      intro hl
      have hb2 : (!(k1_cond24 (grid1.coords t) == 1#1)) = true := hb
      rw [hl] at hb2
      exact absurd hb2 (by decide)
    refine ⟨?_, ?_⟩
    · rw [Bool.eq_false_iff]
      intro h
      have h2 := (flush1_8 a t).mp h
      exact hl ((cond24_iff _).mpr ⟨by rw [p1 a t]; omega, by rw [p2 a t]; omega⟩)
    · refine BIBase.Entails.trans (Q := owns (c : Thread nD τ) (stg a t 8) fullShare ((dat1 a V c).before 8 t d)) (.of_eq (congrArg _ (if_neg hl))) ?_
      iintro H
      iexists d
      iexact H
  · have hl : k1_cond24 (grid1.coords t) = 1#1 := by
      have hb2 : (!(k1_cond24 (grid1.coords t) == 1#1)) = false := hb
      rw [Bool.not_eq_false'] at hb2
      exact beq_iff_eq.mp hb2
    exact .of_eq (congrArg _ ((if_pos hl).trans (after1_8 a V c t).symm))

/-- What the result's window is left at. -/
def outPost : sProp (MM F) :=
  pick ((cfg1 a).idle 8 ((cfg1 a).grid.coords t)) (((cfg1 a).win 8).flush t) ((cfg1 a).loose 8)
    iprop(∃ d, owns (c : Thread nD τ) (stg a t 8) fullShare ((dat1 a V c).before 8 t d))
    iprop(∃ d, owns (c : Thread nD τ) (stg a t 8) fullShare (((cfg1 a).win 8).fill ((cfg1 a).grid.coords t) d (((cfg1 a).win 8).cut ((cfg1 a).grid.coords t) ((dat1 a V c).after 8 t))))
    (owns (c : Thread nD τ) (stg a t 8) fullShare ((dat1 a V c).after 8 t))

/-- The body's triple at a point, window by window. -/
theorem body1_triple :
    iprop((dat1 a V c).Φ t.castSucc ∗ (dat1 a V c).owesAt () t.castSucc
        ∗ (∃ d, owns (c : Thread nD τ) (stg a t 0) fullShare ((dat1 a V c).before 0 t d))
        ∗ (∃ d, owns (c : Thread nD τ) (stg a t 1) fullShare ((dat1 a V c).before 1 t d))
        ∗ (∃ d, owns (c : Thread nD τ) (stg a t 2) fullShare ((dat1 a V c).before 2 t d))
        ∗ (∃ d, owns (c : Thread nD τ) (stg a t 3) fullShare ((dat1 a V c).before 3 t d))
        ∗ (∃ d, owns (c : Thread nD τ) (stg a t 4) fullShare ((dat1 a V c).before 4 t d))
        ∗ (∃ d, owns (c : Thread nD τ) (stg a t 5) fullShare ((dat1 a V c).before 5 t d))
        ∗ (∃ d, owns (c : Thread nD τ) (stg a t 6) fullShare ((dat1 a V c).before 6 t d))
        ∗ (∃ d, owns (c : Thread nD τ) (stg a t 7) fullShare ((dat1 a V c).before 7 t d))
        ∗ (∃ d, owns (c : Thread nD τ) (stg a t 8) fullShare ((dat1 a V c).before 8 t d)))
      ⊢ WP c (bodyAt1 a t) fun _ => iprop((dat1 a V c).Φ t.succ ∗ (dat1 a V c).owesAt () t.succ
        ∗ owns (c : Thread nD τ) (stg a t 0) fullShare ((dat1 a V c).after 0 t)
        ∗ owns (c : Thread nD τ) (stg a t 1) fullShare ((dat1 a V c).after 1 t)
        ∗ owns (c : Thread nD τ) (stg a t 2) fullShare ((dat1 a V c).after 2 t)
        ∗ owns (c : Thread nD τ) (stg a t 3) fullShare ((dat1 a V c).after 3 t)
        ∗ owns (c : Thread nD τ) (stg a t 4) fullShare ((dat1 a V c).after 4 t)
        ∗ owns (c : Thread nD τ) (stg a t 5) fullShare ((dat1 a V c).after 5 t)
        ∗ owns (c : Thread nD τ) (stg a t 6) fullShare ((dat1 a V c).after 6 t)
        ∗ owns (c : Thread nD τ) (stg a t 7) fullShare ((dat1 a V c).after 7 t)
        ∗ outPost a V c t) := by
  rw [phi_before, phi_after, owes_same]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before1_0 a V c t d0, before1_1 a V c t d1, before1_2 a V c t d2, before1_3 a V c t d3, before1_4 a V c t d4, before1_5 a V c t d5,
    before1_6 a V c t d6, before1_7 a V c t d7]
  iapply (point_triple a V c t ((dat1 a V c).before 8 t d8))
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨HΦ, H0, H1, H2, H3, H4, H5, H6, H7, H8⟩
  rw [after1_0, after1_1, after1_2, after1_3, after1_4, after1_5, after1_6, after1_7]
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold outPost
  iapply (out_post a V c t d8)
  iexact H8

/-- The library's obligation on the body. -/
theorem body1 : BodyObligationLoose (dat1 a V c) (defs₀ (F := F)) Variants.none () Set.univ := fun t => by
  rw [bigSep_W1, bigSep_W1]
  exact body1_triple a V c t

end dat

end Cert.KernelIdeal.Moe

end
-- ==== Proof.Router.lean ====
module

public import proofs.«01_k».proof.Proof.Experts

/-! # The router kernel's launch

The triple of the router's body and the launch's proof data over the arrays it is entered with: every
point writes the normalised rows, the two tables and the counts of its block of rows. -/

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

section values
variable (x : Vec F S1024x1024 .f32) (g : Vec F S1x1024 .f32) (w : Vec F S1024x128 .f32)

/-- The normalised rows of a block. -/
def hnB : Vec F S1024x1024 .bf16 := k0_pay6 x g
/-- The gates of a block, by lane. -/
def gateB : Vec F S8x1024 .f32 := k0_pay16 k0_pay7 (k0_pay9 x g w) (k0_pay10 x g w) (k0_pay11 x g w) (k0_pay12 x g w)
/-- The choices of a block, by row. -/
def selB : Vec F S1024x128 .f32 := k0_pay15 k0_pay7 (k0_pay10 x g w) (k0_pay11 x g w) (k0_pay12 x g w)
/-- The choices of a block, by lane. -/
def selTB : Vec F S8x1024 .f32 := k0_pay17 k0_pay7 (k0_pay10 x g w) (k0_pay11 x g w) (k0_pay12 x g w)
/-- The ranks of a block, by lane. -/
def rankB : Vec F S8x1024 .f32 := k0_pay18 k0_pay7 (k0_pay10 x g w) (k0_pay11 x g w) (k0_pay12 x g w)
/-- The table of a block by lanes. -/
def rowB : Vec F S1x32x1024 .f32 := k0_pay2 (gateB x g w) (selTB x g w) (rankB x g w) k0_pay19
/-- The table of a block by rows. -/
def colB : Vec F S1024x128 .f32 := k0_pay3 (gateB x g w) (selTB x g w) (rankB x g w) k0_pay19
/-- The counts of a block. -/
def cntB : Vec F S1x8x128 .i32 := k0_pay4 (selB x g w)

end values

section full
variable {s : Shape} {e : EltTy} (off : Fin s.rank → ℕ) (h0 : ∀ a, off a = 0) (hin : ∀ a, off a + s.size a ≤ s.size a)

include h0 in
/-- A load through the whole rectangle is the contents. -/
theorem ld_whole (X : s.Idx → Elt F e) : View.ld (e' := e) X (Rect.unit (s := s) off s.size hin) = X := by
  funext y
  refine congrArg X ?_
  funext a
  refine Fin.ext ?_
  show off a + 1 * (y a).val = (y a).val
  rw [h0, Nat.zero_add, Nat.one_mul]

include h0 in
/-- A store through the whole rectangle replaces the contents. -/
theorem overlay_whole (X G : s.Idx → Elt F e) : (Rect.unit (s := s) off s.size hin).overlay (α := Elt F e) X G = G := by
  have h : View.ld (e' := e) ((Rect.unit (s := s) off s.size hin).overlay (α := Elt F e) X G) (Rect.unit (s := s) off s.size hin) = G := by
    funext y
    exact (Rect.unit (s := s) off s.size hin).overlay_emb X G y
  rwa [ld_whole off h0 hin] at h

end full

/-- The offsets of a whole rectangle of a matrix. -/
theorem zero2 : ∀ a, (![0, 0] : Fin 2 → ℕ) a = 0 := fun a => by fin_cases a <;> rfl
/-- The offsets of a whole rectangle of an array of three axes. -/
theorem zero3 : ∀ a, (![0, 0, 0] : Fin 3 → ℕ) a = 0 := fun a => by fin_cases a <;> rfl

section body
variable (i : grid0.Coords) (arg1 : Memref sig .tc .vmem S1024x1024 .f32) (harg1 : arg1.IsWhole) (arg2 : Memref sig .tc .vmem S1x1024 .f32) (harg2 : arg2.IsWhole)
  (arg3 : Memref sig .tc .vmem S1024x128 .f32) (harg3 : arg3.IsWhole) (arg4 : Memref sig .tc .vmem S1024x1024 .bf16) (harg4 : arg4.IsWhole)
  (arg5 : Memref sig .tc .vmem S1024x128 .f32) (harg5 : arg5.IsWhole) (arg6 : Memref sig .tc .vmem S1x32x1024 .f32) (harg6 : arg6.IsWhole)
  (arg7 : Memref sig .tc .vmem S1x8x128 .i32) (harg7 : arg7.IsWhole) (c : Dev nD)

set_option maxHeartbeats 1000000 in
/-- The router's body, from its windows' blocks. -/
theorem router_triple {x : Vec F S1024x1024 .f32} {g : Vec F S1x1024 .f32} {w : Vec F S1024x128 .f32}
    {o4 : Vec F S1024x1024 .bf16} {o5 : Vec F S1024x128 .f32} {o6 : Vec F S1x32x1024 .f32} {o7 : Vec F S1x8x128 .i32} {K : PUnit → sProp (MM F)} :
    iprop(owns (c : Thread nD τ) arg1 fullShare x ∗ owns (c : Thread nD τ) arg2 fullShare g ∗ owns (c : Thread nD τ) arg3 fullShare w
        ∗ owns (c : Thread nD τ) arg4 fullShare o4 ∗ owns (c : Thread nD τ) arg5 fullShare o5 ∗ owns (c : Thread nD τ) arg6 fullShare o6 ∗ owns (c : Thread nD τ) arg7 fullShare o7
        ∗ (iprop(owns (c : Thread nD τ) arg1 fullShare x ∗ owns (c : Thread nD τ) arg2 fullShare g ∗ owns (c : Thread nD τ) arg3 fullShare w
          ∗ owns (c : Thread nD τ) arg4 fullShare (hnB x g) ∗ owns (c : Thread nD τ) arg5 fullShare (colB x g w)
          ∗ owns (c : Thread nD τ) arg6 fullShare (rowB x g w) ∗ owns (c : Thread nD τ) arg7 fullShare (cntB x g w)) -∗ K ⟨⟩))
      ⊢ WP c (cc0_moe_router i arg1 harg1 arg2 harg2 arg3 harg3 arg4 harg4 arg5 harg5 arg6 harg6 arg7 harg7) K := by
  rw [cc0_moe_router_eq_skeleton]
  unfold cc0_moe_router_skel
  rw [k0_part1_eq_skeleton, k0_part2_eq_skeleton]
  iintro ⟨H1, H2, H3, H4, H5, H6, H7, Hk⟩
  iapply (owned_bind c)
  unfold k0_part1_skel
  iapply (owned_load c); isplitl [H1]; · iexact H1
  iintro H1
  iapply (owned_load c); isplitl [H2]; · iexact H2
  iintro H2
  iapply (owned_load c); isplitl [H4]; · iexact H4
  iintro H4
  iapply (owned_store c); isplitl [H4]; · iexact H4
  iintro H4
  iapply (owned_load c); isplitl [H3]; · iexact H3
  iintro H3
  iapply (owned_ret c)
  iapply (owned_bind c)
  unfold k0_part2_skel
  iapply (owned_ret c)
  iapply (owned_load c); isplitl [H6]; · iexact H6
  iintro H6
  iapply (owned_store c); isplitl [H6]; · iexact H6
  iintro H6
  iapply (owned_load c); isplitl [H5]; · iexact H5
  iintro H5
  iapply (owned_store c); isplitl [H5]; · iexact H5
  iintro H5
  iapply (owned_load c); isplitl [H7]; · iexact H7
  iintro H7
  iapply (owned_store c); isplitl [H7]; · iexact H7
  iintro H7
  iapply (owned_ret c)
  iapply Hk
  rw [ld_whole (s := S1024x1024) _ zero2, ld_whole (s := S1x1024) _ zero2, ld_whole (s := S1024x128) _ zero2, overlay_whole (s := S1024x1024) _ zero2, overlay_whole (s := S1024x128) _ zero2,
    overlay_whole (s := S1x32x1024) _ zero3, overlay_whole (s := S1x8x128) _ zero3]
  isplitl [H1]; · iexact H1
  isplitl [H2]; · iexact H2
  isplitl [H3]; · iexact H3
  isplitl [H4]; · iexact H4
  isplitl [H5]; · iexact H5
  isplitl [H6]; · iexact H6
  iexact H7

end body

section dat
variable (V : Valuation τ sig (Elt F)) (c : Dev nD)

/-- The block of rows of a point. -/
abbrev xB (i : ℕ) : Vec F S1024x1024 .f32 := rowBlk (V main_arg0) i

/-- The launch's proof data. -/
def dat0 : Dat τ (Elt F) Unit ℕ (UR sig nD τ) ℕ cfg0 c where
  A w := V (Proc.devRef .tc (Pipeline.arrRef spec0 w))
  after w t := match w with
    | ⟨0, _⟩ => xB V (grid0.coords t 0).val
    | ⟨1, _⟩ => V main_v1
    | ⟨2, _⟩ => V main_v0
    | ⟨3, _⟩ => hnB (xB V (grid0.coords t 0).val) (V main_v1)
    | ⟨4, _⟩ => colB (xB V (grid0.coords t 0).val) (V main_v1) (V main_v0)
    | ⟨5, _⟩ => rowB (xB V (grid0.coords t 0).val) (V main_v1) (V main_v0)
    | ⟨6, _⟩ => cntB (xB V (grid0.coords t 0).val) (V main_v1) (V main_v0)
  Φ _ := Pipeline.scopedRest (Ix := Unit) (Name := ℕ) (U := UR sig nD τ) (Lvl := ℕ) (Val := Elt F) spec0 c
  q _ := fullShare
  owed _ := 0

/-- The proof data's arrays are the valuation's. -/
theorem dat0_A (w : Fin 7) : (dat0 V c).A w = V (Proc.devRef .tc (Pipeline.arrRef spec0 w)) := by dsimp only [dat0]

variable (t : Fin cfg0.N)

/-- What window 0 is left at. -/
theorem after0_0 : (dat0 V c).after 0 t = xB V (grid0.coords t 0).val := by dsimp only [dat0]
/-- What window 1 is left at. -/
theorem after0_1 : (dat0 V c).after 1 t = V main_v1 := by dsimp only [dat0]
/-- What window 2 is left at. -/
theorem after0_2 : (dat0 V c).after 2 t = V main_v0 := by dsimp only [dat0]
/-- What window 3 is left at. -/
theorem after0_3 : (dat0 V c).after 3 t = hnB (xB V (grid0.coords t 0).val) (V main_v1) := by dsimp only [dat0]
/-- What window 4 is left at. -/
theorem after0_4 : (dat0 V c).after 4 t = colB (xB V (grid0.coords t 0).val) (V main_v1) (V main_v0) := by dsimp only [dat0]
/-- What window 5 is left at. -/
theorem after0_5 : (dat0 V c).after 5 t = rowB (xB V (grid0.coords t 0).val) (V main_v1) (V main_v0) := by dsimp only [dat0]
/-- What window 6 is left at. -/
theorem after0_6 : (dat0 V c).after 6 t = cntB (xB V (grid0.coords t 0).val) (V main_v1) (V main_v0) := by dsimp only [dat0]

/-- A point's number is its block of rows. -/
theorem q0 : (grid0.coords t 0).val = t.val := by
  rw [Pipeline.Grid.coords_val (G := grid0) t 0 (S := 1) (B := 16) (by decide) rfl]
  have := lt_of_lt_of_eq t.isLt N_0
  omega

/-- Window 0's block. -/
theorem blk0_0 (X : Vec F S16384x1024 .f32) : ((cfg0.win 0).blk t).view.read (Elt F) X = rowBlk X (grid0.coords t 0).val := by
  have h16 : (grid0.coords t 0).val < 16 := (grid0.coords t 0).isLt
  funext y
  show X _ = X _
  refine congrArg X ?_
  funext b
  refine Fin.ext ?_
  fin_cases b
  · show (BitVec.ofNat 32 (grid0.coords t 0).val).toNat * 1024 + 1 * (y 0).val = 1024 * ((grid0.coords t 0).val % 16) + (y 0).val
    rw [BitVec.toNat_ofNat]; omega
  · show 0 * 1024 + 1 * (y 1).val = (y 1).val; omega
/-- Window 1's block. -/
theorem blk0_1 (X : Vec F S1x1024 .f32) : ((cfg0.win 1).blk t).view.read (Elt F) X = X := by
  funext y
  show X _ = X _
  refine congrArg X ?_
  funext b
  refine Fin.ext ?_
  fin_cases b
  · show 0 * 1 + 1 * (y 0).val = (y 0).val; omega
  · show 0 * 1024 + 1 * (y 1).val = (y 1).val; omega
/-- Window 2's block. -/
theorem blk0_2 (X : Vec F S1024x128 .f32) : ((cfg0.win 2).blk t).view.read (Elt F) X = X := by
  funext y
  show X _ = X _
  refine congrArg X ?_
  funext b
  refine Fin.ext ?_
  fin_cases b
  · show 0 * 1024 + 1 * (y 0).val = (y 0).val; omega
  · show 0 * 128 + 1 * (y 1).val = (y 1).val; omega

/-- Window 0 holds its block before every point. -/
theorem before0_0 (d) : (dat0 V c).before 0 t d = xB V (grid0.coords t 0).val :=
  ((dat0 V c).before_in_eq_fetched 0 rfl (fun _ => rfl) (fun _ _ _ => rfl) (fun t => by rw [after0_0]; unfold Dat.blockOf; rw [dat0_A]; exact (blk0_0 (F := F) t _).symm) t d).trans
    (by unfold Dat.fetched Dat.blockOf; rw [dat0_A]; exact blk0_0 (F := F) t _)
/-- Window 1 holds its block before every point. -/
theorem before0_1 (d) : (dat0 V c).before 1 t d = V main_v1 :=
  ((dat0 V c).before_in_eq_fetched 1 rfl (fun _ => rfl) (fun _ _ _ => rfl) (fun t => by rw [after0_1]; unfold Dat.blockOf; rw [dat0_A]; exact (blk0_1 (F := F) t _).symm) t d).trans
    (by unfold Dat.fetched Dat.blockOf; rw [dat0_A]; exact blk0_1 (F := F) t _)
/-- Window 2 holds its block before every point. -/
theorem before0_2 (d) : (dat0 V c).before 2 t d = V main_v0 :=
  ((dat0 V c).before_in_eq_fetched 2 rfl (fun _ => rfl) (fun _ _ _ => rfl) (fun t => by rw [after0_2]; unfold Dat.blockOf; rw [dat0_A]; exact (blk0_2 (F := F) t _).symm) t d).trans
    (by unfold Dat.fetched Dat.blockOf; rw [dat0_A]; exact blk0_2 (F := F) t _)

/-- The program text of the body at a point. -/
abbrev routerAt : Code F PUnit.{1} := (defs₀ (F := F)) .tc cfg0.body (cfg0.bodyArgs t (cfg0.slots t))

/-- The staging buffer of window `w` at a point. -/
abbrev stgR (w : Fin 7) := (cfg0.win w).stage (cfg0.slots t w)

/-- What the core owes does not change. -/
theorem owesR : (dat0 V c).owesAt () t.castSucc = (dat0 V c).owesAt () t.succ := by
  have h1 : (dat0 V c).recorded t.castSucc = (dat0 V c).recorded t.succ := by dsimp only [dat0]
  have h2 : (dat0 V c).owed t.castSucc = (dat0 V c).owed t.succ := by dsimp only [dat0]
  unfold Dat.owesAt Dat.bound
  rw [h1, h2]

/-- The body's triple at a point, window by window. -/
theorem body0_triple :
    iprop((dat0 V c).Φ t.castSucc ∗ (dat0 V c).owesAt () t.castSucc
        ∗ (∃ d, owns (c : Thread nD τ) (stgR t 0) fullShare ((dat0 V c).before 0 t d))
        ∗ (∃ d, owns (c : Thread nD τ) (stgR t 1) fullShare ((dat0 V c).before 1 t d))
        ∗ (∃ d, owns (c : Thread nD τ) (stgR t 2) fullShare ((dat0 V c).before 2 t d))
        ∗ (∃ d, owns (c : Thread nD τ) (stgR t 3) fullShare ((dat0 V c).before 3 t d))
        ∗ (∃ d, owns (c : Thread nD τ) (stgR t 4) fullShare ((dat0 V c).before 4 t d))
        ∗ (∃ d, owns (c : Thread nD τ) (stgR t 5) fullShare ((dat0 V c).before 5 t d))
        ∗ (∃ d, owns (c : Thread nD τ) (stgR t 6) fullShare ((dat0 V c).before 6 t d)))
      ⊢ WP c (routerAt t) fun _ => iprop((dat0 V c).Φ t.succ ∗ (dat0 V c).owesAt () t.succ
        ∗ owns (c : Thread nD τ) (stgR t 0) fullShare ((dat0 V c).after 0 t)
        ∗ owns (c : Thread nD τ) (stgR t 1) fullShare ((dat0 V c).after 1 t)
        ∗ owns (c : Thread nD τ) (stgR t 2) fullShare ((dat0 V c).after 2 t)
        ∗ owns (c : Thread nD τ) (stgR t 3) fullShare ((dat0 V c).after 3 t)
        ∗ owns (c : Thread nD τ) (stgR t 4) fullShare ((dat0 V c).after 4 t)
        ∗ owns (c : Thread nD τ) (stgR t 5) fullShare ((dat0 V c).after 5 t)
        ∗ owns (c : Thread nD τ) (stgR t 6) fullShare ((dat0 V c).after 6 t)) := by
  rw [show (dat0 V c).Φ t.succ = (dat0 V c).Φ t.castSucc from by dsimp only [dat0], owesR]
  iintro ⟨HΦ, HO, ⟨%d0, H0⟩, ⟨%d1, H1⟩, ⟨%d2, H2⟩, ⟨%d3, H3⟩, ⟨%d4, H4⟩, ⟨%d5, H5⟩, ⟨%d6, H6⟩⟩
  rw [before0_0 V c t d0, before0_1 V c t d1, before0_2 V c t d2]
  iapply (router_triple (F := F) (grid0.coords t)
    (stgR t 0) (hstage0_0 ((cfg0.slots t 0).cast nbuf0_0)) (stgR t 1) (hstage0_1 ((cfg0.slots t 1).cast nbuf0_1)) (stgR t 2) (hstage0_2 ((cfg0.slots t 2).cast nbuf0_2)) (stgR t 3) (hstage0_3 ((cfg0.slots t 3).cast nbuf0_3)) (stgR t 4) (hstage0_4 ((cfg0.slots t 4).cast nbuf0_4)) (stgR t 5) (hstage0_5 ((cfg0.slots t 5).cast nbuf0_5)) (stgR t 6) (hstage0_6 ((cfg0.slots t 6).cast nbuf0_6)) c
    (x := xB V (grid0.coords t 0).val) (g := V main_v1) (w := V main_v0) (o4 := (dat0 V c).before 3 t d3) (o5 := (dat0 V c).before 4 t d4)
    (o6 := (dat0 V c).before 5 t d5) (o7 := (dat0 V c).before 6 t d6))
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  rw [after0_0, after0_1, after0_2, after0_3, after0_4, after0_5, after0_6]
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-- The library's obligation on the body. -/
theorem body0 : BodyObligation (dat0 V c) (defs₀ (F := F)) Variants.none () Set.univ := fun t => by
  rw [bigSep_W0, bigSep_W0]
  exact body0_triple V c t

end dat

end Cert.KernelIdeal.Moe

end
-- ==== Proof.Run.lean ====
module

public import proofs.«01_k».proof.Proof.Router
public import proofs.«01_k».proof.Proof.Gen.KernelIdeal.Regions
public import Idealize.ShloMosaic.Lib.Pipeline.RegionArraysTS

/-! # The run of the whole program

The contents the two launches leave, the launches as segments of the program, and the program's run over
any float values: the arguments as they were, the result at the second launch's last contents, every
counter at zero. -/

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg HostSeg RegionSeg)
open Cert.KernelIdeal Cert.KernelIdeal.Gen

variable {F : FTy → Type} [FloatOps F]

variable (m : (ℓ : Loc nD τ sig) → Buf (Elt F) ℓ) (ρ : Dev nD → PrngReg)

/-- What the first launch leaves. -/
def outs0 : Outs (F := F) := fun _ r c => Pipeline.afterRegion (dat0 (V3 m c) c) (V3 m c) (Proc.devRef .tc r)

/-- The buffers when the second launch is entered. -/
def VE (c : Dev nD) : Valuation τ sig (Elt F) := V5 m (outs0 m) c

/-- The table's contents when the second launch is entered. -/
def tbl : (pcfg1 (F := F)).Adm := ⟨fun k => VE m 0 (Proc.devRef .tc (pre1.ref k)), trivial⟩

/-- What both launches leave. -/
def outs : Outs (F := F) := fun n r c =>
  match n with
  | 4 => outs0 m 4 r c
  | _ => Pipeline.afterRegion (dat1 (tbl m) (VE m c) c) (VE m c) (Proc.devRef .tc r)

/-- The tables of the launches. -/
def adm : (p : Fin 2) → (pcfgs (F := F) p).Adm
  | 0 => cfg0.toPCfg_adm
  | 1 => tbl m

/-- The launches' proof data. -/
def pdats : (p : Fin 2) → (c : Dev nD) → Dat τ (Elt F) Unit ℕ (UR sig nD τ) ℕ (Pipeline.pin (pcfgs (F := F)) (adm m) p) c
  | 0 => fun c => dat0 (V3 m c) c
  | 1 => fun c => dat1 (tbl m) (VE m c) c

/-- The one level the staging semaphores have. -/
def lvls : GSem nD τ sig → Finset Unit := fun g => if g.1.2 = .tc then {()} else ∅

/-- What rides beside the buffers: the core owes nothing. -/
abbrev rest (c : Dev nD) : sProp (MM F) := iprop(∃ W, owes (c : Thread nD τ) (0 : CellTallies nD τ sig Unit) W)

/-- Nothing is owed, so the staging semaphores' waits are below everything. -/
theorem cut (p : Fin 2) : Pipeline.LevelCut (pcfgs (F := F)) (adm m) () lvls (fun _ _ => (0 : ℕ)) p (fun _ => 0) (fun _ => 0) where
  hι c w s := by unfold lvls; rw [if_pos rfl]; exact Finset.mem_singleton.mpr rfl
  hιb c w s := le_refl _
  hD c g i h := absurd h (lt_irrefl _)

/-- The scratch buffers before the first point. -/
theorem hin1 (c : Dev nD) : iprop(Pipeline.scopedRest (Ix := Unit) (Name := ℕ) (U := UR sig nD τ) (Lvl := ℕ) (Val := Elt F) spec1 c
      ∗ Pipeline.prefHeld (Ix := Unit) (Name := ℕ) (U := UR sig nD τ) (Lvl := ℕ) pre1 c (fun _ => fullShare) (tbl m).1)
    ⊢ Between (tbl m) (VE m c) c 0 := by
  rw [scopedRest1_eq]
  unfold Between idleBufs Pipeline.prefHeld
  rw [show (Finset.univ : Finset (Fin pre1.K)) = {0} from rfl, bigSep_singleton]
  iintro ⟨⟨B0, B1, B2, B3, B4, B5, B6, B7, B8, B9, B10, B11, ⟨%f0, S0⟩, ⟨%f1, S1⟩, ⟨%f2, S2⟩, ⟨%f3, S3⟩⟩, HT⟩
  iexists (⟨f0, f1, f2⟩ : Acc F), f3
  isplitr
  · ipureintro
    exact ⟨fun h => absurd ⟨rfl, rfl⟩ h, fun h => absurd rfl h⟩
  rw [owns_whole_eq, owns_whole_eq, owns_whole_eq, owns_whole_eq, owns_whole_eq]
  isplitl [S0]; · iexists f0; isplitr; · ipureintro; rfl
                  iexact S0
  isplitl [S1]; · iexists f1; isplitr; · ipureintro; rfl
                  iexact S1
  isplitl [S2]; · iexists f2; isplitr; · ipureintro; rfl
                  iexact S2
  isplitl [S3]; · iexists f3; isplitr; · ipureintro; rfl
                  iexact S3
  isplitl [HT]; · iexists _; isplitr; swap; · iexact HT
                  ipureintro; rfl
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  iexact B11

/-- The scratch buffers after the last point. -/
theorem hout1 (c : Dev nD) (n : ℕ) : Between (tbl m) (VE m c) c n
    ⊢ iprop(Pipeline.scopedRest (Ix := Unit) (Name := ℕ) (U := UR sig nD τ) (Lvl := ℕ) (Val := Elt F) spec1 c
      ∗ Pipeline.prefHeld (Ix := Unit) (Name := ℕ) (U := UR sig nD τ) (Lvl := ℕ) pre1 c (fun _ => fullShare) (tbl m).1) := by
  rw [scopedRest1_eq]
  unfold Between idleBufs Pipeline.prefHeld
  rw [show (Finset.univ : Finset (Fin pre1.K)) = {0} from rfl, bigSep_singleton]
  simp only [owns_whole_eq]
  iintro ⟨%s, %ec, -, ⟨%f0, -, S0⟩, ⟨%f1, -, S1⟩, ⟨%f2, -, S2⟩, ⟨%f3, -, S3⟩, ⟨%ft, %ht, HT⟩, B0, B1, B2, B3, B4, B5, B6, B7, B8, B9, B10, B11⟩
  subst ht
  isplitr [HT]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [S0]; · iexists _; iexact S0
    isplitl [S1]; · iexists _; iexact S1
    isplitl [S2]; · iexists _; iexact S2
    iexists _; iexact S3
  iexact HT

/-- The first launch's body, over the program's proof data. -/
theorem ob0 (c : Dev nD) : BodyObligationLoose (pdats m 0 c) (defs₀ (F := F)) Variants.none () Set.univ := by
  unfold pdats
  exact (body0 (V3 m c) c).loose

/-- The second launch's body, over the program's proof data. -/
theorem ob1 (c : Dev nD) : BodyObligationLoose (pdats m 1 c) (defs₀ (F := F)) Variants.none () Set.univ := by
  unfold pdats
  exact body1 (tbl m) (VE m c) c

/-- Nothing. -/
abbrev nil : sProp (MM F) := iprop(emp)

/-- What the first launch keeps between its points. -/
theorem phi0 (c : Dev nD) (k : Fin (cfg0.N + 1)) :
    (dat0 (V3 m c) c).Φ k = Pipeline.scopedRest (Ix := Unit) (Name := ℕ) (U := UR sig nD τ) (Lvl := ℕ) (Val := Elt F) spec0 c := by dsimp only [dat0]

/-- The first launch as a segment. -/
def reg0 : RegionSeg (pcfgs (F := F)) (adm m) (pdats m) () defs₀ Variants.none lvls (fun _ _ => (0 : ℕ)) 0 :=
  RegionSeg.ofHeldIn (pcfgs (F := F)) (adm m) (pdats m) () defs₀ Variants.none lvls (fun _ _ => 0) 0 (fun _ => 0)
    (Pipeline.ucRefs τ sig) (fun _ => nil) (fun _ => nil) launch0 rfl
    (ob0 m) (fun _ _ => rfl) (fun _ => rfl) (fun c => Dat.share_full _ fun _ => rfl)
    (fun c => sep_emp_elim.trans (BIBase.Entails.of_eq (phi0 m c 0).symm)) (fun c => (BIBase.Entails.of_eq (phi0 m c (Fin.last _))).trans sep_emp_intro)
    (fun _ => 0) (cut m 0) (fun _ => nil) (fun c => V3 m c) (fun c w => dat0_A (V3 m c) c w)

/-- The second launch as a segment. -/
def reg1 : RegionSeg (pcfgs (F := F)) (adm m) (pdats m) () defs₀ Variants.none lvls (fun _ _ => (0 : ℕ)) 1 :=
  RegionSeg.ofHeldInT (pcfgs (F := F)) (adm m) (pdats m) () defs₀ Variants.none lvls (fun _ _ => 0) 1 (fun _ => 0)
    (Pipeline.ucRefs τ sig) (fun _ => nil) (fun _ => nil) launch1
    (ob1 m) (fun _ _ => rfl) (fun _ => rfl) (fun c => Dat.share_full _ fun _ => rfl)
    (fun c => (sep_mono sep_emp_elim .rfl).trans (hin1 m c)) (fun c => (hout1 m c _).trans (sep_mono sep_emp_intro .rfl))
    (fun _ => 0) (cut m 1) (fun _ => nil) (fun c => VE m c) (fun c w => dat1_A (tbl m) (VE m c) c w)
    (fun c k => by obtain rfl : c = 0 := Subsingleton.elim _ _; rfl)

/-- Which arrays of the first launch are results. -/
theorem isOut0 : ∀ w : Fin 7, Pipeline.arrRef spec0 w ∉ ([main_v6_0, main_v6_1, main_v6_2, main_v6_3] : List (Ref sig .tc)) → (spec0 w).isOut = false := by decide
/-- Which array of the second launch is a result. -/
theorem isOut1 : ∀ w : Fin 9, Pipeline.arrRef spec1 w ∉ ([main_v9] : List (Ref sig .tc)) → (spec1 w).isOut = false := by decide

/-- The first launch leaves in the buffers that are not its results what was there. -/
theorem after_keeps0 (c : Dev nD) (r : Ref sig .tc) (h : r ∉ ([main_v6_0, main_v6_1, main_v6_2, main_v6_3] : List (Ref sig .tc))) :
    Pipeline.afterRegion (dat0 (V3 m c) c) (V3 m c) (Proc.devRef .tc r) = V3 m c (Proc.devRef .tc r) :=
  Pipeline.afterRegion_keeps (dat0 (V3 m c) c) (V3 m c) (launch0 (F := F)).win.arr_inj (dat0_A _ _) r fun w e => isOut0 w (e ▸ h)

/-- The second launch leaves in the other buffers what was there. -/
theorem after_keeps1 (c : Dev nD) (r : Ref sig .tc) (h : r ∉ ([main_v9] : List (Ref sig .tc))) :
    Pipeline.afterRegion (dat1 (tbl m) (VE m c) c) (VE m c) (Proc.devRef .tc r) = VE m c (Proc.devRef .tc r) :=
  Pipeline.afterRegion_keeps (dat1 (tbl m) (VE m c) c) (VE m c) (launch1 (F := F)).win.arr_inj (dat1_A _ _ _) r fun w e => isOut1 w (e ▸ h)

/-- What the second launch leaves in the result. -/
def result (c : Dev nD) : Buf (Elt F) ((c : Thread nD τ).loc main_v9) := (dat1 (tbl m) (VE m c) c).arrAt 8 (cfg1 (tbl m)).N

/-- The next valuation at a result of the first launch. -/
theorem V4_v6_0 (o : Outs (F := F)) (c : Dev nD) : V4 m o c main_v6_0 = o 4 main_v6_0 c := by
  simp only [V4, Function.update_of_ne (StableHlo.devRef_ne_of_ne (show main_v6_0 ≠ main_v6_1 by decide) : (Proc.devRef .tc main_v6_0 : DevRef τ sig) ≠ Proc.devRef .tc main_v6_1), Function.update_of_ne (StableHlo.devRef_ne_of_ne (show main_v6_0 ≠ main_v6_2 by decide) : (Proc.devRef .tc main_v6_0 : DevRef τ sig) ≠ Proc.devRef .tc main_v6_2), Function.update_of_ne (StableHlo.devRef_ne_of_ne (show main_v6_0 ≠ main_v6_3 by decide) : (Proc.devRef .tc main_v6_0 : DevRef τ sig) ≠ Proc.devRef .tc main_v6_3), Function.update_self]
/-- The next valuation at a result of the first launch. -/
theorem V4_v6_1 (o : Outs (F := F)) (c : Dev nD) : V4 m o c main_v6_1 = o 4 main_v6_1 c := by
  simp only [V4, Function.update_of_ne (StableHlo.devRef_ne_of_ne (show main_v6_1 ≠ main_v6_2 by decide) : (Proc.devRef .tc main_v6_1 : DevRef τ sig) ≠ Proc.devRef .tc main_v6_2), Function.update_of_ne (StableHlo.devRef_ne_of_ne (show main_v6_1 ≠ main_v6_3 by decide) : (Proc.devRef .tc main_v6_1 : DevRef τ sig) ≠ Proc.devRef .tc main_v6_3), Function.update_self]
/-- The next valuation at a result of the first launch. -/
theorem V4_v6_2 (o : Outs (F := F)) (c : Dev nD) : V4 m o c main_v6_2 = o 4 main_v6_2 c := by
  simp only [V4, Function.update_of_ne (StableHlo.devRef_ne_of_ne (show main_v6_2 ≠ main_v6_3 by decide) : (Proc.devRef .tc main_v6_2 : DevRef τ sig) ≠ Proc.devRef .tc main_v6_3), Function.update_self]
/-- The next valuation at a result of the first launch. -/
theorem V4_v6_3 (o : Outs (F := F)) (c : Dev nD) : V4 m o c main_v6_3 = o 4 main_v6_3 c := by
  simp only [V4, Function.update_self]

/-- The last valuation at the result. -/
theorem V6_v9 (o : Outs (F := F)) (c : Dev nD) : V6 m o c main_v9 = o 6 main_v9 c := by
  simp only [V6, Function.update_self]

/-- The first launch's exit is the next valuation. -/
theorem exit0 (c : Dev nD) (b : DevRef τ sig) (hb : b ∈ Pipeline.ucRefs τ sig) :
    Pipeline.afterRegion (dat0 (V3 m c) c) (V3 m c) b = V4 m (outs m) c b := by
  obtain ⟨r, -, rfl⟩ := Finset.mem_map.mp (Finset.mem_filter.mp hb).1
  by_cases h : r ∈ ([main_v6_0, main_v6_1, main_v6_2, main_v6_3] : List (Ref sig .tc))
  · simp only [List.mem_cons, List.mem_nil_iff, or_false] at h
    rcases h with rfl | rfl | rfl | rfl
    · exact (V4_v6_0 m (outs m) c).symm
    · exact (V4_v6_1 m (outs m) c).symm
    · exact (V4_v6_2 m (outs m) c).symm
    · exact (V4_v6_3 m (outs m) c).symm
  · exact (after_keeps0 m c r h).trans (V4_of m (outs m) c r h).symm

/-- The second launch's exit is the last valuation. -/
theorem exit1 (c : Dev nD) (b : DevRef τ sig) (hb : b ∈ Pipeline.ucRefs τ sig) :
    Pipeline.afterRegion (dat1 (tbl m) (VE m c) c) (VE m c) b = V6 m (outs m) c b := by
  obtain ⟨r, -, rfl⟩ := Finset.mem_map.mp (Finset.mem_filter.mp hb).1
  by_cases h : r ∈ ([main_v9] : List (Ref sig .tc))
  · simp only [List.mem_cons, List.mem_nil_iff, or_false] at h
    subst h
    exact (V6_v9 m (outs m) c).symm
  · exact (after_keeps1 m c r h).trans (V6_of m (outs m) c r h).symm

/-- The arrays and the table are among the buffers held. -/
theorem subs0 : Pipeline.arrRefs (τ := τ) (pcfgs (F := F) 0).spec ⊆ Pipeline.ucRefs τ sig :=
  Pipeline.arrRefs_sub_ucRefs _ (launch0 (F := F)).win.arr_unscoped
/-- The second call's arrays are buffers of the core. -/
theorem subs1 : Pipeline.arrRefs (τ := τ) (pcfgs (F := F) 1).spec ⊆ Pipeline.ucRefs τ sig :=
  Pipeline.arrRefs_sub_ucRefs _ (launch1 (F := F)).win.arr_unscoped
/-- The second call's table of counts is a buffer of the core. -/
theorem subsT : Pipeline.tblRefs (τ := τ) (pcfgs (F := F) 1).pre ⊆ Pipeline.ucRefs τ sig :=
  Pipeline.tblRefs_sub_ucRefs _ (launch1 (F := F)).pre.unscoped

/-- Entering the first launch. -/
theorem pre_0 (c : Dev nD) : iprop(StableHlo.held (c : Thread nD τ) (Pipeline.ucRefs τ sig) (V3 m c) ∗ rest c) ⊢ (reg0 m).pre c := by
  refine BIBase.Entails.trans ?_ (RegionSeg.ofHeldIn_pre (subs0 (F := F)) c)
  iintro ⟨H, HO⟩
  isplitl [H]; · iexact H
  isplitl [HO]; · iexact HO
  isplitl []; · iempintro
  iempintro

/-- Leaving the first launch. -/
theorem post_0 (c : Dev nD) : (reg0 m).post c ⊢ iprop(StableHlo.held (c : Thread nD τ) (Pipeline.ucRefs τ sig) (V4 m (outs m) c) ∗ rest c) := by
  refine (RegionSeg.ofHeldIn_post (subs0 (F := F)) c).trans ?_
  rw [show StableHlo.held (c : Thread nD τ) (Pipeline.ucRefs τ sig) (V4 m (outs m) c) = StableHlo.held (c : Thread nD τ) (Pipeline.ucRefs τ sig) (Pipeline.afterRegion (dat0 (V3 m c) c) (V3 m c))
    from (StableHlo.held_congr (c : Thread nD τ) (exit0 m c)).symm]
  iintro ⟨H, HO, -⟩
  isplitl [H]; · iexact H
  iexact HO

/-- Entering the second launch. -/
theorem pre_1 (c : Dev nD) : iprop(StableHlo.held (c : Thread nD τ) (Pipeline.ucRefs τ sig) (V5 m (outs m) c) ∗ rest c) ⊢ (reg1 m).pre c := by
  refine BIBase.Entails.trans ?_ (RegionSeg.ofHeldInT_pre (subs1 (F := F)) (subsT (F := F)) c)
  rw [show V5 m (outs m) c = VE m c from rfl]
  iintro ⟨H, HO⟩
  isplitl [H]; · iexact H
  isplitl [HO]; · iexact HO
  isplitl []; · iempintro
  iempintro

/-- Leaving the second launch. -/
theorem post_1 (c : Dev nD) : (reg1 m).post c ⊢ iprop(StableHlo.held (c : Thread nD τ) (Pipeline.ucRefs τ sig) (V6 m (outs m) c) ∗ rest c) := by
  refine (RegionSeg.ofHeldInT_post (subs1 (F := F)) (subsT (F := F)) c).trans ?_
  rw [show StableHlo.held (c : Thread nD τ) (Pipeline.ucRefs τ sig) (V6 m (outs m) c) = StableHlo.held (c : Thread nD τ) (Pipeline.ucRefs τ sig) (Pipeline.afterRegion (dat1 (tbl m) (VE m c) c) (VE m c))
    from (StableHlo.held_congr (c : Thread nD τ) (exit1 m c)).symm]
  iintro ⟨H, HO, -⟩
  isplitl [H]; · iexact H
  iexact HO

/-- The last valuation has the result. -/
theorem V6_result (c : Dev nD) : V6 m (outs m) c main_v9 = result m c :=
  (V6_v9 m (outs m) c).trans (Pipeline.afterRegion_arr (dat1 (tbl m) (VE m c) c) (VE m c) (launch1 (F := F)).win.arr_inj 8)

/-- The launch's element: the staging cells' and the transfers'. -/
def u₀ : UR sig nD τ := initOf (Pipeline.cells (Pipeline.pin (pcfgs (F := F)) (adm m)) (cellOf_inj (adm m))) (Pipeline.launchToks (Pipeline.pin (pcfgs (F := F)) (adm m)) (cellOf_inj (adm m)))

set_option backward.isDefEq.respectTransparency.types false in
/-- The program's run. -/
theorem run_main :
    θ_run defs (onTc (τ := τ) (main (F := F))) ⟨m, fun _ => 0, ρ⟩ (fun r => (∀ c : Dev nD,
      r.2.mem ((c.tc : Thread nD τ).loc main_v9) = result m c ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6))
      ∧ r.2.sem = fun _ => 0) := by
  refine Pipeline.θ_run_regions_kit_dev_sems (pcfgs (F := F)) (adm m) (pdats m) () (cellOf_inj (adm m)) emb₁ defs₀ Variants.none lvls (fun _ _ => 0) m ρ main
    (segs m (outs m) Variants.none lvls (fun _ _ => 0) (fun _ => rest) () (adm m) (pdats m) (reg0 m) (reg1 m))
    (fun c Q => by
      rewrite [main_chain c, Seg.run_eq_chain,
        show (segs m (outs m) Variants.none lvls (fun _ _ => 0) (fun _ => rest) () (adm m) (pdats m) (reg0 m) (reg1 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0)
    (fun g h => if_neg h) (fun _ => nil) (u₀ m) ?_
    (T₀ := fun c => iprop(StableHlo.held (c : Thread nD τ) (Pipeline.ucRefs τ sig) (V0 m c) ∗ rest c))
    (Tₙ := fun c => StableHlo.held (c : Thread nD τ) (Pipeline.ucRefs τ sig) (V6 m (outs m) c))
    (hch := fun c => ⟨.rfl, .rfl, .rfl, pre_0 m c, post_0 m c, pre_1 m c, post_1 m c⟩)
    (hinit := ?_) (QY := fun c s => s.mem ((c.tc : Thread nD τ).loc main_v9) = result m c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h hz => ⟨h, funext fun g => hz g (.inr (regions_no_unscoped g.2))⟩)
  · iintro Hu
    imodintro
    isplitl [Hu]
    · iapply (show (ownU (u₀ m) : sProp (MM F)) ⊢ BI.own (emb₁ (u₀ m)) from .rfl)
      iexact Hu
    · iapply (show (nil : sProp (MM F)) ⊢ bigSep Finset.univ (fun _ : Dev nD => (nil : sProp (MM F))) from BIBase.Entails.of_eq (bigSep_emp_const _).symm)
      iempintro
  · have hone : ∀ c : Dev nD, iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ nil)
        ⊢ (iprop(StableHlo.held (c : Thread nD τ) (Pipeline.ucRefs τ sig) (V0 m c) ∗ rest c) : sProp (MM F)) := fun c => by
      rw [← Pipeline.unscopedBufs_held (Ix := Unit) (Name := ℕ) (U := UR sig nD τ) (Lvl := ℕ) c (V0 m c)]
      iintro ⟨H, -, HO, -⟩
      isplitl [H]; · iexact H
      iexists _
      iexact HO
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ nil))
        ⊢ (bigSep Finset.univ fun c : Dev nD => iprop(StableHlo.held (c : Thread nD τ) (Pipeline.ucRefs τ sig) (V0 m c) ∗ rest c) : sProp (MM F)) :=
      bigSep_mono fun c _ => hone c
    iintro ⟨H, -⟩
    ihave H' := hsplit $$ H
    imodintro
    iexact H'
  · unfold StableHlo.held
    iintro ⟨Hh, HSI⟩
    ihave Hr := (pointsTo_read_all (Pipeline.ucRefs τ sig) (fun b => ((c : Thread nD τ).1, b)) (V6 m (outs m) c) s') $$ [Hh HSI]
    · isplitl [Hh] <;> iassumption
    icases Hr with ⟨%h, HSI⟩
    imodintro
    isplitr
    · ipureintro
      exact ⟨(h (Proc.devRef .tc main_v9) (Finset.mem_filter.mpr ⟨StableHlo.devRef_mem_tcRefs main_v9, by decide⟩)).trans (V6_result m c),
        (h (Proc.devRef .tc main_arg0) (Finset.mem_filter.mpr ⟨StableHlo.devRef_mem_tcRefs main_arg0, by decide⟩)).trans (V6_main_arg0 m (outs m) c),
        (h (Proc.devRef .tc main_arg1) (Finset.mem_filter.mpr ⟨StableHlo.devRef_mem_tcRefs main_arg1, by decide⟩)).trans (V6_main_arg1 m (outs m) c),
        (h (Proc.devRef .tc main_arg2) (Finset.mem_filter.mpr ⟨StableHlo.devRef_mem_tcRefs main_arg2, by decide⟩)).trans (V6_main_arg2 m (outs m) c),
        (h (Proc.devRef .tc main_arg3) (Finset.mem_filter.mpr ⟨StableHlo.devRef_mem_tcRefs main_arg3, by decide⟩)).trans (V6_main_arg3 m (outs m) c),
        (h (Proc.devRef .tc main_arg4) (Finset.mem_filter.mpr ⟨StableHlo.devRef_mem_tcRefs main_arg4, by decide⟩)).trans (V6_main_arg4 m (outs m) c),
        (h (Proc.devRef .tc main_arg5) (Finset.mem_filter.mpr ⟨StableHlo.devRef_mem_tcRefs main_arg5, by decide⟩)).trans (V6_main_arg5 m (outs m) c),
        (h (Proc.devRef .tc main_arg6) (Finset.mem_filter.mpr ⟨StableHlo.devRef_mem_tcRefs main_arg6, by decide⟩)).trans (V6_main_arg6 m (outs m) c)⟩
    · iexact HSI

end Cert.KernelIdeal.Moe

end
-- ==== Proof.Twin.lean ====
/- The program as printed and the program over the extended reals are the same text in two namespaces. Each of
   their pieces is shown equal, smallest first, so that the run proved of one is the run of the other. -/
module

public import proofs.«01_k».proof.Defs
public import proofs.«01_k».proof.Proof.Gen.Kernel
public import proofs.«01_k».proof.Proof.Gen.KernelIdeal

@[expose] public section

set_option maxHeartbeats 4000000

noncomputable section

namespace Cert.Frames

open Idealize.ShloMosaic Idealize.SL.Sem

variable {F : FTy → Type} [FloatOps F]

/-- The first piece of the router's body. -/
theorem twin_router1 : @Cert.Kernel.k0_part1 F _ _ = @Cert.KernelIdeal.k0_part1 F _ _ := rfl

/-- The second piece of the router's body. -/
theorem twin_router2 : @Cert.Kernel.k0_part2 F _ _ = @Cert.KernelIdeal.k0_part2 F _ _ := rfl

/-- The router's body. -/
theorem twin_router : @Cert.Kernel.cc0_moe_router F _ _ = @Cert.KernelIdeal.cc0_moe_router F _ _ := by
  unfold Cert.Kernel.cc0_moe_router Cert.KernelIdeal.cc0_moe_router
  rw [twin_router1, twin_router2]
  rfl

/-- The body of the experts' call. -/
theorem twin_experts : @Cert.Kernel.cc1_moe_experts F _ _ = @Cert.KernelIdeal.cc1_moe_experts F _ _ := rfl

/-- The table of procedures before the launches are built in. -/
theorem twin_defs₀ : @Cert.Kernel.defs₀ F _ _ = @Cert.KernelIdeal.defs₀ F _ _ := by
  unfold Cert.Kernel.defs₀ Cert.KernelIdeal.defs₀
  rw [twin_router, twin_experts]
  refine congrArg (Defs.onTc (nD := Cert.KernelIdeal.nD) (τ := Cert.KernelIdeal.τ) (sig := Cert.KernelIdeal.sig) (Val := Elt F) (Λ := Cert.KernelIdeal.Λ₀)) ?_
  funext l x
  match l, x with
  | 0, (t, s) => exact rfl
  | 1, (t, s) => exact rfl
  | ⟨n + 2, h⟩, x => exact absurd h (Nat.not_lt.2 (Nat.le_add_left _ _))

/-- The tables of the two launches. -/
theorem twin_pcfgs : @Cert.Kernel.pcfgs F _ _ = @Cert.KernelIdeal.pcfgs F _ _ := by exact rfl

section
open Cert.KernelIdeal Cert.KernelIdeal.Facts₀ Cert.KernelIdeal.Facts

/-- The padding of the router's weights, over any table of procedures. -/
def padOf (Λ : Labels) (arg0 : StableHlo.TRef sig ⟨S1024x8, .f32⟩) (arg1 : StableHlo.TRef sig ⟨S_, .i32⟩) (φ : fn_pad.Bufs) : Prog (TpuEff nD τ sig (Elt F) Λ .tc) PUnit := do
  hlo rfl (StableHlo.TRef.unary arg1 φ.v0 (sitofp .f32)) (fun _ => .ret ⟨⟩)
  hlo rfl (StableHlo.TRef.binary arg0 φ.v0 φ.v1 (fun x v => pad S1024x128 ![0, 0] ![0, 120] ![0, 0] x v pads_S1024x8_S1024x128_000_01200 h_S_)) (fun _ => .ret ⟨⟩)
  pure ⟨⟩

/-- The main program over any table of procedures, its two launches left open. -/
def mainOf (Λ : Labels) (launch0 launch1 : Prog (TpuEff nD τ sig (Elt F) Λ .tc) PUnit) :
    Dev nD → Prog (TpuEff nD τ sig (Elt F) Λ .tc) PUnit := fun _ => do
  hlo rfl (StableHlo.nullary main_c (constantI S_ 32 0#32)) (fun _ => .ret ⟨⟩)
  padOf Λ (.of main_arg3) (.of main_c) main_call0
  hlo rfl (StableHlo.unary main_arg1 main_v1 (broadcastInDim S1x1024 ![1] bcast_S1024_S1x1024_1 : (⟨S1024, .f32⟩ : BufTy).Contents (Elt F) → (⟨S1x1024, .f32⟩ : BufTy).Contents (Elt F))) (fun _ => .ret ⟨⟩)
  hlo rfl (StableHlo.unary main_arg2 main_v2 (broadcastInDim S1x1024 ![1] bcast_S1024_S1x1024_1 : (⟨S1024, .f32⟩ : BufTy).Contents (Elt F) → (⟨S1x1024, .f32⟩ : BufTy).Contents (Elt F))) (fun _ => .ret ⟨⟩)
  hlo rfl (StableHlo.unary main_arg4 main_v3 ((truncf .bf16 · bitsLt_bf16_f32) : (⟨S8x1024x3584, .f32⟩ : BufTy).Contents (Elt F) → (⟨S8x1024x3584, .bf16⟩ : BufTy).Contents (Elt F))) (fun _ => .ret ⟨⟩)
  hlo rfl (StableHlo.unary main_arg5 main_v4 ((truncf .bf16 · bitsLt_bf16_f32) : (⟨S8x1024x3584, .f32⟩ : BufTy).Contents (Elt F) → (⟨S8x1024x3584, .bf16⟩ : BufTy).Contents (Elt F))) (fun _ => .ret ⟨⟩)
  hlo rfl (StableHlo.unary main_arg6 main_v5 ((truncf .bf16 · bitsLt_bf16_f32) : (⟨S8x3584x1024, .f32⟩ : BufTy).Contents (Elt F) → (⟨S8x3584x1024, .bf16⟩ : BufTy).Contents (Elt F))) (fun _ => .ret ⟨⟩)
  launch0
  hlo rfl (StableHlo.unary main_v6_3 main_v7 ((extractStridedSlice S16x1x8 ![0, 0, 0] · slices_S16x8x128_S16x1x8_0_0_0) : (⟨S16x8x128, .i32⟩ : BufTy).Contents (Elt F) → (⟨S16x1x8, .i32⟩ : BufTy).Contents (Elt F))) (fun _ => .ret ⟨⟩)
  hlo rfl (StableHlo.reshape main_v7 main_v8 (rfl : (.i32 : EltTy) = .i32) shapeCasts_S16x1x8_S16x8) (fun _ => .ret ⟨⟩)
  launch1
  pure ⟨⟩

/-- What a launch's entry is, over any two launches. -/
def entered (pcs : Fin 2 → Pipeline.PCfg sig Λ₀ (Elt F)) (p : Fin 2) :
    Prog (TpuEff nD τ sig (Elt F) (Pipeline.Sig Λ₀ (Fin 2) fun p => (pcs p).Adm) .tc) PUnit :=
  Prog.lift (.customCall (Pipeline.entry p) ())

/-- The run of the main program over any two launches and any bodies. -/
def runOf (pcs : Fin 2 → Pipeline.PCfg sig Λ₀ (Elt F)) (d₀ : Defs nD τ sig (Elt F) Λ₀)
    (s : MemSt nD τ sig (Elt F)) (Q : PUnit × MemSt nD τ sig (Elt F) → Prop) : Prop :=
  θ_run (Pipeline.defs pcs d₀) (onTc (τ := τ) (mainOf _ (entered pcs 0) (entered pcs 1))) s Q

end

/-- A run of the one program is a run of the other. -/
theorem twin_run (s : MemSt Cert.KernelIdeal.nD Cert.KernelIdeal.τ Cert.KernelIdeal.sig (Elt F)) (Q)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  have h1 : runOf (@Cert.KernelIdeal.pcfgs F _ _) (@Cert.KernelIdeal.defs₀ F _ _) s Q := h
  rw [← twin_pcfgs, ← twin_defs₀] at h1
  exact h1

end Cert.Frames

end

end
-- ==== Proof.Frames.lean ====
/- The frames of the programs: each ends, leaves its arguments as they were and puts every semaphore
   back at zero. -/
module

public import proofs.«01_k».proof.Defs
public import proofs.«01_k».proof.Proof.Run
public import proofs.«01_k».proof.Proof.Twin
public import proofs.«01_k».proof.Proof.Gen.Kernel
public import proofs.«01_k».proof.Proof.Gen.ReferenceIdeal.Run
public import proofs.«01_k».proof.Proof.Gen.Reference2Ideal.Run
public import proofs.«01_k».proof.Proof.Gen.Reference3Ideal.Run

@[expose] public section

noncomputable section

namespace Cert.Frames

open Idealize.ShloMosaic Idealize.SL.Sem

/-- The kernel as printed, over bit patterns: the one run of the two launches taken at machine floats. -/
theorem frame_kernel : Cert.quiescent_Kernel := fun m ρ _ =>
  twin_run _ _ ((θ_run Cert.KernelIdeal.defs _ _).mono (fun _ h => ⟨fun c => (h.1 c).2, h.2⟩)
    (Cert.KernelIdeal.Moe.run_main (F := Bits) m ρ))

/-- The same kernel over the extended reals. -/
theorem frame_kernelIdeal : Cert.quiescent_KernelIdeal := fun m ρ _ =>
  (θ_run Cert.KernelIdeal.defs _ _).mono (fun _ h => ⟨fun c => (h.1 c).2, h.2⟩)
    (Cert.KernelIdeal.Moe.run_main (F := Ideal) m ρ)

/-- The reference over the extended reals: a chain of host operations on a program without semaphores. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The projection's reference over the extended reals. -/
theorem frame_reference2Ideal : Cert.quiescent_Reference2Ideal := fun m ρ _ =>
  (θ_run Cert.Reference2Ideal.defs _ _).mono
    (fun r h => ⟨fun c => (h c).2.2.2.2.2.2, sem_eq_zero_of_no_sems (by decide) r.2⟩)
    (Cert.Reference2Ideal.Value.run (F := Ideal) m ρ)

/-- The dense feed-forward's reference over the extended reals. -/
theorem frame_reference3Ideal : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

end Cert.Frames

end

end
-- ==== Proof.Spec.lean ====
/- The mathematics of the last feed-forward, row by row over the extended reals: the norm, the two experts a row
   is sent to, their weights, an expert's output and the mixed result. Both programs are shown to compute it. -/
module

public import Idealize.ShloMosaic.PureOps.Ideal
public import Idealize.ShloMosaic.Lib.IdealHost

@[expose] public section

noncomputable section

namespace Cert.Moe

open Idealize.ShloMosaic

/-- A row scaled by the reciprocal root of its mean square, and then by weights. -/
def norm (x g : Fin 1024 → EReal) (k : Fin 1024) : EReal :=
  x k * Ideal.rsqrt (Ideal.div (∑ j, x j * x j) (Ideal.ofBits .f32 0x44800000#32) + Ideal.ofBits .f32 0x358637BD#32) * g k

/-- A row's scores for the eight experts. -/
def scores (h : Fin 1024 → EReal) (w : Fin 1024 → Fin 8 → EReal) (e : Fin 8) : EReal := ∑ k, h k * w k e

/-- `a` is the first of the largest scores and `b` the first of the largest of the others. -/
structure Top2 (l : Fin 8 → EReal) (a b : Fin 8) : Prop where
  max1 : ∀ e, l e ≤ l a
  first1 : ∀ e, e < a → l e < l a
  ne : b ≠ a
  max2 : ∀ e, e ≠ a → l e ≤ l b
  first2 : ∀ e, e ≠ a → e < b → l e < l b

/-- The weight of expert `e` when `a` and `b` are chosen. -/
def weight (l : Fin 8 → EReal) (a b e : Fin 8) : EReal :=
  if e = a then Ideal.div 1 (1 + Ideal.exp (l b - l a))
  else if e = b then Ideal.exp (l b - l a) * Ideal.div 1 (1 + Ideal.exp (l b - l a)) else 0

/-- The gated activation. -/
def act (h u : EReal) : EReal := h * Ideal.div 1 (1 + Ideal.exp (-h)) * u

/-- An expert's output on a row. -/
def ffn (h : Fin 1024 → EReal) (wg wu : Fin 1024 → Fin 3584 → EReal) (wd : Fin 3584 → Fin 1024 → EReal) (d : Fin 1024) : EReal :=
  ∑ m, act (∑ k, h k * wg k m) (∑ k, h k * wu k m) * wd m d

/-- The layer on a row when `a` and `b` are chosen. -/
def layer (x g gf : Fin 1024 → EReal) (w : Fin 1024 → Fin 8 → EReal) (wg wu : Fin 8 → Fin 1024 → Fin 3584 → EReal)
    (wd : Fin 8 → Fin 3584 → Fin 1024 → EReal) (a b : Fin 8) : Fin 1024 → EReal :=
  norm (fun d => x d + ∑ e, weight (scores (norm x g) w) a b e * ffn (norm x g) (wg e) (wu e) (wd e) d) gf

/-- Among some experts there is a first of the largest scores. -/
theorem first_max (l : Fin 8 → EReal) (s : Finset (Fin 8)) (hs : s.Nonempty) :
    ∃ a ∈ s, (∀ e ∈ s, l e ≤ l a) ∧ ∀ e ∈ s, e < a → l e < l a := by
  classical
  obtain ⟨m, hm, hmax⟩ := s.exists_max_image l hs
  have hT : (s.filter fun a => ∀ e ∈ s, l e ≤ l a).Nonempty := ⟨m, Finset.mem_filter.mpr ⟨hm, hmax⟩⟩
  have hmem := Finset.mem_filter.mp (Finset.min'_mem _ hT)
  refine ⟨_, hmem.1, hmem.2, fun e he hlt => ?_⟩
  by_contra hno
  have h1 : e ∈ s.filter fun a => ∀ e ∈ s, l e ≤ l a :=
    Finset.mem_filter.mpr ⟨he, fun e' he' => (hmem.2 e' he').trans (not_lt.mp hno)⟩
  exact absurd (Finset.min'_le _ e h1) (not_le.mpr hlt)

/-- Every row has its two experts. -/
theorem top2_exists (l : Fin 8 → EReal) : ∃ a b, Top2 l a b := by
  classical
  obtain ⟨a, -, h1, h2⟩ := first_max l Finset.univ ⟨0, Finset.mem_univ 0⟩
  have hne : (Finset.univ.erase a : Finset (Fin 8)).Nonempty := by
    rw [← Finset.card_pos, Finset.card_erase_of_mem (Finset.mem_univ a)]
    decide
  obtain ⟨b, hb, h3, h4⟩ := first_max l (Finset.univ.erase a) hne
  exact ⟨a, b, fun e => h1 e (Finset.mem_univ e), fun e => h2 e (Finset.mem_univ e), (Finset.mem_erase.mp hb).1,
    fun e he => h3 e (Finset.mem_erase.mpr ⟨he, Finset.mem_univ e⟩), fun e he => h4 e (Finset.mem_erase.mpr ⟨he, Finset.mem_univ e⟩)⟩

/-- A number that is not an infinity. -/
def IsReal (x : EReal) : Prop := ∃ r : ℝ, x = (r : EReal)

/-- A number below the upper infinity in absolute value is real. -/
theorem IsReal.of_abs_lt {x : EReal} (h : max x (-x) < ⊤) : IsReal x := by
  induction x using EReal.rec with
  | bot => simp at h
  | top => simp at h
  | coe r => exact ⟨r, rfl⟩

/-- Products of real numbers are real. -/
theorem IsReal.mul {x y : EReal} : IsReal x → IsReal y → IsReal (x * y) := by
  rintro ⟨a, rfl⟩ ⟨b, rfl⟩
  exact ⟨a * b, (EReal.coe_mul a b).symm⟩

/-- Sums of real numbers are real. -/
theorem IsReal.sum {ι : Type} (s : Finset ι) {f : ι → EReal} (h : ∀ i, IsReal (f i)) : IsReal (∑ i ∈ s, f i) := by
  classical
  choose g hg using h
  refine ⟨∑ i ∈ s, g i, ?_⟩
  induction s using Finset.induction_on with
  | empty => simp
  | insert i s hi ih => rw [Finset.sum_insert hi, Finset.sum_insert hi, ih, hg i, EReal.coe_add]

/-- The word of the row's length. -/
theorem word_len : Ideal.ofBits .f32 0x44800000#32 = ((1024 : ℝ) : EReal) := by
  simp [Ideal.ofBits, Ideal.ieee]
  rw [← EReal.coe_mul]
  norm_num

/-- The word added to the mean square is a positive real number. -/
theorem word_eps : ∃ r : ℝ, 0 < r ∧ Ideal.ofBits .f32 0x358637BD#32 = (r : EReal) := by
  simp [Ideal.ofBits, Ideal.ieee]
  refine ⟨8796093 * (2 ^ 43)⁻¹, by positivity, ?_⟩
  rw [EReal.coe_mul]

/-- The square of an extended real is not negative. -/
theorem sq_nonneg' (x : EReal) : 0 ≤ x * x := by
  rcases le_total 0 x with h | h
  · exact mul_nonneg h h
  · have h1 : x * x = -x * -x := by rw [EReal.neg_mul, mul_comm x (-x), EReal.neg_mul, neg_neg]
    rw [h1]
    exact mul_nonneg (EReal.neg_nonneg.mpr h) (EReal.neg_nonneg.mpr h)

/-- A normed row is real where its weights are: a row with an infinite entry is scaled by zero. -/
theorem norm_isReal (x g : Fin 1024 → EReal) (hg : ∀ k, IsReal (g k)) (k : Fin 1024) : IsReal (norm x g k) := by
  refine IsReal.mul ?_ (hg k)
  obtain ⟨ε, hε, he⟩ := word_eps
  rw [word_len, he]
  by_cases h : ∀ j, IsReal (x j)
  · choose y hy using h
    obtain ⟨S, hS⟩ := IsReal.sum Finset.univ (fun j => IsReal.mul (⟨y j, hy j⟩ : IsReal (x j)) ⟨y j, hy j⟩)
    have hS0 : 0 ≤ S := by
      have h0 : (0 : EReal) ≤ ∑ j, x j * x j := Finset.sum_nonneg fun j _ => sq_nonneg' (x j)
      rw [hS] at h0
      exact_mod_cast h0
    refine IsReal.mul ⟨y k, hy k⟩ ?_
    have hd : Ideal.div (S : EReal) ((1024 : ℝ) : EReal) = ((S * (1024 : ℝ)⁻¹ : ℝ) : EReal) := by
      unfold Ideal.div
      rw [if_neg (by exact_mod_cast (by norm_num : (1024 : ℝ) ≠ 0)), ← EReal.coe_inv, EReal.coe_mul]
    rw [hS, hd, ← EReal.coe_add]
    have hp : 0 < S * (1024 : ℝ)⁻¹ + ε := by positivity
    refine ⟨(Real.sqrt (S * (1024 : ℝ)⁻¹ + ε))⁻¹, ?_⟩
    show (if S * (1024 : ℝ)⁻¹ + ε < 0 then (⊥ : EReal) else if S * (1024 : ℝ)⁻¹ + ε = 0 then ⊤ else _) = _
    rw [if_neg (not_lt.mpr hp.le), if_neg hp.ne']
  · push Not at h
    obtain ⟨j, hj⟩ := h
    have hsq : ∀ z : EReal, ¬ IsReal z → z * z = ⊤ := fun z hz => by
      induction z using EReal.rec with
      | bot => simp
      | top => simp
      | coe r => exact absurd ⟨r, rfl⟩ hz
    have hjj : x j * x j = ⊤ := hsq _ hj
    have hS : ∑ j, x j * x j = ⊤ := by
      refine top_le_iff.mp ?_
      rw [← hjj]
      exact Finset.single_le_sum (f := fun j => x j * x j) (fun i _ => sq_nonneg' (x i)) (Finset.mem_univ j)
    have hd : Ideal.div ⊤ ((1024 : ℝ) : EReal) = ⊤ := by
      unfold Ideal.div
      rw [if_neg (by exact_mod_cast (by norm_num : (1024 : ℝ) ≠ 0)), ← EReal.coe_inv]
      exact EReal.top_mul_coe_of_pos (by norm_num)
    rw [hS, hd, EReal.top_add_coe]
    exact ⟨0, by show x k * 0 = _; rw [mul_zero]; rfl⟩

/-- The scores are real where the weights are. -/
theorem scores_isReal (x g : Fin 1024 → EReal) (w : Fin 1024 → Fin 8 → EReal) (hg : ∀ k, IsReal (g k)) (hw : ∀ k e, IsReal (w k e))
    (e : Fin 8) : IsReal (scores (norm x g) w e) :=
  IsReal.sum _ fun k => (norm_isReal x g hg k).mul (hw k e)

/-- A sum over an expert's columns, block by block. -/
theorem sum_blocks (f : Fin 3584 → EReal) (m : ℕ → Fin 896 → Fin 3584) (hm : ∀ j k, j < 4 → (m j k).val = 896 * j + k.val) :
    ∑ i, f i = ∑ k, f (m 0 k) + ∑ k, f (m 1 k) + ∑ k, f (m 2 k) + ∑ k, f (m 3 k) := by
  have h : ∑ i : Fin (4 * 896), f i = ∑ p : Fin 4 × Fin 896, f (m p.1.val p.2) := by
    refine (Fintype.sum_equiv finProdFinEquiv _ _ fun p => congrArg f (Fin.ext ?_)).symm
    rw [hm _ _ p.1.isLt]
    show _ = p.2.val + 896 * p.1.val
    omega
  rw [show ∑ i, f i = ∑ i : Fin (4 * 896), f i from rfl, h, Fintype.sum_prod_type, Fin.sum_univ_four]
  rfl

end Cert.Moe

end

end
-- ==== Proof.RouterValue.lean ====
/- What the router's block is over the extended reals: the gates, ranks, choices and counts of the rows' two experts. -/
module

public import proofs.«01_k».proof.Proof.Router
public import proofs.«01_k».proof.Proof.Spec
public import Idealize.ShloMosaic.Lib.Pointwise

@[expose] public section

set_option maxRecDepth 16384

noncomputable section

namespace Cert.Moe

open Idealize.ShloMosaic Cert.KernelIdeal Cert.KernelIdeal.Gen

/-- A lane's number as a float. -/
theorem lane_float (n : ℕ) (h : n < 2 ^ 31) : FloatOps.sitofp (F := Ideal) FTy.f32 (BitVec.ofNat 32 n) = ((n : ℝ) : EReal) := by
  show (((BitVec.ofNat 32 n).toInt : ℝ) : EReal) = _
  have h1 : (BitVec.ofNat 32 n).toInt = (n : ℤ) := by
    rw [BitVec.toInt_eq_toNat_of_lt (by rw [BitVec.toNat_ofNat]; omega), BitVec.toNat_ofNat, Nat.mod_eq_of_lt (by omega)]
  rw [h1]
  norm_cast

/-- The word of the number of experts. -/
theorem word_8 : Ideal.ofBits .f32 0x41000000#32 = ((8 : ℝ) : EReal) := by
  simp [Ideal.ofBits, Ideal.ieee]
  rw [← EReal.coe_mul]
  norm_num

/-- The word of the number of lanes. -/
theorem word_128 : Ideal.ofBits .f32 0x43000000#32 = ((128 : ℝ) : EReal) := by
  simp [Ideal.ofBits, Ideal.ieee]
  rw [← EReal.coe_mul]
  norm_num

/-- The word of the lower infinity. -/
theorem word_bot : Ideal.ofBits .f32 0xFF800000#32 = ⊥ := by simp [Ideal.ofBits, Ideal.ieee]

/-- The word of the upper infinity. -/
theorem word_top : Ideal.ofBits .f32 0x7F800000#32 = ⊤ := by simp [Ideal.ofBits, Ideal.ieee]

/-- The largest of the lanes. -/
theorem fold_max_eq {n : ℕ} (f : Fin n → EReal) (i : Fin n) (h : ∀ j, f j ≤ f i) : Finset.fold max ⊥ f Finset.univ = f i :=
  le_antisymm ((Finset.fold_max_le _).mpr ⟨bot_le, fun j _ => h j⟩) ((Finset.le_fold_max _).mpr (Or.inr ⟨i, Finset.mem_univ i, le_rfl⟩))

/-- The first lane that holds a value. -/
theorem fold_min_first (f : Fin 128 → EReal) (v : EReal) [∀ j, Decidable (f j = v)] (i : Fin 128) (hi : f i = v) (h : ∀ j, f j = v → i ≤ j) :
    Finset.fold min ⊤ (fun j => if f j = v then ((j.val : ℝ) : EReal) else ((128 : ℝ) : EReal)) Finset.univ = ((i.val : ℝ) : EReal) := by
  refine le_antisymm ((Finset.fold_min_le _).mpr (Or.inr ⟨i, Finset.mem_univ i, ?_⟩)) ((Finset.le_fold_min _).mpr ⟨le_top, fun j _ => ?_⟩)
  · rw [if_pos hi]
  · split
    · rename_i hj
      exact_mod_cast h j hj
    · have := i.isLt
      exact_mod_cast this.le

/-- A sum of ones is a count. -/
theorem sum_ones {n : ℕ} (p : Fin n → Prop) [DecidablePred p] :
    ∑ x, (if p x then (1 : EReal) else 0) = (((Finset.univ.filter p).card : ℝ) : EReal) := by
  rw [Finset.sum_boole]
  exact (EReal.coe_coe_eq_natCast _).symm

/-- A small count as an integer. -/
theorem count_word (n : ℕ) (h : n < 2 ^ 31) : FloatOps.fptosi (F := Ideal) (φ := .f32) 32 ((n : ℝ) : EReal) = BitVec.ofNat 32 n := by
  show Ideal.fptosi 32 ((n : ℝ) : EReal) = _
  have h1 : Ideal.toIntClamped (-(2 ^ 31 : ℕ)) ((2 ^ 31 : ℕ) - 1) ((n : ℝ) : EReal) = (n : ℤ) := by
    show max _ (min _ (if (0 : ℝ) ≤ (n : ℝ) then ⌊(n : ℝ)⌋ else ⌈(n : ℝ)⌉)) = _
    rw [if_pos (Nat.cast_nonneg n), Int.floor_natCast]
    omega
  show BitVec.ofInt 32 _ = _
  rw [h1]
  rfl

/-- A choice by the order of two small numbers. -/
theorem select_slt {α : Type} (x y : ℕ) (hx : x < 2 ^ 31) (hy : y < 2 ^ 31) (u v : α) :
    Scalar.select (IntOp.cmpi CmpIPredicate.slt (BitVec.ofNat 32 x) (BitVec.ofNat 32 y)) u v = if x < y then u else v := by
  have h1 : ∀ n : ℕ, n < 2 ^ 31 → (BitVec.ofNat 32 n).toInt = (n : ℤ) := fun n hn => by
    rw [BitVec.toInt_eq_toNat_of_lt (by rw [BitVec.toNat_ofNat]; omega), BitVec.toNat_ofNat, Nat.mod_eq_of_lt (by omega)]
  have h2 : (BitVec.ofNat 32 x).slt (BitVec.ofNat 32 y) = decide (x < y) := by
    rw [BitVec.slt_eq_decide, h1 x hx, h1 y hy]
    simp
  show (if BitVec.ofBool ((BitVec.ofNat 32 x).slt (BitVec.ofNat 32 y)) = 1#1 then u else v) = _
  rw [h2]
  by_cases h : x < y <;> simp [h]

/-- An expert as a lane. -/
def laneOf (e : Fin 8) : Fin 128 := ⟨e.val, by omega⟩

/-- Two experts are compared as their lanes are. -/
theorem laneOf_or (e a b : Fin 8) : ((laneOf e).val = a.val ∨ (laneOf e).val = b.val) ↔ (e = a ∨ e = b) := by
  rw [Fin.ext_iff, Fin.ext_iff]
  rfl

/-- The first lane of `d` with the value of `c`, among the lanes numbered by `a`. -/
theorem pay14_read (a d : FVec Ideal S1024x128 .f32) (c : FVec Ideal S1024 .f32) (r : Fin 1024) (z : Fin 1) :
    k0_pay14 a d c (ix2 r z) = Finset.fold min (Ideal.ofBits FTy.f32 0x7F800000#32)
      (fun j => if d (ix2 r j) = c (Idealize.ShloMosaic.ix1 r) then a (ix2 r j) else Ideal.ofBits FTy.f32 0x43000000#32) Finset.univ := by
  pointwise [k0_pay14, k0_pay13]

/-- A rank is a sum over the earlier rows. -/
theorem pay18_read (a d : FVec Ideal S1024x128 .f32) (b : FVec Ideal S1024x1 .f32) (c : FVec Ideal S1024 .f32) (e : Fin 8) (r : Fin 1024) :
    k0_pay18 a b d c (ix2 e r) = ∑ q : Fin 1024, Scalar.select (IntOp.cmpi CmpIPredicate.slt (BitVec.ofNat 32 q.val) (BitVec.ofNat 32 r.val))
      (k0_pay17 a b d c (ix2 e q)) 0 := by
  pointwise [k0_pay18]

section block

variable (x : Vec Ideal S1024x1024 .f32) (g : Vec Ideal S1x1024 .f32) (w : Vec Ideal S1024x128 .f32) (W : Fin 1024 → Fin 8 → EReal)

/-- The normed row `r` of the block. -/
abbrev hrow (r : Fin 1024) : Fin 1024 → EReal := norm (fun k => x (ix2 r k)) (fun k => g (ix2 0 k))

/-- The scores of row `r` of the block. -/
abbrev srow (r : Fin 1024) : Fin 8 → EReal := scores (hrow x g r) W

/-- The block's normed rows. -/
theorem pay5_apply (r k : Fin 1024) : k0_pay5 x g (ix2 r k) = hrow x g r k := by
  pointwise [k0_pay5]
  rfl

/-- The block's normed rows as they are stored. -/
theorem hnB_apply (r k : Fin 1024) : KernelIdeal.Moe.hnB x g (ix2 r k) = hrow x g r k := pay5_apply x g r k

/-- The lanes' numbers. -/
theorem pay7_apply (r : Fin 1024) (j : Fin 128) : (k0_pay7 : FVec Ideal S1024x128 .f32) (ix2 r j) = ((j.val : ℝ) : EReal) := by
  pointwise [k0_pay7]
  exact lane_float _ (by omega)

variable (hw : ∀ (k : Fin 1024) (e : Fin 8), w (ix2 k (laneOf e)) = W k e)
include hw

/-- The block's scores, the lanes without an expert at the lower infinity. -/
theorem pay8_apply (r : Fin 1024) (j : Fin 128) : k0_pay8 x g w (ix2 r j) = if h : j.val < 8 then srow x g W r ⟨j.val, h⟩ else ⊥ := by
  pointwise [k0_pay8]
  rw [pay7_apply, word_8, word_bot]
  by_cases h : j.val < 8
  · have h1 : (((j.val : ℝ)) : EReal) < ((8 : ℝ) : EReal) := by exact_mod_cast h
    rw [if_pos h1, dif_pos h]
    refine Finset.sum_congr rfl fun k _ => ?_
    rw [pay5_apply, ← hw]
    rfl
  · have h1 : ¬ (((j.val : ℝ)) : EReal) < ((8 : ℝ) : EReal) := by exact_mod_cast h
    rw [if_neg h1, dif_neg h]

variable {A B : Fin 1024 → Fin 8} (hT : ∀ r, Top2 (srow x g W r) (A r) (B r)) (hR : ∀ r e, IsReal (srow x g W r e))
include hT

/-- The largest score. -/
theorem pay9_apply (r : Fin 1024) (z : Fin 1) : k0_pay9 x g w (ix2 r z) = srow x g W r (A r) := by
  pointwise [k0_pay9]
  rw [word_bot]
  have h0 : srow x g W r (A r) = k0_pay8 x g w (ix2 r (laneOf (A r))) := by
    rw [pay8_apply x g w W hw, dif_pos (show (laneOf (A r)).val < 8 from (A r).isLt)]
    rfl
  rw [h0]
  refine fold_max_eq (fun j => k0_pay8 x g w (ix2 r j)) (laneOf (A r)) fun j => ?_
  show k0_pay8 x g w (ix2 r j) ≤ k0_pay8 x g w (ix2 r (laneOf (A r)))
  rw [← h0, pay8_apply x g w W hw]
  split
  · exact (hT r).max1 _
  · exact bot_le

include hR

/-- The first lane with the largest score. -/
theorem pay10_apply (r : Fin 1024) (z : Fin 1) : k0_pay10 x g w (ix2 r z) = (((A r).val : ℝ) : EReal) := by
  pointwise [k0_pay10]
  simp only [pay9_apply x g w W hw hT, pay7_apply]
  rw [word_top, word_128]
  have hb : srow x g W r (A r) ≠ ⊥ := by
    obtain ⟨s, hs⟩ := hR r (A r)
    rw [hs]
    exact EReal.coe_ne_bot s
  refine fold_min_first (fun j => k0_pay8 x g w (ix2 r j)) _ (laneOf (A r)) ?_ fun j hj => ?_
  · show k0_pay8 x g w (ix2 r (laneOf (A r))) = _
    rw [pay8_apply x g w W hw, dif_pos (show (laneOf (A r)).val < 8 from (A r).isLt)]
    rfl
  · replace hj : k0_pay8 x g w (ix2 r j) = _ := hj
    rw [pay8_apply x g w W hw] at hj
    split at hj
    · rename_i h
      by_contra hno
      exact absurd hj ((hT r).first1 ⟨j.val, h⟩ (not_le.mp hno)).ne
    · exact absurd hj.symm hb

/-- The scores without the first expert's. -/
theorem pay11_apply (r : Fin 1024) (j : Fin 128) :
    k0_pay11 x g w (ix2 r j) = if h : j.val < 8 ∧ j.val ≠ (A r).val then srow x g W r ⟨j.val, h.1⟩ else ⊥ := by
  pointwise [k0_pay11]
  rw [pay10_apply x g w W hw hT hR, pay7_apply, word_bot, pay8_apply x g w W hw]
  by_cases h : j.val = (A r).val
  · rw [if_pos (by rw [h]), dif_neg (fun hh => hh.2 h)]
  · rw [if_neg (by exact_mod_cast h)]
    by_cases h8 : j.val < 8
    · rw [dif_pos h8, dif_pos ⟨h8, h⟩]
    · rw [dif_neg h8, dif_neg (fun hh => h8 hh.1)]

/-- The second expert's lane among the scores without the first's. -/
theorem pay11_second (r : Fin 1024) : k0_pay11 x g w (ix2 r (laneOf (B r))) = srow x g W r (B r) := by
  rw [pay11_apply x g w W hw hT hR, dif_pos ⟨(B r).isLt, fun h => (hT r).ne (Fin.ext h)⟩]
  rfl

/-- The second largest score. -/
theorem pay12_apply (r : Fin 1024) : k0_pay12 x g w (Idealize.ShloMosaic.ix1 r) = srow x g W r (B r) := by
  pointwise [k0_pay12]
  rw [word_bot, ← pay11_second x g w W hw hT hR]
  refine fold_max_eq (fun j => k0_pay11 x g w (ix2 r j)) (laneOf (B r)) fun j => ?_
  show k0_pay11 x g w (ix2 r j) ≤ k0_pay11 x g w (ix2 r (laneOf (B r)))
  rw [pay11_second x g w W hw hT hR, pay11_apply x g w W hw hT hR]
  split
  · rename_i h
    exact (hT r).max2 _ fun hh => h.2 (congrArg Fin.val hh)
  · exact bot_le

/-- The first other lane with the second largest score. -/
theorem pay14_apply (r : Fin 1024) (z : Fin 1) :
    k0_pay14 k0_pay7 (k0_pay11 x g w) (k0_pay12 x g w) (ix2 r z) = (((B r).val : ℝ) : EReal) := by
  rw [pay14_read]
  simp only [pay12_apply x g w W hw hT hR, pay7_apply]
  rw [word_top, word_128]
  have hb : srow x g W r (B r) ≠ ⊥ := by
    obtain ⟨s, hs⟩ := hR r (B r)
    rw [hs]
    exact EReal.coe_ne_bot s
  refine fold_min_first (fun j => k0_pay11 x g w (ix2 r j)) _ (laneOf (B r)) (pay11_second x g w W hw hT hR r) fun j hj => ?_
  replace hj : k0_pay11 x g w (ix2 r j) = _ := hj
  rw [pay11_apply x g w W hw hT hR] at hj
  split at hj
  · rename_i h
    by_contra hno
    exact absurd hj ((hT r).first2 ⟨j.val, h.1⟩ (fun hh => h.2 (congrArg Fin.val hh)) (not_le.mp hno)).ne
  · exact absurd hj.symm hb

/-- Whether a row is sent to the expert of a lane. -/
theorem selB_apply (r : Fin 1024) (j : Fin 128) :
    KernelIdeal.Moe.selB x g w (ix2 r j) = if j.val = (A r).val ∨ j.val = (B r).val then 1 else 0 := by
  unfold KernelIdeal.Moe.selB
  pointwise [k0_pay15]
  rw [pay14_apply x g w W hw hT hR, pay10_apply x g w W hw hT hR, pay7_apply]
  by_cases h1 : j.val = (A r).val
  · rw [if_pos (by rw [h1]), if_pos (Or.inl h1)]
  · rw [if_neg (by exact_mod_cast h1)]
    by_cases h2 : j.val = (B r).val
    · rw [if_pos (by rw [h2]), if_pos (Or.inr h2)]
    · rw [if_neg (by exact_mod_cast h2), if_neg (fun h => h.elim h1 h2)]

/-- The gates. -/
theorem gateB_apply (e : Fin 8) (r : Fin 1024) :
    KernelIdeal.Moe.gateB x g w (ix2 e r) = weight (srow x g W r) (A r) (B r) e := by
  unfold KernelIdeal.Moe.gateB
  pointwise [k0_pay16, k0_pay13]
  rw [pay14_apply x g w W hw hT hR, pay10_apply x g w W hw hT hR, pay7_apply, pay12_apply x g w W hw hT hR, pay9_apply x g w W hw hT]
  unfold weight
  by_cases h1 : e = A r
  · rw [if_pos h1, if_pos (by rw [h1])]
  · rw [if_neg h1, if_neg (by exact_mod_cast fun h => h1 (Fin.ext h))]
    by_cases h2 : e = B r
    · rw [if_pos h2, if_pos (by rw [h2])]
    · rw [if_neg h2, if_neg (by exact_mod_cast fun h => h2 (Fin.ext h))]

/-- The choices, by lane. -/
theorem selTB_apply (e : Fin 8) (r : Fin 1024) : KernelIdeal.Moe.selTB x g w (ix2 e r) = if e = A r ∨ e = B r then 1 else 0 := by
  have h0 : KernelIdeal.Moe.selTB x g w (ix2 e r) = KernelIdeal.Moe.selB x g w (ix2 r (laneOf e)) := by
    unfold KernelIdeal.Moe.selTB KernelIdeal.Moe.selB
    pointwise [k0_pay17]
    rfl
  rw [h0, selB_apply x g w W hw hT hR]
  exact if_congr (laneOf_or _ _ _) rfl rfl

/-- A row's rank among the rows sent to the expert. -/
theorem rankB_apply (e : Fin 8) (r : Fin 1024) :
    KernelIdeal.Moe.rankB x g w (ix2 e r) = (((Finset.univ.filter fun q : Fin 1024 => q < r ∧ (e = A q ∨ e = B q)).card : ℝ) : EReal) := by
  unfold KernelIdeal.Moe.rankB
  rw [pay18_read, ← sum_ones]
  refine Finset.sum_congr rfl fun q _ => ?_
  rw [select_slt q.val r.val (by omega) (by omega),
    show k0_pay17 k0_pay7 (k0_pay10 x g w) (k0_pay11 x g w) (k0_pay12 x g w) (ix2 e q) = _ from selTB_apply x g w W hw hT hR e q]
  by_cases h : q < r
  · rw [if_pos (show q.val < r.val from h)]
    exact if_congr (by simp [h]) rfl rfl
  · rw [if_neg (show ¬ q.val < r.val from h), if_neg (fun hh => h hh.1)]

/-- The number of rows sent to the expert. -/
theorem cntB_apply (z : Fin 1) (e' : Fin 8) (e : Fin 8) :
    KernelIdeal.Moe.cntB x g w (ix3 z e' (laneOf e)) = BitVec.ofNat 32 (Finset.univ.filter fun q : Fin 1024 => e = A q ∨ e = B q).card := by
  unfold KernelIdeal.Moe.cntB
  pointwise [k0_pay4]
  have h0 : ∑ q : Fin 1024, KernelIdeal.Moe.selB x g w (ix2 q (laneOf e)) = ∑ q : Fin 1024, (if e = A q ∨ e = B q then (1 : EReal) else 0) := by
    refine Finset.sum_congr rfl fun q _ => ?_
    rw [selB_apply x g w W hw hT hR]
    exact if_congr (laneOf_or _ _ _) rfl rfl
  rw [h0, sum_ones]
  exact count_word _ (lt_of_le_of_lt (Finset.card_le_univ _) (by decide))

omit hw hT hR in
/-- The parts of the table by rows. -/
theorem colB_apply (r : Fin 1024) (e : Fin 8) :
    KernelIdeal.Moe.colB x g w (ix2 r (laneOf e)) = KernelIdeal.Moe.gateB x g w (ix2 e r)
    ∧ KernelIdeal.Moe.colB x g w (ix2 r (⟨8 + e.val, by omega⟩ : Fin 128)) = KernelIdeal.Moe.rankB x g w (ix2 e r)
    ∧ KernelIdeal.Moe.colB x g w (ix2 r (⟨16 + e.val, by omega⟩ : Fin 128)) = KernelIdeal.Moe.selTB x g w (ix2 e r) := by
  unfold KernelIdeal.Moe.colB
  refine ⟨?_, ?_, ?_⟩
  · pointwise [k0_pay3, k0_pay1]
    rw [dif_pos (show (laneOf e).val < 8 from e.isLt)]
    rfl
  · pointwise [k0_pay3, k0_pay1]
  · pointwise [k0_pay3, k0_pay1]
    rw [dif_neg (by omega), dif_neg (by omega), dif_pos (by omega)]
    exact congrArg (fun q => KernelIdeal.Moe.selTB x g w (ix2 q r)) (Fin.ext (by show 16 + e.val - 8 - 8 = _; omega))

omit hw hT hR in
/-- The parts of the table by lanes. -/
theorem rowB_apply (z : Fin 1) (r : Fin 1024) (e : Fin 8) :
    KernelIdeal.Moe.rowB x g w (ix3 z (⟨8 + e.val, by omega⟩ : Fin 32) r) = KernelIdeal.Moe.rankB x g w (ix2 e r)
    ∧ KernelIdeal.Moe.rowB x g w (ix3 z (⟨16 + e.val, by omega⟩ : Fin 32) r) = KernelIdeal.Moe.selTB x g w (ix2 e r) := by
  unfold KernelIdeal.Moe.rowB
  refine ⟨?_, ?_⟩
  · pointwise [k0_pay2, k0_pay1]
  · pointwise [k0_pay2, k0_pay1]
    rw [dif_neg (by omega), dif_neg (by omega), dif_pos (by omega)]
    exact congrArg (fun q => KernelIdeal.Moe.selTB x g w (ix2 q r)) (Fin.ext (by show 16 + e.val - 8 - 8 = _; omega))

end block

end Cert.Moe

end

end
-- ==== Proof.ExpertsValue.lean ====
/- What the experts' block is over the extended reals: each chosen row gets its gate times the expert's output. -/
module

public import proofs.«01_k».proof.Proof.RouterValue

@[expose] public section

set_option maxRecDepth 16384

noncomputable section

namespace Cert.Moe

open Idealize.ShloMosaic Cert.KernelIdeal Cert.KernelIdeal.Gen

/-- A lane's number moved by an offset, as a float. -/
theorem lane_add (c b : ℕ) (h : c + b < 2 ^ 31) :
    FloatOps.sitofp (F := Ideal) FTy.f32 (IntOp.addi (BitVec.ofNat 32 c) (BitVec.ofNat 32 b)) = (((c + b : ℕ) : ℝ) : EReal) := by
  have h1 : IntOp.addi (BitVec.ofNat 32 c) (BitVec.ofNat 32 b) = BitVec.ofNat 32 (c + b) := (BitVec.ofNat_add ..).symm
  rw [h1, lane_float _ h]

/-- Taking from zero. -/
theorem zero_sub' (x : EReal) : 0 - x = -x := by rw [sub_eq_add_neg, zero_add]

/-- The values of a sub-block of `N` rows whose first row is `lo`. -/
structure Reads (lo : ℕ) {N : ℕ} (p : KernelIdeal.Moe.Pays Ideal ⟨2, ![N, 1024]⟩) : Prop where
  gather : ∀ a b h (c : Fin N) (k : Fin 1024), p.g a b h (ix2 c k)
    = ∑ x : Fin 1024, (if a (ix3 0 0 x) = (((c.val + lo : ℕ) : ℝ) : EReal) then b (ix3 0 0 x) else 0) * h (ix2 x k)
  zero : ∀ (c : Fin N) (k : Fin 1024), p.z (ix2 c k) = 0
  down : ∀ h wg wu y wd (c : Fin N) (k : Fin 1024), p.d h wg wu y wd (ix2 c k)
    = y (ix2 c k) + ∑ m : Fin 896, act (∑ x : Fin 1024, h (ix2 c x) * wg (ix3 0 x m)) (∑ x : Fin 1024, h (ix2 c x) * wu (ix3 0 x m)) * wd (ix3 0 m k)
  place : ∀ a b T g y (r d : Fin 1024), p.p a b T g y (ix2 r d)
    = T (ix2 r d) + g (ix3 0 r 0) * ∑ c : Fin N, (if a (ix3 0 r 0) = (((c.val + lo : ℕ) : ℝ) : EReal) then b (ix3 0 r 0) else 0) * y (ix2 c d)

/-- The sub-block of 256 rows. -/
theorem reads_0 : Reads 0 (N := 256) (KernelIdeal.Moe.payJ 0) := by
  constructor <;> intros <;> pointwise [KernelIdeal.Moe.payJ, k1_pay12, k1_pay13, k1_pay14, k1_pay15] <;>
    simp (disch := omega) only [lane_add, zero_sub', act, Nat.add_zero]

/-- The sub-blocks of 128 rows. -/
theorem reads_128 : Reads 256 (N := 128) (KernelIdeal.Moe.payJ 1) ∧ Reads 384 (N := 128) (KernelIdeal.Moe.payJ 2)
    ∧ Reads 512 (N := 128) (KernelIdeal.Moe.payJ 3) ∧ Reads 640 (N := 128) (KernelIdeal.Moe.payJ 4)
    ∧ Reads 768 (N := 128) (KernelIdeal.Moe.payJ 5) ∧ Reads 896 (N := 128) (KernelIdeal.Moe.payJ 6) := by
  refine ⟨?_, ?_, ?_, ?_, ?_, ?_⟩ <;> constructor <;> intros <;>
    pointwise [KernelIdeal.Moe.payJ, k1_pay16, k1_pay17, k1_pay18, k1_pay19, k1_pay20, k1_pay21, k1_pay22, k1_pay23, k1_pay24, k1_pay25,
      k1_pay26, k1_pay27, k1_pay28, k1_pay29, k1_pay30, k1_pay31, k1_pay32, k1_pay33, k1_pay34, k1_pay35, k1_pay1, k1_pay2, k1_pay3, k1_pay4] <;>
    simp (disch := omega) only [lane_add, zero_sub', act, Nat.add_zero]

section ranks
variable (S : Fin 1024 → Prop) [DecidablePred S]

/-- A row's rank: the chosen rows before it. -/
def rk (r : Fin 1024) : ℕ := (Finset.univ.filter fun q => q < r ∧ S q).card

/-- The number of chosen rows. -/
def ct : ℕ := (Finset.univ.filter S).card

/-- A chosen row's rank is below the rank of a later row. -/
theorem rk_lt_rk {r q : Fin 1024} (hr : S r) (h : r < q) : rk S r < rk S q := by
  refine Finset.card_lt_card ⟨fun z hz => ?_, fun hsub => ?_⟩
  · have hz := (Finset.mem_filter.mp hz).2
    exact Finset.mem_filter.mpr ⟨Finset.mem_univ z, hz.1.trans h, hz.2⟩
  · have h1 := (Finset.mem_filter.mp (hsub (Finset.mem_filter.mpr ⟨Finset.mem_univ r, h, hr⟩))).2.1
    exact lt_irrefl r h1

/-- Chosen rows have different ranks. -/
theorem rk_inj {r q : Fin 1024} (hr : S r) (hq : S q) (h : rk S r = rk S q) : r = q := by
  rcases lt_trichotomy r q with hlt | he | hgt
  · exact absurd h (rk_lt_rk S hr hlt).ne
  · exact he
  · exact absurd h (rk_lt_rk S hq hgt).ne'

/-- A chosen row's rank is below the number of chosen rows. -/
theorem rk_lt_ct {r : Fin 1024} (hr : S r) : rk S r < ct S := by
  refine Finset.card_lt_card ⟨fun z hz => ?_, fun hsub => ?_⟩
  · exact Finset.mem_filter.mpr ⟨Finset.mem_univ z, (Finset.mem_filter.mp hz).2.2⟩
  · have h1 := (Finset.mem_filter.mp (hsub (Finset.mem_filter.mpr ⟨Finset.mem_univ r, hr⟩))).2.1
    exact lt_irrefl r h1

/-- No more than all rows are chosen. -/
theorem ct_le : ct S ≤ 1024 := (Finset.card_le_univ _).trans (by simp)

/-- Gathering at a chosen row's rank takes that row. -/
theorem gather_sum (r : Fin 1024) (hr : S r) (v : ℕ) (hv : rk S r = v) (f : Fin 1024 → EReal) :
    ∑ x, (if ((rk S x : ℝ) : EReal) = ((v : ℝ) : EReal) then (if S x then (1 : EReal) else 0) else 0) * f x = f r := by
  rw [Finset.sum_eq_single r]
  · rw [if_pos (by rw [hv]), if_pos hr, one_mul]
  · intro x _ hx
    by_cases h1 : rk S x = v
    · rw [if_neg (show ¬ S x from fun hs => hx (rk_inj S hs hr (h1.trans hv.symm)))]
      split <;> rw [zero_mul]
    · rw [if_neg (by exact_mod_cast h1), zero_mul]
  · exact fun h => absurd (Finset.mem_univ r) h

/-- Placing reads the place of a row's rank, if the row is chosen and its place is among these. -/
theorem place_sum {N : ℕ} (lo : ℕ) (r : Fin 1024) (y : Fin N → EReal) :
    ∑ c : Fin N, (if ((rk S r : ℝ) : EReal) = (((c.val + lo : ℕ) : ℝ) : EReal) then (if S r then (1 : EReal) else 0) else 0) * y c
      = if h : S r ∧ lo ≤ rk S r ∧ rk S r < lo + N then y ⟨rk S r - lo, by omega⟩ else 0 := by
  by_cases h : S r ∧ lo ≤ rk S r ∧ rk S r < lo + N
  · rw [dif_pos h, Finset.sum_eq_single (⟨rk S r - lo, by omega⟩ : Fin N)]
    · rw [if_pos (by congr 2; show rk S r = rk S r - lo + lo; omega), if_pos h.1, one_mul]
    · intro c _ hc
      rw [if_neg, zero_mul]
      intro he
      have he' : rk S r = c.val + lo := by exact_mod_cast he
      exact hc (Fin.ext (by show c.val = rk S r - lo; omega))
    · exact fun h => absurd (Finset.mem_univ _) h
  · rw [dif_neg h]
    refine Finset.sum_eq_zero fun c _ => ?_
    by_cases hs : S r
    · rw [if_neg, zero_mul]
      intro he
      have he' : rk S r = c.val + lo := by exact_mod_cast he
      have := c.isLt
      exact h ⟨hs, by omega, by omega⟩
    · rw [if_neg hs]
      split <;> rw [zero_mul]

end ranks

/-- A block of an expert's columns on a row. -/
def part (h : Fin 1024 → EReal) (wg wu : Vec Ideal S1x1024x896 .bf16) (wd : Vec Ideal S1x896x1024 .bf16) (d : Fin 1024) : EReal :=
  ∑ m : Fin 896, act (∑ x, h x * wg (ix3 0 x m)) (∑ x, h x * wu (ix3 0 x m)) * wd (ix3 0 m d)

/-- An expert's output on a row from its four blocks of columns. -/
def parts (h : Fin 1024 → EReal) (wg wu : ℕ → Vec Ideal S1x1024x896 .bf16) (wd : ℕ → Vec Ideal S1x896x1024 .bf16) (d : Fin 1024) : EReal :=
  part h (wg 0) (wu 0) (wd 0) d + part h (wg 1) (wu 1) (wd 1) d + part h (wg 2) (wu 2) (wd 2) d + part h (wg 3) (wu 3) (wd 3) d

/-- One sub-block adds, to the chosen rows whose ranks it holds, the gate times the expert's output. -/
theorem step_sub {N lo : ℕ} (p : KernelIdeal.Moe.Pays Ideal ⟨2, ![N, 1024]⟩) (hp : Reads lo p) (S : Fin 1024 → Prop) [DecidablePred S]
    (b : Prop) [Decidable b] (hb : b ↔ lo < ct S) (a s : Vec Ideal S1x1x1024 .f32) (hn : Vec Ideal S1024x1024 .bf16) (P Q G : Vec Ideal S1x1024x128 .f32)
    (ha : ∀ x : Fin 1024, a (ix3 0 0 x) = ((rk S x : ℝ) : EReal)) (hs : ∀ x : Fin 1024, s (ix3 0 0 x) = if S x then 1 else 0)
    (hP : ∀ x : Fin 1024, P (ix3 0 x 0) = ((rk S x : ℝ) : EReal)) (hQ : ∀ x : Fin 1024, Q (ix3 0 x 0) = if S x then 1 else 0)
    (wg wu : ℕ → Vec Ideal S1x1024x896 .bf16) (wd : ℕ → Vec Ideal S1x896x1024 .bf16) (T : Vec Ideal S1024x1024 .f32) (r d : Fin 1024) :
    (if b then p.p P Q T G (p.d (p.g a s hn) (wg 3) (wu 3) (p.d (p.g a s hn) (wg 2) (wu 2) (p.d (p.g a s hn) (wg 1) (wu 1)
        (p.d (p.g a s hn) (wg 0) (wu 0) p.z (wd 0)) (wd 1)) (wd 2)) (wd 3)) else T) (ix2 r d)
      = T (ix2 r d) + if S r ∧ lo ≤ rk S r ∧ rk S r < lo + N then G (ix3 0 r 0) * parts (fun k => hn (ix2 r k)) wg wu wd d else 0 := by
  by_cases hb' : b
  · rw [if_pos hb', hp.place]
    simp only [hP, hQ]
    rw [place_sum]
    by_cases h : S r ∧ lo ≤ rk S r ∧ rk S r < lo + N
    · have hrow : ∀ k : Fin 1024, p.g a s hn (ix2 (⟨rk S r - lo, by omega⟩ : Fin N) k) = hn (ix2 r k) := fun k => by
        rw [hp.gather]
        simp only [ha, hs]
        exact gather_sum S r h.1 _ (by show rk S r = rk S r - lo + lo; omega) fun x => hn (ix2 x k)
      rw [dif_pos h, if_pos h]
      simp only [hp.down, hp.zero, hrow, zero_add]
      rfl
    · rw [dif_neg h, if_neg h, mul_zero]
  · rw [if_neg hb', if_neg, add_zero]
    rintro ⟨h1, h2, -⟩
    exact hb' (hb.mpr (lt_of_le_of_lt h2 (rk_lt_ct S h1)))

/-- Two spans that meet are one. -/
theorem merge (S : Prop) [Decidable S] (k a b c : ℕ) (hab : a ≤ b) (hbc : b ≤ c) (V : EReal) :
    (if S ∧ a ≤ k ∧ k < b then V else 0) + (if S ∧ b ≤ k ∧ k < c then V else 0) = if S ∧ a ≤ k ∧ k < c then V else 0 := by
  by_cases hS : S
  · simp only [hS, true_and]
    by_cases h1 : a ≤ k ∧ k < b
    · rw [if_pos h1, if_neg (by omega), if_pos (by omega), add_zero]
    · rw [if_neg h1, zero_add]
      exact if_congr (by omega) rfl rfl
  · simp only [hS, false_and, if_false, add_zero]

/-- A sub-block runs when more rows are chosen than come before it. -/
theorem actJ_iff (n : ℕ) (hn : n ≤ 1024) (j : Fin 7) : KernelIdeal.Moe.actJ (BitVec.ofNat 32 n) j = 1#1 ↔ KernelIdeal.Moe.lo j < n := by
  have hlo : ∀ j : Fin 7, KernelIdeal.Moe.lo j ≤ 896 := by decide
  have h1 : ∀ n : ℕ, n < 2 ^ 31 → (BitVec.ofNat 32 n).toInt = (n : ℤ) := fun n hn => by
    rw [BitVec.toInt_eq_toNat_of_lt (by rw [BitVec.toNat_ofNat]; omega), BitVec.toNat_ofNat, Nat.mod_eq_of_lt (by omega)]
  have h2 : (BitVec.ofNat 32 (KernelIdeal.Moe.lo j)).slt (BitVec.ofNat 32 n) = decide (KernelIdeal.Moe.lo j < n) := by
    rw [BitVec.slt_eq_decide, h1 _ (by have := hlo j; omega), h1 n (by omega)]
    simp
  have h3 : ∀ b : Bool, (Scalar.cmpi .ne (Scalar.extui (BitVec.ofBool b) : BitVec 32) 0#32 = 1#1) ↔ b = true := by decide
  refine (h3 _).trans ?_
  rw [h2, decide_eq_true_iff]

/-- A lane picked out of a row by its number. -/
theorem plane_sum (col : Fin 128 → EReal) (b e : ℕ) (h : b + e < 128) :
    ∑ j : Fin 128, Scalar.select (IntOp.cmpi CmpIPredicate.eq (BitVec.ofNat 32 j.val) (Scalar.addi (BitVec.ofNat 32 b) (BitVec.ofNat 32 e))) (col j) 0
      = col ⟨b + e, h⟩ := by
  have h1 : Scalar.addi (BitVec.ofNat 32 b) (BitVec.ofNat 32 e) = BitVec.ofNat 32 (b + e) := (BitVec.ofNat_add ..).symm
  have h2 : ∀ j : Fin 128, Scalar.select (IntOp.cmpi CmpIPredicate.eq (BitVec.ofNat 32 j.val) (BitVec.ofNat 32 (b + e))) (col j) 0
      = if j = ⟨b + e, h⟩ then col j else 0 := fun j => by
    show (if BitVec.ofBool (BitVec.ofNat 32 j.val == BitVec.ofNat 32 (b + e)) = 1#1 then col j else 0) = _
    have h3 : (BitVec.ofNat 32 j.val == BitVec.ofNat 32 (b + e)) = decide (j = ⟨b + e, h⟩) := by
      rw [Bool.eq_iff_iff, beq_iff_eq, decide_eq_true_iff, Fin.ext_iff, ← BitVec.toNat_inj, BitVec.toNat_ofNat, BitVec.toNat_ofNat, Nat.mod_eq_of_lt (by omega), Nat.mod_eq_of_lt (by omega)]
    rw [h3]
    by_cases h4 : j = ⟨b + e, h⟩ <;> simp [h4]
  simp only [h1, h2]
  simp

/-- An expert's gates, spread. -/
theorem plane7 (e : Fin 8) (col : Vec Ideal S1024x128 .f32) (r : Fin 1024) (k : Fin 128) :
    k1_pay7 (BitVec.ofNat 32 e.val) col (ix3 0 r k) = col (ix2 r (laneOf e)) := by
  pointwise [k1_pay7, k1_pay6]
  rw [plane_sum (fun j => col (ix2 r j)) 0 e.val (by omega)]
  exact congrArg (fun q => col (ix2 r q)) (Fin.ext (Nat.zero_add _))

/-- An expert's ranks, spread. -/
theorem plane8 (e : Fin 8) (col : Vec Ideal S1024x128 .f32) (r : Fin 1024) (k : Fin 128) :
    k1_pay8 (BitVec.ofNat 32 e.val) col (ix3 0 r k) = col (ix2 r (⟨8 + e.val, by omega⟩ : Fin 128)) := by
  pointwise [k1_pay8, k1_pay6]
  exact plane_sum (fun j => col (ix2 r j)) 8 e.val (by omega)

/-- An expert's choices, spread. -/
theorem plane9 (e : Fin 8) (col : Vec Ideal S1024x128 .f32) (r : Fin 1024) (k : Fin 128) :
    k1_pay11 (k1_pay9 (BitVec.ofNat 32 e.val) col) (ix3 0 r k) = col (ix2 r (⟨16 + e.val, by omega⟩ : Fin 128)) := by
  pointwise [k1_pay11, k1_pay9, k1_pay6]
  exact plane_sum (fun j => col (ix2 r j)) 16 e.val (by omega)

/-- The block's norm of the sum. -/
theorem pay5_final (T x : Vec Ideal S1024x1024 .f32) (g : Vec Ideal S1x1024 .f32) (r d : Fin 1024) :
    k1_pay5 T x g (ix2 r d) = norm (fun k => x (ix2 r k) + T (ix2 r k)) (fun k => g (ix2 0 k)) d := by
  pointwise [k1_pay5]
  rfl

end Cert.Moe

end

end
-- ==== Proof.BlockValue.lean ====
/- The block the experts' call writes: the norm of the rows plus the sum of the chosen experts. -/
module

public import proofs.«01_k».proof.Proof.ExpertsValue

@[expose] public section

set_option maxRecDepth 16384

noncomputable section

namespace Cert.Moe

open Idealize.ShloMosaic Cert.KernelIdeal Cert.KernelIdeal.Gen

/-- The windows of block `i` hold the routing of `S` with gates `G`. -/
structure Routed (A : KernelIdeal.Moe.Arrs Ideal) (i : ℕ) (S : Fin 8 → Fin 1024 → Prop) [∀ e, DecidablePred (S e)] (G : Fin 8 → Fin 1024 → EReal) : Prop where
  rowRank : ∀ e x, A.row i (ix3 (0 : Fin 1) (⟨8 + e.val, by omega⟩ : Fin 32) x) = ((rk (S e) x : ℝ) : EReal)
  rowSel : ∀ e x, A.row i (ix3 (0 : Fin 1) (⟨16 + e.val, by omega⟩ : Fin 32) x) = if S e x then 1 else 0
  colGate : ∀ e x, A.col i (ix2 x (laneOf e)) = G e x
  colRank : ∀ e x, A.col i (ix2 x (⟨8 + e.val, by omega⟩ : Fin 128)) = ((rk (S e) x : ℝ) : EReal)
  colSel : ∀ e x, A.col i (ix2 x (⟨16 + e.val, by omega⟩ : Fin 128)) = if S e x then 1 else 0
  count : ∀ e : Fin 8, KernelIdeal.Moe.cnt A i e.val = BitVec.ofNat 32 (ct (S e))

/-- The row of ranks an expert reads. -/
theorem row_rank (X : Vec Ideal S1x32x1024 .f32) (i : ℕ) (e : Fin 8) (h) (x : Fin 1024) :
    View.ld (e' := .f32) X (Rect.unit (s := S1x32x1024) (k1_off2 (KernelIdeal.Moe.at3 i e.val 0) 8#32) S1x1x1024.size h) (ix3 0 0 x)
      = X (ix3 (0 : Fin 1) (⟨8 + e.val, by omega⟩ : Fin 32) x) := by
  have h1 : ∀ e : Fin 8, (Scalar.indexCast (Scalar.addi 8#32 (BitVec.ofNat 32 (e.val % 8)))).toNat + 1 * 0 = 8 + e.val := by decide
  refine congrArg X ?_
  funext a
  refine Fin.ext ?_
  fin_cases a
  · rfl
  · exact h1 e
  · show 0 + 1 * x.val = x.val
    omega

/-- The row of choices an expert reads. -/
theorem row_sel (X : Vec Ideal S1x32x1024 .f32) (i : ℕ) (e : Fin 8) (h) (x : Fin 1024) :
    View.ld (e' := .f32) X (Rect.unit (s := S1x32x1024) (k1_off2 (KernelIdeal.Moe.at3 i e.val 0) 16#32) S1x1x1024.size h) (ix3 0 0 x)
      = X (ix3 (0 : Fin 1) (⟨16 + e.val, by omega⟩ : Fin 32) x) := by
  have h1 : ∀ e : Fin 8, (Scalar.indexCast (Scalar.addi 16#32 (BitVec.ofNat 32 (e.val % 8)))).toNat + 1 * 0 = 16 + e.val := by decide
  refine congrArg X ?_
  funext a
  refine Fin.ext ?_
  fin_cases a
  · rfl
  · exact h1 e
  · show 0 + 1 * x.val = x.val
    omega

section block
variable (A : KernelIdeal.Moe.Arrs Ideal) (i : ℕ) (S : Fin 8 → Fin 1024 → Prop) [∀ e, DecidablePred (S e)] (G : Fin 8 → Fin 1024 → EReal)
  (h : Routed A i S G)

/-- An expert's output on a row of the block. -/
def outOf (e : Fin 8) (r d : Fin 1024) : EReal :=
  parts (fun k => A.hn i (ix2 r k)) (fun f => A.wg e.val f) (fun f => A.wu e.val f) (fun f => A.wd e.val f) d

include h in
/-- One expert adds its gate times its output to its rows. -/
theorem TOT_step (e : Fin 8) (r d : Fin 1024) : KernelIdeal.Moe.TOT A i (e.val + 1) (ix2 r d)
    = KernelIdeal.Moe.TOT A i e.val (ix2 r d) + if S e r then G e r * outOf A i e r d else 0 := by
  have hb : ∀ j : Fin 7, KernelIdeal.Moe.actJ (KernelIdeal.Moe.cnt A i e.val) j = 1#1 ↔ KernelIdeal.Moe.lo j < ct (S e) := fun j => by
    rw [h.count]
    exact actJ_iff _ (ct_le _) j
  have hC : View.ld (e' := .f32) (A.col i) KernelIdeal.Moe.rC = A.col i := KernelIdeal.Moe.ld_whole (s := S1024x128) _ KernelIdeal.Moe.zero2 _ _
  have hW : ∀ X : Vec Ideal S1x1024x896 .bf16, View.ld (e' := .bf16) X KernelIdeal.Moe.rW = X := fun X =>
    KernelIdeal.Moe.ld_whole (s := S1x1024x896) _ KernelIdeal.Moe.zero3 _ _
  have hD : ∀ X : Vec Ideal S1x896x1024 .bf16, View.ld (e' := .bf16) X KernelIdeal.Moe.rD = X := fun X =>
    KernelIdeal.Moe.ld_whole (s := S1x896x1024) _ KernelIdeal.Moe.zero3 _ _
  have hV : parts (fun k => View.ld (e' := .bf16) (A.hn i) KernelIdeal.Moe.rAll (ix2 r k)) (fun f => View.ld (e' := .bf16) (A.wg e.val f) KernelIdeal.Moe.rW)
      (fun f => View.ld (e' := .bf16) (A.wu e.val f) KernelIdeal.Moe.rW) (fun f => View.ld (e' := .bf16) (A.wd e.val f) KernelIdeal.Moe.rD) d = outOf A i e r d := by
    have hA : View.ld (e' := .bf16) (A.hn i) KernelIdeal.Moe.rAll = A.hn i := KernelIdeal.Moe.ld_rAll (A.hn i)
    simp only [hW, hD]
    rw [hA]
    rfl
  have hg : k1_pay7 (BitVec.ofNat 32 e.val) (View.ld (e' := .f32) (A.col i) KernelIdeal.Moe.rC) (ix3 0 r 0) = G e r := by
    rw [hC, plane7, h.colGate]
  let ra := View.ld (e' := .f32) (A.row i) (Rect.unit (s := S1x32x1024) (k1_off2 (KernelIdeal.Moe.at3 i e.val 0) 8#32) S1x1x1024.size (KernelIdeal.Moe.in8 (KernelIdeal.Moe.at3 i e.val 0)))
  let rs := View.ld (e' := .f32) (A.row i) (Rect.unit (s := S1x32x1024) (k1_off2 (KernelIdeal.Moe.at3 i e.val 0) 16#32) S1x1x1024.size (KernelIdeal.Moe.in16 (KernelIdeal.Moe.at3 i e.val 0)))
  let hn := View.ld (e' := .bf16) (A.hn i) KernelIdeal.Moe.rAll
  let P8 := k1_pay8 (BitVec.ofNat 32 e.val) (View.ld (e' := .f32) (A.col i) KernelIdeal.Moe.rC)
  let P9 := k1_pay11 (k1_pay9 (BitVec.ofNat 32 e.val) (View.ld (e' := .f32) (A.col i) KernelIdeal.Moe.rC))
  let P7 := k1_pay7 (BitVec.ofNat 32 e.val) (View.ld (e' := .f32) (A.col i) KernelIdeal.Moe.rC)
  have st : ∀ {N lo : ℕ} (p : KernelIdeal.Moe.Pays Ideal ⟨2, ![N, 1024]⟩) (hp : Reads lo p) (b : Prop) [Decidable b] (hb : b ↔ lo < ct (S e)) (T : Vec Ideal S1024x1024 .f32), (if b then p.p P8 P9 T P7 (p.d (p.g ra rs hn) (View.ld (e' := .bf16) (A.wg e.val 3) KernelIdeal.Moe.rW) (View.ld (e' := .bf16) (A.wu e.val 3) KernelIdeal.Moe.rW)
        (p.d (p.g ra rs hn) (View.ld (e' := .bf16) (A.wg e.val 2) KernelIdeal.Moe.rW) (View.ld (e' := .bf16) (A.wu e.val 2) KernelIdeal.Moe.rW)
        (p.d (p.g ra rs hn) (View.ld (e' := .bf16) (A.wg e.val 1) KernelIdeal.Moe.rW) (View.ld (e' := .bf16) (A.wu e.val 1) KernelIdeal.Moe.rW)
        (p.d (p.g ra rs hn) (View.ld (e' := .bf16) (A.wg e.val 0) KernelIdeal.Moe.rW) (View.ld (e' := .bf16) (A.wu e.val 0) KernelIdeal.Moe.rW) p.z
          (View.ld (e' := .bf16) (A.wd e.val 0) KernelIdeal.Moe.rD)) (View.ld (e' := .bf16) (A.wd e.val 1) KernelIdeal.Moe.rD)) (View.ld (e' := .bf16) (A.wd e.val 2) KernelIdeal.Moe.rD))
          (View.ld (e' := .bf16) (A.wd e.val 3) KernelIdeal.Moe.rD)) else T) (ix2 r d)
      = T (ix2 r d) + if S e r ∧ lo ≤ rk (S e) r ∧ rk (S e) r < lo + N then G e r * outOf A i e r d else 0 :=
    fun p hp b _ hb T => (step_sub p hp (S e) b hb
      (View.ld (A.row i) (Rect.unit (s := S1x32x1024) (k1_off2 (KernelIdeal.Moe.at3 i e.val 0) 8#32) S1x1x1024.size (KernelIdeal.Moe.in8 (KernelIdeal.Moe.at3 i e.val 0))))
      (View.ld (A.row i) (Rect.unit (s := S1x32x1024) (k1_off2 (KernelIdeal.Moe.at3 i e.val 0) 16#32) S1x1x1024.size (KernelIdeal.Moe.in16 (KernelIdeal.Moe.at3 i e.val 0))))
      (View.ld (A.hn i) KernelIdeal.Moe.rAll)
      (k1_pay8 (BitVec.ofNat 32 e.val) (View.ld (A.col i) KernelIdeal.Moe.rC)) (k1_pay11 (k1_pay9 (BitVec.ofNat 32 e.val) (View.ld (A.col i) KernelIdeal.Moe.rC)))
      (k1_pay7 (BitVec.ofNat 32 e.val) (View.ld (A.col i) KernelIdeal.Moe.rC))
      (fun x => by rw [row_rank, h.rowRank]) (fun x => by rw [row_sel, h.rowSel])
      (fun x => by rw [hC, plane8, h.colRank]) (fun x => by rw [hC, plane9, h.colSel])
      (fun f => View.ld (A.wg e.val f) KernelIdeal.Moe.rW) (fun f => View.ld (A.wu e.val f) KernelIdeal.Moe.rW) (fun f => View.ld (A.wd e.val f) KernelIdeal.Moe.rD) T r d).trans (by rw [hV, hg])
  obtain ⟨q1, q2, q3, q4, q5, q6⟩ := reads_128
  have p0 : ∀ T, KernelIdeal.Moe.placed A i e.val 0 T (ix2 r d) = T (ix2 r d) + if S e r ∧ 0 ≤ rk (S e) r ∧ rk (S e) r < 256 then G e r * outOf A i e r d else 0 := fun T =>
    st (KernelIdeal.Moe.payJ 0) reads_0 (KernelIdeal.Moe.actJ (KernelIdeal.Moe.cnt A i e.val) 0 = 1#1) (hb 0) T
  have p1 : ∀ T, KernelIdeal.Moe.placed A i e.val 1 T (ix2 r d) = T (ix2 r d) + if S e r ∧ 256 ≤ rk (S e) r ∧ rk (S e) r < 384 then G e r * outOf A i e r d else 0 := fun T =>
    st (KernelIdeal.Moe.payJ 1) q1 (KernelIdeal.Moe.actJ (KernelIdeal.Moe.cnt A i e.val) 1 = 1#1) (hb 1) T
  have p2 : ∀ T, KernelIdeal.Moe.placed A i e.val 2 T (ix2 r d) = T (ix2 r d) + if S e r ∧ 384 ≤ rk (S e) r ∧ rk (S e) r < 512 then G e r * outOf A i e r d else 0 := fun T =>
    st (KernelIdeal.Moe.payJ 2) q2 (KernelIdeal.Moe.actJ (KernelIdeal.Moe.cnt A i e.val) 2 = 1#1) (hb 2) T
  have p3 : ∀ T, KernelIdeal.Moe.placed A i e.val 3 T (ix2 r d) = T (ix2 r d) + if S e r ∧ 512 ≤ rk (S e) r ∧ rk (S e) r < 640 then G e r * outOf A i e r d else 0 := fun T =>
    st (KernelIdeal.Moe.payJ 3) q3 (KernelIdeal.Moe.actJ (KernelIdeal.Moe.cnt A i e.val) 3 = 1#1) (hb 3) T
  have p4 : ∀ T, KernelIdeal.Moe.placed A i e.val 4 T (ix2 r d) = T (ix2 r d) + if S e r ∧ 640 ≤ rk (S e) r ∧ rk (S e) r < 768 then G e r * outOf A i e r d else 0 := fun T =>
    st (KernelIdeal.Moe.payJ 4) q4 (KernelIdeal.Moe.actJ (KernelIdeal.Moe.cnt A i e.val) 4 = 1#1) (hb 4) T
  have p5 : ∀ T, KernelIdeal.Moe.placed A i e.val 5 T (ix2 r d) = T (ix2 r d) + if S e r ∧ 768 ≤ rk (S e) r ∧ rk (S e) r < 896 then G e r * outOf A i e r d else 0 := fun T =>
    st (KernelIdeal.Moe.payJ 5) q5 (KernelIdeal.Moe.actJ (KernelIdeal.Moe.cnt A i e.val) 5 = 1#1) (hb 5) T
  have p6 : ∀ T, KernelIdeal.Moe.placed A i e.val 6 T (ix2 r d) = T (ix2 r d) + if S e r ∧ 896 ≤ rk (S e) r ∧ rk (S e) r < 1024 then G e r * outOf A i e r d else 0 := fun T =>
    st (KernelIdeal.Moe.payJ 6) q6 (KernelIdeal.Moe.actJ (KernelIdeal.Moe.cnt A i e.val) 6 = 1#1) (hb 6) T
  show KernelIdeal.Moe.placed A i e.val 6 (KernelIdeal.Moe.placed A i e.val 5 (KernelIdeal.Moe.placed A i e.val 4 (KernelIdeal.Moe.placed A i e.val 3
    (KernelIdeal.Moe.placed A i e.val 2 (KernelIdeal.Moe.placed A i e.val 1 (KernelIdeal.Moe.placed A i e.val 0 (KernelIdeal.Moe.TOT A i e.val))))))) (ix2 r d) = _
  have mg := fun a b c hab hbc => merge (S e r) (rk (S e) r) a b c hab hbc (G e r * outOf A i e r d)
  rw [p6, p5, p4, p3, p2, p1, p0, add_assoc (KernelIdeal.Moe.TOT A i e.val (ix2 r d)), mg 0 256 384 (by omega) (by omega), add_assoc (KernelIdeal.Moe.TOT A i e.val (ix2 r d)), mg 0 384 512 (by omega) (by omega),
    add_assoc (KernelIdeal.Moe.TOT A i e.val (ix2 r d)), mg 0 512 640 (by omega) (by omega), add_assoc (KernelIdeal.Moe.TOT A i e.val (ix2 r d)), mg 0 640 768 (by omega) (by omega),
    add_assoc (KernelIdeal.Moe.TOT A i e.val (ix2 r d)), mg 0 768 896 (by omega) (by omega), add_assoc (KernelIdeal.Moe.TOT A i e.val (ix2 r d)), mg 0 896 1024 (by omega) (by omega)]
  have hiff : (S e r ∧ 0 ≤ rk (S e) r ∧ rk (S e) r < 1024) ↔ S e r :=
    ⟨fun hs => hs.1, fun hs => ⟨hs, Nat.zero_le _, lt_of_lt_of_le (rk_lt_ct (S e) hs) (ct_le (S e))⟩⟩
  rw [if_congr hiff rfl rfl]

include h in
/-- The sum over all experts. -/
theorem TOT_all (r d : Fin 1024) : KernelIdeal.Moe.TOT A i 8 (ix2 r d) = ∑ e, if S e r then G e r * outOf A i e r d else 0 := by
  rw [Fin.sum_univ_eight]
  have h0 : KernelIdeal.Moe.TOT A i 0 (ix2 r d) = 0 := by
    show k1_pay10 (F := Ideal) (ix2 r d) = 0
    pointwise [k1_pay10]
  have hs := fun e => TOT_step A i S G h e r d
  rw [show KernelIdeal.Moe.TOT A i 8 (ix2 r d) = _ from hs 7, show KernelIdeal.Moe.TOT A i (7 : Fin 8).val (ix2 r d) = _ from hs 6, show KernelIdeal.Moe.TOT A i (6 : Fin 8).val (ix2 r d) = _ from hs 5,
    show KernelIdeal.Moe.TOT A i (5 : Fin 8).val (ix2 r d) = _ from hs 4, show KernelIdeal.Moe.TOT A i (4 : Fin 8).val (ix2 r d) = _ from hs 3, show KernelIdeal.Moe.TOT A i (3 : Fin 8).val (ix2 r d) = _ from hs 2,
    show KernelIdeal.Moe.TOT A i (2 : Fin 8).val (ix2 r d) = _ from hs 1, show KernelIdeal.Moe.TOT A i (1 : Fin 8).val (ix2 r d) = _ from hs 0, show KernelIdeal.Moe.TOT A i (0 : Fin 8).val (ix2 r d) = _ from h0, zero_add]

include h in
/-- The block written. -/
theorem OUT_apply (r d : Fin 1024) : KernelIdeal.Moe.OUT A i (ix2 r d)
    = norm (fun k => A.x i (ix2 r k) + ∑ e, if S e r then G e r * outOf A i e r k else 0) (fun k => A.gf (ix2 0 k)) d := by
  have hG : View.ld (e' := .f32) A.gf KernelIdeal.Moe.rG = A.gf := KernelIdeal.Moe.ld_whole (s := S1x1024) _ KernelIdeal.Moe.zero2 _ _
  show k1_pay5 (KernelIdeal.Moe.TOT A i 8) (A.x i) (View.ld (e' := .f32) A.gf KernelIdeal.Moe.rG) (ix2 r d) = _
  rw [hG, pay5_final]
  simp only [TOT_all A i S G h]

end block

end Cert.Moe

end

end
-- ==== Proof.Arrays.lean ====
module

public import proofs.«01_k».proof.Proof.Run
public import Idealize.ShloMosaic.Lib.Pipeline.ValueKit
public import Idealize.ShloMosaic.Lib.Pipeline.Covers

/-! # The arrays the launches leave

Each result array of the two launches as one function of its index: the block of the index's rows, read
at the index's place in that block. -/

@[expose] public section

set_option maxRecDepth 16384

noncomputable section

namespace Cert.KernelIdeal.Moe

open Idealize.ShloMosaic Idealize.ShloMosaic.TcCoe
open Idealize.ShloMosaic.Pipeline (Dat Cfg Window)
open Cert.KernelIdeal Cert.KernelIdeal.Gen

variable {F : FTy → Type} [FloatOps F]

/-- The 16384-row array of given blocks of rows. -/
def spread {e : EltTy} (B : ℕ → Vec F S1024x1024 e) : Vec F S16384x1024 e :=
  fun y => B ((y 0).val / 1024) (ix2 (⟨(y 0).val % 1024, Nat.mod_lt _ (by decide)⟩ : Fin 1024) (y 1))
/-- The table by rows of given blocks of rows. -/
def spreadCol {e : EltTy} (B : ℕ → Vec F S1024x128 e) : Vec F S16384x128 e :=
  fun y => B ((y 0).val / 1024) (ix2 (⟨(y 0).val % 1024, Nat.mod_lt _ (by decide)⟩ : Fin 1024) (y 1))
/-- The table by lanes of given slabs. -/
def spreadLane {e : EltTy} (B : ℕ → Vec F S1x32x1024 e) : Vec F S16x32x1024 e :=
  fun y => B (y 0).val (ix3 (0 : Fin 1) (y 1) (y 2))
/-- The counts of given slabs. -/
def spreadCnt {e : EltTy} (B : ℕ → Vec F S1x8x128 e) : Vec F S16x8x128 e :=
  fun y => B (y 0).val (ix3 (0 : Fin 1) (y 1) (y 2))

/-- A block of rows is read back. -/
theorem rowBlk_spread {e : EltTy} (B : ℕ → Vec F S1024x1024 e) (i : ℕ) (h : i < 16) : rowBlk (spread B) i = B i := by
  funext y
  have hy : (y 0).val < 1024 := (y 0).isLt
  show B ((1024 * (i % 16) + (y 0).val) / 1024) _ = _
  rw [show (1024 * (i % 16) + (y 0).val) / 1024 = i by omega]
  refine congrArg (B i) ?_
  funext b
  refine Fin.ext ?_
  fin_cases b
  · show (1024 * (i % 16) + (y 0).val) % 1024 = (y 0).val
    omega
  · rfl
/-- A block of rows is read back. -/
theorem colBlk_spread {e : EltTy} (B : ℕ → Vec F S1024x128 e) (i : ℕ) (h : i < 16) : colBlk (spreadCol B) i = B i := by
  funext y
  have hy : (y 0).val < 1024 := (y 0).isLt
  show B ((1024 * (i % 16) + (y 0).val) / 1024) _ = _
  rw [show (1024 * (i % 16) + (y 0).val) / 1024 = i by omega]
  refine congrArg (B i) ?_
  funext b
  refine Fin.ext ?_
  fin_cases b
  · show (1024 * (i % 16) + (y 0).val) % 1024 = (y 0).val
    omega
  · rfl
/-- A slab is read back. -/
theorem laneBlk_spread {e : EltTy} (B : ℕ → Vec F S1x32x1024 e) (i : ℕ) (h : i < 16) : laneBlk (spreadLane B) i = B i := by
  funext y
  have hy : (y 0).val < 1 := (y 0).isLt
  have hi : i % 16 = i := by omega
  show B (i % 16) (ix3 (0 : Fin 1) (y 1) (y 2)) = _
  refine (congrFun (congrArg B hi) _).trans ?_
  refine congrArg (B i) ?_
  funext b
  refine Fin.ext ?_
  fin_cases b
  · show 0 = (y 0).val
    omega
  · rfl
  · rfl

section router
variable (V : Valuation τ sig (Elt F)) (c : Dev nD) (t : Fin cfg0.N)

/-- A result window's block is its block of rows. -/
theorem blk0_3 (X : Vec F S16384x1024 .bf16) : ((cfg0.win 3).blk t).view.read (Elt F) X = rowBlk X (grid0.coords t 0).val := by
  have h16 : (grid0.coords t 0).val < 16 := (grid0.coords t 0).isLt
  funext y
  show X _ = X _
  refine congrArg X ?_
  funext b
  refine Fin.ext ?_
  fin_cases b
  · show (BitVec.ofNat 32 (grid0.coords t 0).val).toNat * 1024 + 1 * (y 0).val = 1024 * ((grid0.coords t 0).val % 16) + (y 0).val
    rw [BitVec.toNat_ofNat]; omega
  · show 0 * 1024 + 1 * (y 1).val = (y 1).val; omega
/-- A result window's block is its block of rows. -/
theorem blk0_4 (X : Vec F S16384x128 .f32) : ((cfg0.win 4).blk t).view.read (Elt F) X = colBlk X (grid0.coords t 0).val := by
  have h16 : (grid0.coords t 0).val < 16 := (grid0.coords t 0).isLt
  funext y
  show X _ = X _
  refine congrArg X ?_
  funext b
  refine Fin.ext ?_
  fin_cases b
  · show (BitVec.ofNat 32 (grid0.coords t 0).val).toNat * 1024 + 1 * (y 0).val = 1024 * ((grid0.coords t 0).val % 16) + (y 0).val
    rw [BitVec.toNat_ofNat]; omega
  · show 0 * 128 + 1 * (y 1).val = (y 1).val; omega
/-- A result window's block is its slab. -/
theorem blk0_5 (X : Vec F S16x32x1024 .f32) : ((cfg0.win 5).blk t).view.read (Elt F) X = laneBlk X (grid0.coords t 0).val := by
  have h16 : (grid0.coords t 0).val < 16 := (grid0.coords t 0).isLt
  funext y
  show X _ = X _
  refine congrArg X ?_
  funext b
  refine Fin.ext ?_
  fin_cases b
  · have h0 : (y 0).val < 1 := (y 0).isLt
    show (BitVec.ofNat 32 (grid0.coords t 0).val).toNat * 1 + 1 * (y 0).val = (grid0.coords t 0).val % 16
    rw [BitVec.toNat_ofNat]; omega
  · show 0 * 32 + 1 * (y 1).val = (y 1).val; omega
  · show 0 * 1024 + 1 * (y 2).val = (y 2).val; omega
/-- A result window's block is its slab of counts. -/
theorem blk0_6 (B : ℕ → Vec F S1x8x128 .i32) : ((cfg0.win 6).blk t).view.read (Elt F) (spreadCnt B) = B (grid0.coords t 0).val := by
  have h16 : (grid0.coords t 0).val < 16 := (grid0.coords t 0).isLt
  funext y
  have h0 : (y 0).val < 1 := (y 0).isLt
  have e0 : (BitVec.ofNat 32 (grid0.coords t 0).val).toNat * 1 + 1 * (y 0).val = (grid0.coords t 0).val := by
    rw [BitVec.toNat_ofNat]; omega
  show B ((BitVec.ofNat 32 (grid0.coords t 0).val).toNat * 1 + 1 * (y 0).val) _ = _
  refine (congrFun (congrArg B e0) _).trans (congrArg (B _) ?_)
  funext b
  refine Fin.ext ?_
  fin_cases b
  · show 0 = (y 0).val; omega
  · show 0 * 8 + 1 * (y 1).val = (y 1).val; omega
  · show 0 * 128 + 1 * (y 2).val = (y 2).val; omega

/-- The first launch's normed rows. -/
theorem arr0_3 : (dat0 V c).arrAt 3 cfg0.N = spread fun i => hnB (xB V i) (V main_v1) := by
  refine (dat0 V c).arrAt_eq_of_covers 3 _ (by decide +kernel) fun t _ y => ?_
  show (dat0 V c).after 3 t y = _
  rw [after0_3]
  exact ((congrFun (blk0_3 t _) y).trans (congrFun (rowBlk_spread (fun i => hnB (xB V i) (V main_v1)) _ (grid0.coords t 0).isLt) y)).symm
/-- The first launch's table by rows. -/
theorem arr0_4 : (dat0 V c).arrAt 4 cfg0.N = spreadCol fun i => colB (xB V i) (V main_v1) (V main_v0) := by
  refine (dat0 V c).arrAt_eq_of_covers 4 _ (by decide +kernel) fun t _ y => ?_
  show (dat0 V c).after 4 t y = _
  rw [after0_4]
  exact ((congrFun (blk0_4 t _) y).trans (congrFun (colBlk_spread (fun i => colB (xB V i) (V main_v1) (V main_v0)) _ (grid0.coords t 0).isLt) y)).symm
/-- The first launch's table by lanes. -/
theorem arr0_5 : (dat0 V c).arrAt 5 cfg0.N = spreadLane fun i => rowB (xB V i) (V main_v1) (V main_v0) := by
  refine (dat0 V c).arrAt_eq_of_covers 5 _ (by decide +kernel) fun t _ y => ?_
  show (dat0 V c).after 5 t y = _
  rw [after0_5]
  exact ((congrFun (blk0_5 t _) y).trans (congrFun (laneBlk_spread (fun i => rowB (xB V i) (V main_v1) (V main_v0)) _ (grid0.coords t 0).isLt) y)).symm
/-- The first launch's counts. -/
theorem arr0_6 : (dat0 V c).arrAt 6 cfg0.N = spreadCnt fun i => cntB (xB V i) (V main_v1) (V main_v0) := by
  refine (dat0 V c).arrAt_eq_of_covers 6 _ (by decide +kernel) fun t _ y => ?_
  show (dat0 V c).after 6 t y = _
  rw [after0_6]
  exact (congrFun (blk0_6 t (fun i => cntB (xB V i) (V main_v1) (V main_v0))) y).symm

end router

section experts
variable (a : (pcfg1 (F := F)).Adm) (V : Valuation τ sig (Elt F)) (c : Dev nD) (t : Fin (cfg1 a).N)

/-- The result window's block is its block of rows. -/
theorem blk1_8 (X : Vec F S16384x1024 .f32) : ((win1 a 8).blk t).view.read (Elt F) X = rowBlk X (grid1.coords t 0).val := by
  have h := co0 (grid1.coords t)
  funext y
  show X _ = X _
  refine congrArg X ?_
  funext b
  refine Fin.ext ?_
  fin_cases b
  · show (BitVec.ofNat 32 (grid1.coords t 0).val).toNat * 1024 + 1 * (y 0).val = 1024 * ((grid1.coords t 0).val % 16) + (y 0).val
    rw [BitVec.toNat_ofNat]; omega
  · show 0 * 1024 + 1 * (y 1).val = (y 1).val; omega

/-- The result window's blocks fill the result. -/
theorem covers1_8 : (win1 a 8).Covers :=
  (win1 a 8).covers_of_index_surj rfl (show ∀ x : Fin 2, 0 < S1024x1024.size x by decide) fun β => by
    obtain ⟨u, hu⟩ : ∃ u : ℕ, u = (β (0 : Fin 2)).val := ⟨_, rfl⟩
    have e0 : (win1 a 8).nblk (0 : Fin 2) = 16 := show (S16384x1024.size 0 + S1024x1024.size 0 - 1) / S1024x1024.size 0 = 16 by decide
    have e1 : (win1 a 8).nblk (1 : Fin 2) = 1 := show (S16384x1024.size 1 + S1024x1024.size 1 - 1) / S1024x1024.size 1 = 1 by decide
    have h0 : u < 16 := hu ▸ lt_of_lt_of_eq (β (0 : Fin 2)).isLt e0
    have h1 : (β (1 : Fin 2)).val < 1 := lt_of_lt_of_eq (β (1 : Fin 2)).isLt e1
    have hN : 32 * u < (cfg1 a).N := lt_of_lt_of_eq (show 32 * u < 512 by omega) N_1.symm
    have hc : (grid1.coords ⟨32 * u, hN⟩ 0).val = u := (p0 a ⟨32 * u, hN⟩).trans (by show 32 * u / 32 = u; omega)
    refine ⟨⟨32 * u, hN⟩, fun b => ?_⟩
    change Fin 2 at b
    fin_cases b
    · show (BitVec.ofNat 32 (grid1.coords ⟨32 * u, hN⟩ 0).val).toNat = (β (0 : Fin 2)).val
      rw [BitVec.toNat_ofNat, hc, ← hu]
      omega
    · show 0 = (β (1 : Fin 2)).val
      omega

/-- The second launch's result. -/
theorem arr1_8 : (dat1 a V c).arrAt 8 (cfg1 a).N = spread fun i => OUT (arrsOf a V) i := by
  refine (dat1 a V c).arrAt_eq_of_covers 8 _ (covers1_8 a) fun t _ y => ?_
  show (dat1 a V c).after 8 t y = _
  rw [after1_8]
  exact ((congrFun (blk1_8 a t _) y).trans (congrFun (rowBlk_spread (fun i => OUT (arrsOf a V) i) _ (co0 (grid1.coords t))) y)).symm

end experts

end Cert.KernelIdeal.Moe

end

end
-- ==== Proof.Entered.lean ====
module

public import proofs.«01_k».proof.Proof.Arrays

/-! # What the launches are entered with

The buffers the host lines write before each launch, as functions of the arguments, and the buffers the
first launch leaves to the second. -/

@[expose] public section

set_option maxRecDepth 16384

noncomputable section

namespace Cert.KernelIdeal.Moe

open Idealize.ShloMosaic Idealize.ShloMosaic.TcCoe Idealize.ShloMosaic.Tactic Idealize.ShloMosaic.StableHlo
open Idealize.SL.Sem
open Idealize.ShloMosaic.Pipeline (Dat Cfg Window)
open Cert.KernelIdeal Cert.KernelIdeal.Gen

variable {F : FTy → Type} [FloatOps F]

section lines
variable (X : Valuation τ sig (Elt F))

/-- The word the pad writes. -/
theorem line0 : StableHlo.after hostOps0 X (Proc.devRef .tc main_c) = (constantI S_ 32 0#32 : IVec S_ 32) := by
  after_results
/-- The padded router weights. -/
theorem line1 : StableHlo.after hostOps0_1 X (Proc.devRef .tc main_v0)
    = (pad S1024x128 ![0, 0] ![0, 120] ![0, 0] (X (Proc.devRef .tc main_arg3) : FVec F S1024x8 .f32)
        (sitofp .f32 (X (Proc.devRef .tc main_c) : IVec S_ 32) : FVec F S_ .f32) pads_S1024x8_S1024x128_000_01200 h_S_ : FVec F S1024x128 .f32) := by
  after_results
  rfl
/-- The first norm's gains as a row. -/
theorem line2 : StableHlo.after hostOps0_2 X (Proc.devRef .tc main_v1)
    = (broadcastInDim S1x1024 ![1] bcast_S1024_S1x1024_1 (X (Proc.devRef .tc main_arg1) : FVec F S1024 .f32) : FVec F S1x1024 .f32) := by
  after_results
/-- The final norm's gains as a row. -/
theorem line3 : StableHlo.after hostOps0_2 X (Proc.devRef .tc main_v2)
    = (broadcastInDim S1x1024 ![1] bcast_S1024_S1x1024_1 (X (Proc.devRef .tc main_arg2) : FVec F S1024 .f32) : FVec F S1x1024 .f32) := by
  after_results
/-- The gate weights. -/
theorem line4 : StableHlo.after hostOps0_2 X (Proc.devRef .tc main_v3)
    = (truncf .bf16 (X (Proc.devRef .tc main_arg4) : FVec F S8x1024x3584 .f32) bitsLt_bf16_f32 : FVec F S8x1024x3584 .bf16) := by
  after_results
/-- The up weights. -/
theorem line5 : StableHlo.after hostOps0_2 X (Proc.devRef .tc main_v4)
    = (truncf .bf16 (X (Proc.devRef .tc main_arg5) : FVec F S8x1024x3584 .f32) bitsLt_bf16_f32 : FVec F S8x1024x3584 .bf16) := by
  after_results
/-- The down weights. -/
theorem line6 : StableHlo.after hostOps0_2 X (Proc.devRef .tc main_v5)
    = (truncf .bf16 (X (Proc.devRef .tc main_arg6) : FVec F S8x3584x1024 .f32) bitsLt_bf16_f32 : FVec F S8x3584x1024 .bf16) := by
  after_results
/-- The table of counts. -/
theorem line7 : StableHlo.after hostOps1 X (Proc.devRef .tc main_v8)
    = (shapeCast S16x8 (extractStridedSlice S16x1x8 ![0, 0, 0] (X (Proc.devRef .tc main_v6_3) : IVec S16x8x128 32) slices_S16x8x128_S16x1x8_0_0_0 : IVec S16x1x8 32) shapeCasts_S16x1x8_S16x8 : IVec S16x8 32) := by
  after_results
  rfl

end lines

variable (m : (ℓ : Loc nD τ sig) → Buf (Elt F) ℓ) (c : Dev nD)

/-- The activations. -/
abbrev inX : FVec F S16384x1024 .f32 := m ((c : Thread nD τ).loc main_arg0)
/-- The first norm's gains. -/
abbrev inG : FVec F S1024 .f32 := m ((c : Thread nD τ).loc main_arg1)
/-- The final norm's gains. -/
abbrev inF : FVec F S1024 .f32 := m ((c : Thread nD τ).loc main_arg2)
/-- The router's weights. -/
abbrev inW : FVec F S1024x8 .f32 := m ((c : Thread nD τ).loc main_arg3)
/-- The gate weights. -/
abbrev inWg : FVec F S8x1024x3584 .f32 := m ((c : Thread nD τ).loc main_arg4)
/-- The up weights. -/
abbrev inWu : FVec F S8x1024x3584 .f32 := m ((c : Thread nD τ).loc main_arg5)
/-- The down weights. -/
abbrev inWd : FVec F S8x3584x1024 .f32 := m ((c : Thread nD τ).loc main_arg6)

/-- The gains' row at the first launch. -/
def row1 : Vec F S1x1024 .f32 := broadcastInDim S1x1024 ![1] bcast_S1024_S1x1024_1 (inG m c)
/-- The final gains' row at the second launch. -/
def row2 : Vec F S1x1024 .f32 := broadcastInDim S1x1024 ![1] bcast_S1024_S1x1024_1 (inF m c)
/-- The padded router weights at the first launch. -/
def padW : Vec F S1024x128 .f32 :=
  pad S1024x128 ![0, 0] ![0, 120] ![0, 0] (inW m c) (sitofp .f32 (constantI S_ 32 0#32 : IVec S_ 32) : FVec F S_ .f32) pads_S1024x8_S1024x128_000_01200 h_S_

/-- The arguments before the third host lines. -/
theorem V2_arg (r : Ref sig .tc) (h0 : r ∉ hostOps0_W) (h1 : r ∉ hostOps0_1_W) : V2 m c (Proc.devRef .tc r) = m ((c : Thread nD τ).loc r) :=
  (V2_of m c r h1).trans ((V1_of m c r h0).trans rfl)

/-- The arguments at the first launch. -/
theorem V3_arg (r : Ref sig .tc) (h0 : r ∉ hostOps0_W) (h1 : r ∉ hostOps0_1_W) (h2 : r ∉ hostOps0_2_W) :
    V3 m c (Proc.devRef .tc r) = m ((c : Thread nD τ).loc r) :=
  (V3_of m c r h2).trans (V2_arg m c r h0 h1)

/-- The gains' row at the first launch. -/
theorem V3_v1 : V3 m c (Proc.devRef .tc main_v1) = row1 m c := by
  refine (line2 (V2 m c)).trans ?_
  unfold row1
  rw [show (V2 m c (Proc.devRef .tc main_arg1)) = _ from V2_arg m c main_arg1 (by decide) (by decide)]
/-- The padded router weights at the first launch. -/
theorem V3_v0 : V3 m c (Proc.devRef .tc main_v0) = padW m c := by
  refine (V3_of m c main_v0 (by decide)).trans ((line1 (V1 m c)).trans ?_)
  unfold padW
  rw [show (V1 m c (Proc.devRef .tc main_c)) = _ from line0 (V0 m c),
    show (V1 m c (Proc.devRef .tc main_arg3)) = _ from V1_of m c main_arg3 (by decide)]

/-- A buffer the launches' host lines do not write, at the second launch. -/
theorem VE_keep (r : Ref sig .tc) (h : r ∉ ([main_v6_0, main_v6_1, main_v6_2, main_v6_3] : List (Ref sig .tc))) (h1 : r ∉ hostOps1_W) :
    VE m c (Proc.devRef .tc r) = V3 m c (Proc.devRef .tc r) :=
  (V5_of m (outs0 m) c r h1).trans (V4_of m (outs0 m) c r h)

/-- The activations at the second launch. -/
theorem VE_x : VE m c (Proc.devRef .tc main_arg0) = inX m c :=
  (VE_keep m c main_arg0 (by decide) (by decide)).trans (V3_arg m c main_arg0 (by decide) (by decide) (by decide))
/-- The final gains' row at the second launch. -/
theorem VE_v2 : VE m c (Proc.devRef .tc main_v2) = row2 m c := by
  refine (VE_keep m c main_v2 (by decide) (by decide)).trans ((line3 (V2 m c)).trans ?_)
  unfold row2
  rw [show (V2 m c (Proc.devRef .tc main_arg2)) = _ from V2_arg m c main_arg2 (by decide) (by decide)]
/-- The gate weights at the second launch. -/
theorem VE_v3 : VE m c (Proc.devRef .tc main_v3) = (truncf .bf16 (inWg m c) bitsLt_bf16_f32 : FVec F S8x1024x3584 .bf16) := by
  refine (VE_keep m c main_v3 (by decide) (by decide)).trans ((line4 (V2 m c)).trans ?_)
  rw [show (V2 m c (Proc.devRef .tc main_arg4)) = _ from V2_arg m c main_arg4 (by decide) (by decide)]
/-- The up weights at the second launch. -/
theorem VE_v4 : VE m c (Proc.devRef .tc main_v4) = (truncf .bf16 (inWu m c) bitsLt_bf16_f32 : FVec F S8x1024x3584 .bf16) := by
  refine (VE_keep m c main_v4 (by decide) (by decide)).trans ((line5 (V2 m c)).trans ?_)
  rw [show (V2 m c (Proc.devRef .tc main_arg5)) = _ from V2_arg m c main_arg5 (by decide) (by decide)]
/-- The down weights at the second launch. -/
theorem VE_v5 : VE m c (Proc.devRef .tc main_v5) = (truncf .bf16 (inWd m c) bitsLt_bf16_f32 : FVec F S8x3584x1024 .bf16) := by
  refine (VE_keep m c main_v5 (by decide) (by decide)).trans ((line6 (V2 m c)).trans ?_)
  rw [show (V2 m c (Proc.devRef .tc main_arg6)) = _ from V2_arg m c main_arg6 (by decide) (by decide)]

/-- What the first launch leaves in window `w`'s array. -/
theorem outs0_at (n : ℕ) (w : Fin 7) : outs0 m n (Pipeline.arrRef spec0 w) c = (dat0 (V3 m c) c).arrAt w cfg0.N :=
  Pipeline.afterRegion_arr (dat0 (V3 m c) c) (V3 m c) (launch0 (F := F)).win.arr_inj w

/-- The rows of a block. -/
abbrev blockX (i : ℕ) : Vec F S1024x1024 .f32 := rowBlk (inX m c) i

/-- The block the first launch reads. -/
theorem xB_eq (i : ℕ) : xB (V3 m c) i = blockX m c i := by
  show rowBlk (V3 m c (Proc.devRef .tc main_arg0)) i = _
  rw [show V3 m c (Proc.devRef .tc main_arg0) = _ from V3_arg m c main_arg0 (by decide) (by decide) (by decide)]

/-- The normed rows at the second launch. -/
theorem VE_hn : VE m c (Proc.devRef .tc main_v6_0) = spread fun i => hnB (blockX m c i) (row1 m c) := by
  refine (V5_of m (outs0 m) c main_v6_0 (by decide)).trans ((V4_v6_0 m (outs0 m) c).trans ((outs0_at m c 4 3).trans ((arr0_3 (V3 m c) c).trans ?_)))
  exact congrArg spread (funext fun i => by rw [xB_eq, show V3 m c main_v1 = _ from V3_v1 m c])
/-- The table by rows at the second launch. -/
theorem VE_col : VE m c (Proc.devRef .tc main_v6_1) = spreadCol fun i => colB (blockX m c i) (row1 m c) (padW m c) := by
  refine (V5_of m (outs0 m) c main_v6_1 (by decide)).trans ((V4_v6_1 m (outs0 m) c).trans ((outs0_at m c 4 4).trans ((arr0_4 (V3 m c) c).trans ?_)))
  exact congrArg spreadCol (funext fun i => by rw [xB_eq, show V3 m c main_v1 = _ from V3_v1 m c, show V3 m c main_v0 = _ from V3_v0 m c])
/-- The table by lanes at the second launch. -/
theorem VE_row : VE m c (Proc.devRef .tc main_v6_2) = spreadLane fun i => rowB (blockX m c i) (row1 m c) (padW m c) := by
  refine (V5_of m (outs0 m) c main_v6_2 (by decide)).trans ((V4_v6_2 m (outs0 m) c).trans ((outs0_at m c 4 5).trans ((arr0_5 (V3 m c) c).trans ?_)))
  exact congrArg spreadLane (funext fun i => by rw [xB_eq, show V3 m c main_v1 = _ from V3_v1 m c, show V3 m c main_v0 = _ from V3_v0 m c])
/-- The counts the first launch leaves. -/
theorem VE_cnt : V4 m (outs0 m) c (Proc.devRef .tc main_v6_3) = spreadCnt fun i => cntB (blockX m c i) (row1 m c) (padW m c) := by
  refine (V4_v6_3 m (outs0 m) c).trans ((outs0_at m c 4 6).trans ((arr0_6 (V3 m c) c).trans ?_))
  exact congrArg spreadCnt (funext fun i => by rw [xB_eq, show V3 m c main_v1 = _ from V3_v1 m c, show V3 m c main_v0 = _ from V3_v0 m c])

/-- The table of counts at the second launch. -/
def tblW : Vec F S16x8 .i32 :=
  shapeCast S16x8 (extractStridedSlice S16x1x8 ![0, 0, 0] (spreadCnt fun i => cntB (blockX m c i) (row1 m c) (padW m c) : IVec S16x8x128 32) slices_S16x8x128_S16x1x8_0_0_0 : IVec S16x1x8 32) shapeCasts_S16x1x8_S16x8

/-- The table of counts at the second launch. -/
theorem VE_v8 : VE m c (Proc.devRef .tc main_v8) = tblW m c := by
  refine (line7 (V4 m (outs0 m) c)).trans ?_
  unfold tblW
  rw [show V4 m (outs0 m) c (Proc.devRef .tc main_v6_3) = _ from VE_cnt m c]

/-- The blocks the second launch works on. -/
def blocks : Arrs F :=
  arrs (inX m c) (spread fun i => hnB (blockX m c i) (row1 m c)) (spreadCol fun i => colB (blockX m c i) (row1 m c) (padW m c))
    (spreadLane fun i => rowB (blockX m c i) (row1 m c) (padW m c)) (row2 m c) (truncf .bf16 (inWg m c) bitsLt_bf16_f32 : FVec F S8x1024x3584 .bf16)
    (truncf .bf16 (inWu m c) bitsLt_bf16_f32 : FVec F S8x1024x3584 .bf16) (truncf .bf16 (inWd m c) bitsLt_bf16_f32 : FVec F S8x3584x1024 .bf16) (tblW m c)

/-- The second launch's windows hold them. -/
theorem arrsOf_eq : arrsOf (tbl m) (VE m c) = blocks m c := by
  have h8 : (tbl m).1 0 = tblW m c := by
    obtain rfl : c = 0 := Subsingleton.elim _ _
    exact VE_v8 m 0
  unfold arrsOf blocks
  rw [h8, show VE m c main_arg0 = _ from VE_x m c, show VE m c main_v6_0 = _ from VE_hn m c, show VE m c main_v6_1 = _ from VE_col m c,
    show VE m c main_v6_2 = _ from VE_row m c, show VE m c main_v2 = _ from VE_v2 m c, show VE m c main_v3 = _ from VE_v3 m c,
    show VE m c main_v4 = _ from VE_v4 m c, show VE m c main_v5 = _ from VE_v5 m c]

/-- The program's result. -/
theorem result_eq : result m c = spread fun i => OUT (blocks m c) i := by
  unfold result
  rw [arr1_8, arrsOf_eq]

end Cert.KernelIdeal.Moe

end

end
-- ==== Proof.Result.lean ====
/- What the kernel's result holds, row by row. -/
module

public import proofs.«01_k».proof.Proof.BlockValue
public import proofs.«01_k».proof.Proof.Entered
public import Idealize.ShloMosaic.Lib.Pointwise

@[expose] public section

set_option maxRecDepth 16384

noncomputable section

namespace Cert.Moe

open Idealize.ShloMosaic Idealize.ShloMosaic.TcCoe Idealize.SL.Sem Cert.KernelIdeal Cert.KernelIdeal.Gen

variable (m : (ℓ : Loc nD τ sig) → Buf (Elt Ideal) ℓ) (c : Dev nD)

/-- A row of the activations. -/
abbrev xRow (R : Fin 16384) (k : Fin 1024) : EReal := KernelIdeal.Moe.inX m c (ix2 R k)
/-- The first norm's gains. -/
abbrev gain (k : Fin 1024) : EReal := KernelIdeal.Moe.inG m c (Idealize.ShloMosaic.ix1 k)
/-- The final norm's gains. -/
abbrev fgain (k : Fin 1024) : EReal := KernelIdeal.Moe.inF m c (Idealize.ShloMosaic.ix1 k)
/-- The router's weights. -/
abbrev rout (k : Fin 1024) (e : Fin 8) : EReal := KernelIdeal.Moe.inW m c (ix2 k e)
/-- The gate weights. -/
abbrev gateW (e : Fin 8) (k : Fin 1024) (j : Fin 3584) : EReal := KernelIdeal.Moe.inWg m c (ix3 e k j)
/-- The up weights. -/
abbrev upW (e : Fin 8) (k : Fin 1024) (j : Fin 3584) : EReal := KernelIdeal.Moe.inWu m c (ix3 e k j)
/-- The down weights. -/
abbrev downW (e : Fin 8) (j : Fin 3584) (d : Fin 1024) : EReal := KernelIdeal.Moe.inWd m c (ix3 e j d)

/-- A vector laid out as a row. -/
theorem row_read (g : FVec Ideal S1024 .f32) (k : Fin 1024) :
    (broadcastInDim S1x1024 ![1] bcast_S1024_S1x1024_1 g : FVec Ideal S1x1024 .f32) (ix2 0 k) = g (Idealize.ShloMosaic.ix1 k) := by
  pointwise

/-- The router's weights among the padded lanes. -/
theorem pad_read (w : FVec Ideal S1024x8 .f32) (z : FVec Ideal S_ .f32) (k : Fin 1024) (e : Fin 8) :
    (pad S1024x128 ![0, 0] ![0, 120] ![0, 0] w z pads_S1024x8_S1024x128_000_01200 h_S_ : FVec Ideal S1024x128 .f32) (ix2 k (laneOf e)) = w (ix2 k e) := by
  pointwise
  exact dif_pos e.isLt

/-- The blocks' gains. -/
theorem row1_apply (k : Fin 1024) : KernelIdeal.Moe.row1 m c (ix2 0 k) = gain m c k := row_read _ k
/-- The blocks' final gains. -/
theorem row2_apply (k : Fin 1024) : KernelIdeal.Moe.row2 m c (ix2 0 k) = fgain m c k := row_read _ k
/-- The blocks' router weights. -/
theorem padW_apply (k : Fin 1024) (e : Fin 8) : KernelIdeal.Moe.padW m c (ix2 k (laneOf e)) = rout m c k e := pad_read _ _ k e

/-- The index of a matrix, spelt either way. -/
theorem ix2_eq {n p : ℕ} (i : Fin n) (j : Fin p) : KernelIdeal.Moe.ix2 i j = ix2 i j := by
  funext a
  fin_cases a <;> rfl
/-- The index of an array of three axes, spelt either way. -/
theorem ix3_eq {n p q : ℕ} (i : Fin n) (j : Fin p) (l : Fin q) : KernelIdeal.Moe.ix3 i j l = ix3 i j l := by
  funext a
  fin_cases a <;> rfl

section block
variable (i : ℕ) (hi : i < 16)

/-- A row of a block is its row of the activations. -/
theorem blockX_apply (r k : Fin 1024) : KernelIdeal.Moe.blockX m c i (ix2 r k) = xRow m c (KernelIdeal.Moe.rowOf i r) k :=
  congrArg (KernelIdeal.Moe.inX m c) (ix2_eq (KernelIdeal.Moe.rowOf i r) k)

/-- The normed row. -/
abbrev hRow (R : Fin 16384) : Fin 1024 → EReal := norm (xRow m c R) (gain m c)

/-- A row of a block, normed. -/
theorem hrow_eq (r : Fin 1024) : hrow (KernelIdeal.Moe.blockX m c i) (KernelIdeal.Moe.row1 m c) r = hRow m c (KernelIdeal.Moe.rowOf i r) := by
  unfold hrow hRow
  exact congrArg₂ norm (funext fun k => blockX_apply m c i r k) (funext fun k => row1_apply m c k)

/-- The scores of a row of a block. -/
theorem srow_eq (r : Fin 1024) : srow (KernelIdeal.Moe.blockX m c i) (KernelIdeal.Moe.row1 m c) (rout m c) r = scores (hRow m c (KernelIdeal.Moe.rowOf i r)) (rout m c) := by
  unfold srow
  rw [hrow_eq]

include hi in
/-- The number of rows an expert has in a block. -/
theorem cnt_read (e : Fin 8) : KernelIdeal.Moe.cnt (KernelIdeal.Moe.blocks m c) i e.val
    = KernelIdeal.Moe.cntB (KernelIdeal.Moe.blockX m c i) (KernelIdeal.Moe.row1 m c) (KernelIdeal.Moe.padW m c) (ix3 (0 : Fin 1) (0 : Fin 8) (laneOf e)) := by
  have h1 : ∀ a : Fin 16, (Scalar.indexCast (BitVec.ofNat 32 (a.val % 16))).toNat = a.val := by decide
  have h2 : ∀ a : Fin 8, (Scalar.indexCast (BitVec.ofNat 32 (a.val % 8))).toNat = a.val := by decide
  have hT : ∀ (X : IVec S16x8x128 32) (a : Fin 16) (b : Fin 8),
      (shapeCast S16x8 (extractStridedSlice S16x1x8 ![0, 0, 0] X slices_S16x8x128_S16x1x8_0_0_0 : IVec S16x1x8 32) shapeCasts_S16x1x8_S16x8 : IVec S16x8 32) (ix2 a b)
        = X (ix3 a (0 : Fin 8) (laneOf b)) := by
    intro X a b
    pointwise
    rfl
  have hX : (KernelIdeal.Moe.rT (KernelIdeal.Moe.at3 i e.val 0)).emb (Shape.Idx.first (numel1_S1x1.symm ▸ Nat.one_pos)) = ix2 (⟨i, hi⟩ : Fin 16) e := by
    funext a
    refine Fin.ext ?_
    fin_cases a
    · exact h1 ⟨i, hi⟩
    · exact h2 e
  show KernelIdeal.Moe.tblW m c ((KernelIdeal.Moe.rT (KernelIdeal.Moe.at3 i e.val 0)).emb _) = _
  rw [hX]
  refine (hT _ _ _).trans ?_
  show KernelIdeal.Moe.cntB (KernelIdeal.Moe.blockX m c i) _ _ (KernelIdeal.Moe.ix3 (0 : Fin 1) (0 : Fin 8) (laneOf e)) = _
  rw [ix3_eq]

variable (A B : Fin 1024 → Fin 8)
  (hT : ∀ r, Top2 (scores (hRow m c (KernelIdeal.Moe.rowOf i r)) (rout m c)) (A r) (B r))
  (hR : ∀ r e, IsReal (scores (hRow m c (KernelIdeal.Moe.rowOf i r)) (rout m c) e))

include hi hT hR in
/-- A block's rows go to their two experts. -/
theorem routed : Routed (KernelIdeal.Moe.blocks m c) i (fun e r => e = A r ∨ e = B r)
    (fun e r => weight (scores (hRow m c (KernelIdeal.Moe.rowOf i r)) (rout m c)) (A r) (B r) e) := by
  have hT' : ∀ r, Top2 (srow (KernelIdeal.Moe.blockX m c i) (KernelIdeal.Moe.row1 m c) (rout m c) r) (A r) (B r) := fun r => by rw [srow_eq]; exact hT r
  have hR' : ∀ r e, IsReal (srow (KernelIdeal.Moe.blockX m c i) (KernelIdeal.Moe.row1 m c) (rout m c) r e) := fun r e => by rw [srow_eq]; exact hR r e
  have hw := padW_apply m c
  have hrow : (KernelIdeal.Moe.blocks m c).row i = KernelIdeal.Moe.rowB (KernelIdeal.Moe.blockX m c i) (KernelIdeal.Moe.row1 m c) (KernelIdeal.Moe.padW m c) :=
    KernelIdeal.Moe.laneBlk_spread (fun i => KernelIdeal.Moe.rowB (KernelIdeal.Moe.blockX m c i) (KernelIdeal.Moe.row1 m c) (KernelIdeal.Moe.padW m c)) i hi
  have hcol : (KernelIdeal.Moe.blocks m c).col i = KernelIdeal.Moe.colB (KernelIdeal.Moe.blockX m c i) (KernelIdeal.Moe.row1 m c) (KernelIdeal.Moe.padW m c) :=
    KernelIdeal.Moe.colBlk_spread (fun i => KernelIdeal.Moe.colB (KernelIdeal.Moe.blockX m c i) (KernelIdeal.Moe.row1 m c) (KernelIdeal.Moe.padW m c)) i hi
  refine ⟨fun e x => ?_, fun e x => ?_, fun e x => ?_, fun e x => ?_, fun e x => ?_, fun e => ?_⟩
  · rw [hrow]
    exact (rowB_apply _ _ _ 0 x e).1.trans (rankB_apply _ _ _ (rout m c) hw hT' hR' e x)
  · rw [hrow]
    exact (rowB_apply _ _ _ 0 x e).2.trans (selTB_apply _ _ _ (rout m c) hw hT' hR' e x)
  · rw [hcol, ← srow_eq]
    exact (colB_apply _ _ _ x e).1.trans (gateB_apply _ _ _ (rout m c) hw hT' hR' e x)
  · rw [hcol]
    exact (colB_apply _ _ _ x e).2.1.trans (rankB_apply _ _ _ (rout m c) hw hT' hR' e x)
  · rw [hcol]
    exact (colB_apply _ _ _ x e).2.2.trans (selTB_apply _ _ _ (rout m c) hw hT' hR' e x)
  · rw [cnt_read m c i hi]
    exact cntB_apply _ _ _ (rout m c) hw hT' hR' 0 0 e

/-- Expert `e`'s number is its own. -/
theorem expOf_val (e : Fin 8) : KernelIdeal.Moe.expOf e.val = e := Fin.ext (Nat.mod_eq_of_lt e.isLt)

/-- A block of an expert's gate weights. -/
theorem wg_apply (e : Fin 8) (f : ℕ) (k : Fin 1024) (j : Fin 896) :
    (KernelIdeal.Moe.blocks m c).wg e.val f (ix3 0 k j) = gateW m c e k (KernelIdeal.Moe.midOf f j) := by
  show KernelIdeal.Moe.inWg m c (KernelIdeal.Moe.ix3 (KernelIdeal.Moe.expOf e.val) k (KernelIdeal.Moe.midOf f j)) = _
  rw [expOf_val, ix3_eq]
/-- A block of an expert's up weights. -/
theorem wu_apply (e : Fin 8) (f : ℕ) (k : Fin 1024) (j : Fin 896) :
    (KernelIdeal.Moe.blocks m c).wu e.val f (ix3 0 k j) = upW m c e k (KernelIdeal.Moe.midOf f j) := by
  show KernelIdeal.Moe.inWu m c (KernelIdeal.Moe.ix3 (KernelIdeal.Moe.expOf e.val) k (KernelIdeal.Moe.midOf f j)) = _
  rw [expOf_val, ix3_eq]
/-- A block of an expert's down weights. -/
theorem wd_apply (e : Fin 8) (f : ℕ) (j : Fin 896) (d : Fin 1024) :
    (KernelIdeal.Moe.blocks m c).wd e.val f (ix3 0 j d) = downW m c e (KernelIdeal.Moe.midOf f j) d := by
  show KernelIdeal.Moe.inWd m c (KernelIdeal.Moe.ix3 (KernelIdeal.Moe.expOf e.val) (KernelIdeal.Moe.midOf f j) d) = _
  rw [expOf_val, ix3_eq]

include hi in
/-- An expert's output on a row of a block. -/
theorem outOf_eq (e : Fin 8) (r d : Fin 1024) :
    outOf (KernelIdeal.Moe.blocks m c) i e r d = ffn (hRow m c (KernelIdeal.Moe.rowOf i r)) (gateW m c e) (upW m c e) (downW m c e) d := by
  have hh : (fun k => (KernelIdeal.Moe.blocks m c).hn i (ix2 r k)) = hRow m c (KernelIdeal.Moe.rowOf i r) := by
    have h : (KernelIdeal.Moe.blocks m c).hn i = KernelIdeal.Moe.hnB (KernelIdeal.Moe.blockX m c i) (KernelIdeal.Moe.row1 m c) :=
      KernelIdeal.Moe.rowBlk_spread (fun i => KernelIdeal.Moe.hnB (KernelIdeal.Moe.blockX m c i) (KernelIdeal.Moe.row1 m c)) i hi
    funext k
    rw [h, ← hrow_eq]
    exact hnB_apply _ _ r k
  unfold outOf ffn
  rw [hh, sum_blocks _ KernelIdeal.Moe.midOf (fun j k hj => by show 896 * (j % 4) + k.val = _; rw [Nat.mod_eq_of_lt hj])]
  unfold parts part
  simp only [wg_apply, wu_apply, wd_apply]

include hi hT hR in
/-- A row of a block of the kernel's result. -/
theorem out_row (r d : Fin 1024) : KernelIdeal.Moe.OUT (KernelIdeal.Moe.blocks m c) i (ix2 r d)
    = layer (xRow m c (KernelIdeal.Moe.rowOf i r)) (gain m c) (fgain m c) (rout m c) (gateW m c) (upW m c) (downW m c) (A r) (B r) d := by
  rw [OUT_apply _ i _ _ (routed m c i hi A B hT hR) r d]
  unfold layer
  refine congrFun (congrArg₂ norm (funext fun k => congrArg₂ (· + ·) (blockX_apply m c i r k) (Finset.sum_congr rfl fun e _ => ?_)) (funext fun k => row2_apply m c k)) d
  split_ifs with h
  · rw [outOf_eq m c i hi]
  · unfold weight
    rw [if_neg (fun h1 => h (Or.inl h1)), if_neg (fun h1 => h (Or.inr h1)), zero_mul]

end block

/-- A row of the kernel's result. -/
theorem result_row (hR : ∀ R e, IsReal (scores (hRow m c R) (rout m c) e)) (A B : Fin 16384 → Fin 8)
    (hT : ∀ R, Top2 (scores (hRow m c R) (rout m c)) (A R) (B R)) (R : Fin 16384) (d : Fin 1024) :
    (KernelIdeal.Moe.result m c : FVec Ideal S16384x1024 .f32) (ix2 R d)
      = layer (xRow m c R) (gain m c) (fgain m c) (rout m c) (gateW m c) (upW m c) (downW m c) (A R) (B R) d := by
  have hi : R.val / 1024 < 16 := by omega
  obtain ⟨r, hr⟩ : ∃ r : Fin 1024, r.val = R.val % 1024 := ⟨⟨R.val % 1024, Nat.mod_lt _ (by decide)⟩, rfl⟩
  have hRr : KernelIdeal.Moe.rowOf (R.val / 1024) r = R := Fin.ext (by show 1024 * (R.val / 1024 % 16) + r.val = R.val; omega)
  have h := out_row m c (R.val / 1024) hi (fun r => A (KernelIdeal.Moe.rowOf (R.val / 1024) r)) (fun r => B (KernelIdeal.Moe.rowOf (R.val / 1024) r))
    (fun r => hT _) (fun r => hR _) r d
  rw [hRr] at h
  rw [← h, KernelIdeal.Moe.result_eq]
  show KernelIdeal.Moe.OUT (KernelIdeal.Moe.blocks m c) (R.val / 1024) (KernelIdeal.Moe.ix2 (⟨R.val % 1024, Nat.mod_lt _ (by decide)⟩ : Fin 1024) d) = _
  rw [ix2_eq]
  exact congrArg (fun q => KernelIdeal.Moe.OUT (KernelIdeal.Moe.blocks m c) (R.val / 1024) (ix2 q d)) (Fin.ext hr.symm)

end Cert.Moe

end

end
-- ==== Proof.ReferenceValue.lean ====
/- What the reference computes, row by row. -/
module

public import proofs.«01_k».proof.Proof.RouterValue
public import proofs.«01_k».proof.Proof.Gen.ReferenceIdeal.Run
public import Idealize.ShloMosaic.Lib.SortPrefix

@[expose] public section

set_option maxRecDepth 16384

noncomputable section

namespace Cert.Moe

open Idealize.ShloMosaic Idealize.SL.Sem Cert.ReferenceIdeal Cert.ReferenceIdeal.Facts₀ Cert.ReferenceIdeal.Value

/-- Two orders that agree on increasing positions sort a list of increasing positions alike. -/
theorem stableSort_eq {n : ℕ} (R B : Fin n → Fin n → Bool) (h : ∀ a b, a < b → R b a = B b a) (l : List (Fin n)) (hl : l.Pairwise (· < ·)) :
    stableSort R l = stableSort B l := by
  induction l with
  | nil => rfl
  | cons a l ih =>
    rw [List.pairwise_cons] at hl
    show insertBefore R a (stableSort R l) = insertBefore B a (stableSort B l)
    rw [ih hl.2]
    refine insertBefore_congr R B a _ fun b hb => h a b (hl.1 b ?_)
    exact (perm_stableSort B l).mem_iff.mp hb

/-- The first two of eight scores sorted from the largest are the two experts chosen. -/
theorem sorted_top2 (l : Fin 8 → EReal) (a b : Fin 8) (h : Top2 l a b) (R : Fin 8 → Fin 8 → Bool) (hR : ∀ k k', R k k' = decide (l k' < l k)) :
    sortedFrom R 0 = a ∧ sortedFrom R 1 = b := by
  have hB := StrictTotalBefore.of_key_then_position (fun x y : EReal => decide (y < x)) l (by simp)
    (fun a b c h1 h2 => by simp only [decide_eq_true_eq] at *; exact h2.trans h1)
    (fun a b => by simp only [decide_eq_true_eq]; rcases lt_trichotomy a b with h | h | h <;> simp [h])
  have hs : sortPositions 8 R = sortPositions 8 _ := stableSort_eq R (fun k k' : Fin 8 => decide (l k' < l k) || (decide (l k = l k') && decide (k < k')))
    (fun a b hab => by rw [hR]; simp [hab.le]) _ (List.pairwise_lt_finRange 8)
  have hf : ∀ k, sortedFrom R k = sortedFrom (fun k k' : Fin 8 => decide (l k' < l k) || (decide (l k = l k') && decide (k < k'))) k := fun k =>
    List.get_of_eq hs _
  have hp := fun i => hB.sortedFrom_eq_of_prefix (k := 2) (by decide) ![a, b]
    (by
      intro i j hij
      fin_cases i <;> fin_cases j
      · rfl
      · exact absurd hij h.ne.symm
      · exact absurd hij h.ne
      · rfl)
    (by
      intro i j hij
      fin_cases i <;> fin_cases j <;> simp at hij
      show (decide (l a < l b) || (decide (l b = l a) && decide (b < a))) = false
      have h1 := h.max1 b
      by_cases hba : b < a
      · have := h.first1 b hba
        simp [h1, this.ne]
      · simp [h1, hba])
    (by
      intro i p hp
      have ha : p ≠ a := fun e => hp 0 e.symm
      have hb : p ≠ b := fun e => hp 1 e.symm
      fin_cases i
      · show (decide (l a < l p) || (decide (l p = l a) && decide (p < a))) = false
        have h1 := h.max1 p
        by_cases hpa : p < a
        · have := h.first1 p hpa
          simp [h1, this.ne]
        · simp [h1, hpa]
      · show (decide (l b < l p) || (decide (l p = l b) && decide (p < b))) = false
        have h1 := h.max2 p ha
        by_cases hpb : p < b
        · have := h.first2 p ha hpb
          simp [h1, this.ne]
        · simp [h1, hpb]) i
  exact ⟨(hf 0).trans (hp 0), (hf 1).trans (hp 1)⟩

section top
variable (X : FVec Ideal S16384x8 .f32) (r : Fin 16384)

/-- The comparator of the top two. -/
abbrev cmpR (k k' : Fin 8) : Bool := (FloatOps.cmpfTotal (F := Ideal) (φ := .f32) .gt (X (ix2 r k)) (X (ix2 r k'))) == 1#1

/-- Position `j` of a row of the sorted scores. -/
theorem topK_apply (hs) (j : Fin 2) :
    (Host.topK S16384x2 1 (FloatOps.cmpfTotal (F := Ideal) (φ := .f32) .gt) X hs).1 (ix2 r j) = X (ix2 r (sortedFrom (cmpR X r) (j.castLE (by decide))))
    ∧ (Host.topK S16384x2 1 (FloatOps.cmpfTotal (F := Ideal) (φ := .f32) .gt) X hs).2 (ix2 r j) = BitVec.ofNat 32 (sortedFrom (cmpR X r) (j.castLE (by decide))).val := by
  have hj : ∀ (J : S16384x8.Idx) (h0 : J 0 = r) (k : Fin 8), J.along (1 : Fin 2) k = ix2 r k := by
    intro J h0 k
    funext a
    fin_cases a
    · exact h0
    · rfl
  let J : S16384x8.Idx := fun a => ⟨0 + (ix2 r j (a.cast hs.1.symm)).val, Nat.lt_of_lt_of_le (Nat.add_lt_add_left (ix2 r j (a.cast hs.1.symm)).isLt 0) (hs.2 a)⟩
  have h0 : J 0 = r := Fin.ext (Nat.zero_add _)
  have h1 : J 1 = j.castLE (by decide) := Fin.ext (Nat.zero_add _)
  have hc : (fun k k' : Fin 8 => (FloatOps.cmpfTotal (F := Ideal) (φ := .f32) .gt (X (J.along (1 : Fin 2) k)) (X (J.along (1 : Fin 2) k'))) == 1#1) = cmpR X r := by
    funext k k'
    rw [hj J h0, hj J h0]
  have hp : J.along (1 : Fin 2) (sortedFrom (fun k k' : Fin 8 => (FloatOps.cmpfTotal (F := Ideal) (φ := .f32) .gt (X (J.along (1 : Fin 2) k)) (X (J.along (1 : Fin 2) k'))) == 1#1) (J 1))
      = ix2 r (sortedFrom (cmpR X r) (j.castLE (by decide))) := by
    exact (hj J h0 _).trans (by rw [hc, h1]; rfl)
  exact ⟨congrArg X hp, congrArg (iotaInDim S16384x8 32 1) hp⟩

/-- The two largest scores of a row and their experts. -/
theorem topK_top2 (hs) (a b : Fin 8) (h : Top2 (fun e => X (ix2 r e)) a b) :
    ((Host.topK S16384x2 1 (FloatOps.cmpfTotal (F := Ideal) (φ := .f32) .gt) X hs).1 (ix2 r 0) = X (ix2 r a)
      ∧ (Host.topK S16384x2 1 (FloatOps.cmpfTotal (F := Ideal) (φ := .f32) .gt) X hs).1 (ix2 r 1) = X (ix2 r b))
    ∧ (Host.topK S16384x2 1 (FloatOps.cmpfTotal (F := Ideal) (φ := .f32) .gt) X hs).2 (ix2 r 0) = BitVec.ofNat 32 a.val
      ∧ (Host.topK S16384x2 1 (FloatOps.cmpfTotal (F := Ideal) (φ := .f32) .gt) X hs).2 (ix2 r 1) = BitVec.ofNat 32 b.val := by
  have hR : ∀ k k', cmpR X r k k' = decide (X (ix2 r k') < X (ix2 r k)) := fun k k' => by
    show (BitVec.ofBool (decide (X (ix2 r k') < X (ix2 r k))) == 1#1) = _
    cases decide (X (ix2 r k') < X (ix2 r k)) <;> rfl
  obtain ⟨ha, hb⟩ := sorted_top2 (fun e => X (ix2 r e)) a b h (cmpR X r) hR
  have t0 := topK_apply X r hs 0
  have t1 := topK_apply X r hs 1
  rw [show ((0 : Fin 2).castLE (by decide) : Fin 8) = 0 from rfl, ha] at t0
  rw [show ((1 : Fin 2).castLE (by decide) : Fin 8) = 1 from rfl, hb] at t1
  exact ⟨⟨t0.1, t1.1⟩, t0.2, t1.2⟩

end top

section weights
variable (Y E : FVec Ideal S16384x2 .f32) (I : IVec S16384x2 32) (r : Fin 16384)

/-- The exponentials of the two scores over their largest. -/
theorem exps_apply (j : Fin 2) :
    (Host.exp (subf Y (broadcastInDim S16384x2 ![0, 1] bcast_S16384x1_S16384x2_0_1 (broadcastInDim S16384x1 ![0] bcast_S16384_S16384x1_0 (maximumf (broadcastInDim S16384 ![] bcast_S_S16384 (constant S_ .f32 0xFF800000#32)) (Host.reduce FloatOps.maximumf Y (constant S_ .f32 0xFF800000#32) reducesTo_S16384x2_S16384_d1 h_S_))))) : FVec Ideal S16384x2 .f32) (ix2 r j)
      = Ideal.exp (Y (ix2 r j) - max ⊥ (Finset.fold max ⊥ (fun k : Fin 2 => Y (ix2 r k)) Finset.univ)) := by
  pointwise
  rw [word_bot]

/-- The table of weights. -/
theorem weights_apply (e : Fin 8) :
    (Host.reduceAdd (mulf (uitofp .f32 (cmpi .eq (broadcastInDim S16384x2x8 ![0, 1, 2] bcast_S16384x2x1_S16384x2x8_0_1_2 (broadcastInDim S16384x2x1 ![0, 1] bcast_S16384x2_S16384x2x1_0_1 I)) (broadcastInDim S16384x2x8 ![0, 1, 2] bcast_S1x1x8_S16384x2x8_0_1_2 (iotaInDim S1x1x8 32 2)))) (broadcastInDim S16384x2x8 ![0, 1, 2] bcast_S16384x2x1_S16384x2x8_0_1_2 (broadcastInDim S16384x2x1 ![0, 1] bcast_S16384x2_S16384x2x1_0_1 (Host.divf E (broadcastInDim S16384x2 ![0, 1] bcast_S16384x1_S16384x2_0_1 (broadcastInDim S16384x1 ![0] bcast_S16384_S16384x1_0 (Host.reduceAdd E (constant S_ .f32 0x00000000#32) reducesTo_S16384x2_S16384_d1 h_S_))))))) (constant S_ .f32 0x00000000#32) reducesTo_S16384x2x8_S16384x8_d1 h_S_ : FVec Ideal S16384x8 .f32) (ix2 r e)
      = ∑ j : Fin 2, FloatOps.uitofp (F := Ideal) .f32 (IntOp.cmpi .eq (I (ix2 r j)) (BitVec.ofNat 32 e.val)) * Ideal.div (E (ix2 r j)) (∑ k : Fin 2, E (ix2 r k)) := by
  pointwise

end weights

section experts
variable (hn : FVec Ideal S16384x1024 .f32) (G U : FVec Ideal S1024x3584 .f32) (D : FVec Ideal S3584x1024 .f32) (C : FVec Ideal S16384x1 .f32) (r : Fin 16384) (d : Fin 1024)

/-- An expert's weighted output. -/
theorem expert_apply :
    (mulf (broadcastInDim S16384x1024 ![0, 1] bcast_S16384x1_S16384x1024_0_1 C) (Host.dotGeneral dot_S16384x3584_S3584x1024_S16384x1024_1_0_0_1_n_n none (mulf (mulf (Host.dotGeneral dot_S16384x1024_S1024x3584_S16384x3584_1_0_0_1_n_n none hn G) (Host.divf (broadcastInDim S16384x3584 ![] bcast_S_S16384x3584 (constant S_ .f32 0x3F800000#32)) (addf (broadcastInDim S16384x3584 ![] bcast_S_S16384x3584 (constant S_ .f32 0x3F800000#32)) (Host.exp (Host.negf (Host.dotGeneral dot_S16384x1024_S1024x3584_S16384x3584_1_0_0_1_n_n none hn G)))))) (Host.dotGeneral dot_S16384x1024_S1024x3584_S16384x3584_1_0_0_1_n_n none hn U)) D) : FVec Ideal S16384x1024 .f32) (ix2 r d)
      = C (ix2 r 0) * ffn (fun k => hn (ix2 r k)) (fun k m => G (ix2 k m)) (fun k m => U (ix2 k m)) (fun m d => D (ix2 m d)) d := by
  pointwise
  rfl

/-- The final norm. -/
theorem final_apply (g : FVec Ideal S1024 .f32) :
    (mulf (mulf hn (broadcastInDim S16384x1024 ![0, 1] bcast_S16384x1_S16384x1024_0_1 (Host.rsqrt (addf (Host.divf (broadcastInDim S16384x1 ![0] bcast_S16384_S16384x1_0 (Host.reduceAdd (mulf hn hn) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g)) : FVec Ideal S16384x1024 .f32) (ix2 r d)
      = norm (fun k => hn (ix2 r k)) (fun k => g (Idealize.ShloMosaic.ix1 k)) d := by
  pointwise
  rfl

/-- An expert's slice of the gate or up weights. -/
theorem slice_up (W : FVec Ideal S8x1024x3584 .f32) (o : ℕ) (e : Fin 8) (he : e.val = o) (hs hc) (k : Fin 1024) (m : Fin 3584) :
    (shapeCast S1024x3584 (extractStridedSlice S1x1024x3584 ![o, 0, 0] W hs) hc : FVec Ideal S1024x3584 .f32) (ix2 k m) = W (ix3 e k m) := by
  subst he
  pointwise

/-- An expert's slice of the down weights. -/
theorem slice_down (W : FVec Ideal S8x3584x1024 .f32) (o : ℕ) (e : Fin 8) (he : e.val = o) (hs hc) (m : Fin 3584) (k : Fin 1024) :
    (shapeCast S3584x1024 (extractStridedSlice S1x3584x1024 ![o, 0, 0] W hs) hc : FVec Ideal S3584x1024 .f32) (ix2 m k) = W (ix3 e m k) := by
  subst he
  pointwise

/-- An expert's column of the weights. -/
theorem slice_col (W : FVec Ideal S16384x8 .f32) (o : ℕ) (e : Fin 8) (he : e.val = o) (hs) :
    (extractStridedSlice S16384x1 ![0, o] W hs : FVec Ideal S16384x1 .f32) (ix2 r 0) = W (ix2 r e) := by
  subst he
  pointwise

/-- The scores. -/
theorem scores_apply (W : FVec Ideal S1024x8 .f32) (e : Fin 8) :
    (Host.dotGeneral dot_S16384x1024_S1024x8_S16384x8_1_0_0_1_n_n none hn W : FVec Ideal S16384x8 .f32) (ix2 r e)
      = scores (fun k => hn (ix2 r k)) (fun k e => W (ix2 k e)) e := by
  pointwise
  rfl

end experts

/-- Slices of one expert. -/
theorem fits_up (o : ℕ) (ho : o < 8) : S8x1024x3584.Slices ![o, 0, 0] S1x1024x3584 :=
  ⟨rfl, fun a => by
    fin_cases a
    · show o + 1 ≤ 8
      omega
    · exact le_refl _
    · exact le_refl _⟩

/-- Slices of one expert's down weights. -/
theorem fits_down (o : ℕ) (ho : o < 8) : S8x3584x1024.Slices ![o, 0, 0] S1x3584x1024 :=
  ⟨rfl, fun a => by
    fin_cases a
    · show o + 1 ≤ 8
      omega
    · exact le_refl _
    · exact le_refl _⟩

/-- One column. -/
theorem fits_col (o : ℕ) (ho : o < 8) : S16384x8.Slices ![0, o] S16384x1 :=
  ⟨rfl, fun a => by
    fin_cases a
    · exact le_refl _
    · show o + 1 ≤ 8
      omega⟩

section whole
variable (V0 : Valuation τ sig (Elt Ideal)) (r : Fin 16384)

/-- The activations. -/
abbrev rX : FVec Ideal S16384x1024 .f32 := V0 (Proc.devRef .tc main_arg0)
/-- The first norm's gains. -/
abbrev rG : FVec Ideal S1024 .f32 := V0 (Proc.devRef .tc main_arg1)
/-- The final norm's gains. -/
abbrev rF : FVec Ideal S1024 .f32 := V0 (Proc.devRef .tc main_arg2)
/-- The router's weights. -/
abbrev rW : FVec Ideal S1024x8 .f32 := V0 (Proc.devRef .tc main_arg3)
/-- The gate weights. -/
abbrev rWg : FVec Ideal S8x1024x3584 .f32 := V0 (Proc.devRef .tc main_arg4)
/-- The up weights. -/
abbrev rWu : FVec Ideal S8x1024x3584 .f32 := V0 (Proc.devRef .tc main_arg5)
/-- The down weights. -/
abbrev rWd : FVec Ideal S8x3584x1024 .f32 := V0 (Proc.devRef .tc main_arg6)

/-- The normed activations. -/
abbrev r12 : FVec Ideal S16384x1024 .f32 := res_main_v12 V0
/-- The scores. -/
abbrev r13 : FVec Ideal S16384x8 .f32 := res_main_v13 V0
/-- The two largest scores. -/
abbrev rV : FVec Ideal S16384x2 .f32 := res_main_values V0
/-- Their exponentials. -/
abbrev r20 : FVec Ideal S16384x2 .f32 := res_main_v20 V0
/-- The weights. -/
abbrev r29 : FVec Ideal S16384x8 .f32 := res_main_v29 V0
/-- The activations that enter the final norm. -/
abbrev r151 : FVec Ideal S16384x1024 .f32 := res_main_v151 V0

/-- The normed activations of a row. -/
theorem v12_apply (k : Fin 1024) : r12 V0 (ix2 r k) = norm (fun k => rX V0 (ix2 r k)) (fun k => rG V0 (Idealize.ShloMosaic.ix1 k)) k :=
  final_apply (rX V0) r k (rG V0)

/-- A row's scores. -/
theorem v13_apply (e : Fin 8) : r13 V0 (ix2 r e)
    = scores (norm (fun k => rX V0 (ix2 r k)) (fun k => rG V0 (Idealize.ShloMosaic.ix1 k))) (fun k e => rW V0 (ix2 k e)) e := by
  refine (scores_apply (r12 V0) r (rW V0) e).trans ?_
  rw [show (fun k => r12 V0 (ix2 r k)) = _ from funext (v12_apply V0 r)]

/-- A row's weights. -/
theorem v29_apply (a b : Fin 8) (l : Fin 8 → EReal) (hl : ∀ e, r13 V0 (ix2 r e) = l e)
    (hT : Top2 l a b) (hR : ∀ e, IsReal (l e)) (e : Fin 8) : r29 V0 (ix2 r e) = weight l a b e := by
  obtain ⟨⟨t0, t1⟩, i0, i1⟩ := topK_top2 (r13 V0) r sliceFits_S16384x8_S16384x2 a b (by simpa only [hl] using hT)
  rw [hl] at t0 t1
  have hf : Finset.fold max ⊥ (fun k : Fin 2 => rV V0 (ix2 r k)) Finset.univ = l a := by
    rw [fold_max_eq _ 0]
    · exact t0
    · intro j
      fin_cases j
      · exact le_refl _
      · exact le_of_eq_of_le t1 (le_of_le_of_eq (hT.max1 b) t0.symm)
  have he := fun j => exps_apply (rV V0) r j
  rw [hf, max_eq_right bot_le] at he
  obtain ⟨u, hu⟩ := hR a
  obtain ⟨v, hv⟩ := hR b
  have hexp : Ideal.exp (l b - l a) = ((Real.exp (v - u) : ℝ) : EReal) := by
    rw [hu, hv, ← EReal.coe_sub]
    rfl
  have e0 : r20 V0 (ix2 r 0) = 1 := by
    refine (he 0).trans ?_
    rw [show rV V0 (ix2 r 0) = l a from t0, hu, ← EReal.coe_sub, sub_self]
    show ((Real.exp 0 : ℝ) : EReal) = 1
    rw [Real.exp_zero]
    rfl
  have e1 : r20 V0 (ix2 r 1) = Ideal.exp (l b - l a) := by
    refine (he 1).trans ?_
    rw [show rV V0 (ix2 r 1) = l b from t1]
  have hs : (1 : EReal) + Ideal.exp (l b - l a) ≠ 0 := by
    rw [hexp, show (1 : EReal) = ((1 : ℝ) : EReal) from rfl, ← EReal.coe_add]
    have := Real.exp_pos (v - u)
    intro h0
    have h1 : (1 : ℝ) + Real.exp (v - u) = 0 := by exact_mod_cast h0
    linarith
  have hd : Ideal.div (Ideal.exp (l b - l a)) (1 + Ideal.exp (l b - l a)) = Ideal.exp (l b - l a) * Ideal.div 1 (1 + Ideal.exp (l b - l a)) := by
    unfold Ideal.div
    rw [if_neg hs, if_neg hs, one_mul]
  have hi : ∀ p q : Fin 8, FloatOps.uitofp (F := Ideal) .f32 (IntOp.cmpi .eq (BitVec.ofNat 32 p.val) (BitVec.ofNat 32 q.val)) = if q = p then (1 : EReal) else 0 := by
    intro p q
    have h1 : IntOp.cmpi .eq (BitVec.ofNat 32 p.val) (BitVec.ofNat 32 q.val) = if q = p then 1#1 else 0#1 := by
      revert p q
      decide
    rw [h1]
    split
    · show (((1#1 : BitVec 1).toNat : ℝ) : EReal) = 1
      norm_num
    · show (((0#1 : BitVec 1).toNat : ℝ) : EReal) = 0
      norm_num
  refine (weights_apply (r20 V0) (Host.topK S16384x2 1 (FloatOps.cmpfTotal .gt) (r13 V0) sliceFits_S16384x8_S16384x2).2 r e).trans ?_
  rw [Fin.sum_univ_two, Fin.sum_univ_two, e0, e1, i0, i1, hi, hi, hd]
  unfold weight
  by_cases h1 : e = a
  · rw [if_pos h1, if_pos h1, if_neg (h1 ▸ hT.ne.symm), zero_mul, one_mul, add_zero]
  · rw [if_neg h1, if_neg h1, zero_mul, zero_add]
    by_cases h2 : e = b
    · rw [if_pos h2, if_pos h2, one_mul]
    · rw [if_neg h2, if_neg h2, zero_mul]

/-- An expert's weighted output as the reference writes it. -/
def termOf (o : ℕ) (ho : o < 8) : FVec Ideal S16384x1024 .f32 :=
  mulf (broadcastInDim S16384x1024 ![0, 1] bcast_S16384x1_S16384x1024_0_1 (extractStridedSlice S16384x1 ![0, o] (r29 V0) (fits_col o ho))) (Host.dotGeneral dot_S16384x3584_S3584x1024_S16384x1024_1_0_0_1_n_n none (mulf (mulf (Host.dotGeneral dot_S16384x1024_S1024x3584_S16384x3584_1_0_0_1_n_n none (r12 V0) (shapeCast _ (extractStridedSlice S1x1024x3584 ![o, 0, 0] (rWg V0) (fits_up o ho)) shapeCasts_S1x1024x3584_S1024x3584)) (Host.divf (broadcastInDim S16384x3584 ![] bcast_S_S16384x3584 (constant S_ .f32 0x3F800000#32)) (addf (broadcastInDim S16384x3584 ![] bcast_S_S16384x3584 (constant S_ .f32 0x3F800000#32)) (Host.exp (Host.negf (Host.dotGeneral dot_S16384x1024_S1024x3584_S16384x3584_1_0_0_1_n_n none (r12 V0) (shapeCast _ (extractStridedSlice S1x1024x3584 ![o, 0, 0] (rWg V0) (fits_up o ho)) shapeCasts_S1x1024x3584_S1024x3584))))))) (Host.dotGeneral dot_S16384x1024_S1024x3584_S16384x3584_1_0_0_1_n_n none (r12 V0) (shapeCast _ (extractStridedSlice S1x1024x3584 ![o, 0, 0] (rWu V0) (fits_up o ho)) shapeCasts_S1x1024x3584_S1024x3584))) (shapeCast _ (extractStridedSlice S1x3584x1024 ![o, 0, 0] (rWd V0) (fits_down o ho)) shapeCasts_S1x3584x1024_S3584x1024))

/-- Its value on a row. -/
theorem termOf_apply (o : ℕ) (ho : o < 8) (d : Fin 1024) : termOf V0 o ho (ix2 r d) = r29 V0 (ix2 r (⟨o, ho⟩ : Fin 8))
    * ffn (fun k => r12 V0 (ix2 r k)) (fun k m => rWg V0 (ix3 (⟨o, ho⟩ : Fin 8) k m)) (fun k m => rWu V0 (ix3 (⟨o, ho⟩ : Fin 8) k m))
      (fun m d => rWd V0 (ix3 (⟨o, ho⟩ : Fin 8) m d)) d := by
  unfold termOf
  rw [expert_apply]
  simp only [slice_up _ o (⟨o, ho⟩ : Fin 8) rfl, slice_down _ o (⟨o, ho⟩ : Fin 8) rfl, slice_col _ _ o (⟨o, ho⟩ : Fin 8) rfl]

/-- The activations that enter the final norm. -/
theorem v151_apply (d : Fin 1024) : r151 V0 (ix2 r d) = rX V0 (ix2 r d)
    + ∑ e : Fin 8, r29 V0 (ix2 r e) * ffn (fun k => r12 V0 (ix2 r k))
      (fun k m => rWg V0 (ix3 e k m)) (fun k m => rWu V0 (ix3 e k m)) (fun m d => rWd V0 (ix3 e m d)) d := by
  have h0 : (broadcastInDim S16384x1024 ![] bcast_S_S16384x1024 (constant S_ .f32 0x00000000#32) : FVec Ideal S16384x1024 .f32) (ix2 r d) = 0 := by
    pointwise
  have h : r151 V0 (ix2 r d) = rX V0 (ix2 r d) + ((((((((broadcastInDim S16384x1024 ![] bcast_S_S16384x1024 (constant S_ .f32 0x00000000#32) : FVec Ideal S16384x1024 .f32) (ix2 r d)
      + termOf V0 0 (by decide) (ix2 r d)) + termOf V0 1 (by decide) (ix2 r d)) + termOf V0 2 (by decide) (ix2 r d)) + termOf V0 3 (by decide) (ix2 r d)) + termOf V0 4 (by decide) (ix2 r d))
      + termOf V0 5 (by decide) (ix2 r d)) + termOf V0 6 (by decide) (ix2 r d) + termOf V0 7 (by decide) (ix2 r d)) := by
    have hv : r151 V0 = addf (rX V0) (addf (addf (addf (addf (addf (addf (addf (addf (broadcastInDim S16384x1024 ![] bcast_S_S16384x1024 (constant S_ .f32 0x00000000#32))
      (termOf V0 0 (by decide))) (termOf V0 1 (by decide))) (termOf V0 2 (by decide))) (termOf V0 3 (by decide))) (termOf V0 4 (by decide))) (termOf V0 5 (by decide))) (termOf V0 6 (by decide))) (termOf V0 7 (by decide))) := by
      unfold r151 res_main_v151 res_main_v105 termOf
      exact rfl
    rw [hv]
    rfl
  rw [h, h0, zero_add]
  simp only [termOf_apply]
  rw [Fin.sum_univ_eight]
  rfl

/-- A row of the reference's result. -/
theorem reference_row (a b : Fin 8)
    (hT : Top2 (scores (norm (fun k => rX V0 (ix2 r k)) (fun k => rG V0 (Idealize.ShloMosaic.ix1 k))) (fun k e => rW V0 (ix2 k e))) a b)
    (hR : ∀ e, IsReal (scores (norm (fun k => rX V0 (ix2 r k)) (fun k => rG V0 (Idealize.ShloMosaic.ix1 k))) (fun k e => rW V0 (ix2 k e)) e)) (d : Fin 1024) :
    (mulf (mulf (res_main_v151 V0) (broadcastInDim S16384x1024 ![0, 1] bcast_S16384x1_S16384x1024_0_1 (Host.rsqrt (addf (Host.divf (broadcastInDim S16384x1 ![0] bcast_S16384_S16384x1_0 (Host.reduceAdd (mulf (res_main_v151 V0) (res_main_v151 V0)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (V0 (Proc.devRef .tc main_arg2)))) : FVec Ideal S16384x1024 .f32) (ix2 r d)
      = layer (fun k => rX V0 (ix2 r k)) (fun k => rG V0 (Idealize.ShloMosaic.ix1 k)) (fun k => rF V0 (Idealize.ShloMosaic.ix1 k)) (fun k e => rW V0 (ix2 k e))
        (fun e k m => rWg V0 (ix3 e k m)) (fun e k m => rWu V0 (ix3 e k m)) (fun e m d => rWd V0 (ix3 e m d)) a b d := by
  refine (final_apply (r151 V0) r d (rF V0)).trans ?_
  unfold layer
  simp only [v151_apply, v12_apply, v29_apply V0 r a b _ (v13_apply V0 r) hT hR]

end whole

end Cert.Moe

end

end
-- ==== Proof.Equal.lean ====
/- The kernel and the reference end with equal results. -/
module

public import proofs.«01_k».proof.Defs
public import proofs.«01_k».proof.Proof.Result
public import proofs.«01_k».proof.Proof.ReferenceValue
public import Idealize.ShloMosaic.Lib.ReduceAll

@[expose] public section

set_option maxRecDepth 16384

noncomputable section

namespace Cert.Moe

open Idealize.ShloMosaic Idealize.ShloMosaic.TcCoe Idealize.SL.Sem

/-- The precondition's operations have the shapes they need. -/
theorem pre_facts : Cert.Pre_router_finite.Facts where
  bcast_S_S1024 := by decide
  reducesTo_S1024_S_d0 := by decide
  h_S_ := by decide
  bcast_S_S1024x8 := by decide
  reducesTo_S1024x8_S_d0_1 := by decide

/-- A value below the upper infinity in absolute value is real. -/
theorem real_of_word (x : EReal) (h : BitVec.ofBool (decide (max x (-x) < Ideal.ofBits .f32 0x7F800000#32)) = 1#1) : IsReal x := by
  rw [word_top] at h
  refine IsReal.of_abs_lt ?_
  by_contra hn
  rw [decide_eq_false hn] at h
  exact absurd h (by decide)

/-- A conjunction of bits that is one has both bits one. -/
theorem and_one {x y : BitVec 1} (h : IntOp.andi x y = 1#1) : x = 1#1 ∧ y = 1#1 := by
  revert h
  revert x y
  decide

/-- Under the precondition the first norm's gains and the router's weights are real. -/
theorem real_of_pre [hP : Cert.Pre_router_finite.Facts] (a0 : FVec Ideal Pre_router_finite.S16384x1024 .f32) (a1 a2 : FVec Ideal Pre_router_finite.S1024 .f32)
    (a3 : FVec Ideal Pre_router_finite.S1024x8 .f32) (a4 a5 : FVec Ideal Pre_router_finite.S8x1024x3584 .f32) (a6 : FVec Ideal Pre_router_finite.S8x3584x1024 .f32)
    (h : Cert.Pre_router_finite.fn (F := Ideal) a0 a1 a2 a3 a4 a5 a6 = fun _ => 1#1) :
    (∀ i, IsReal (a1 i)) ∧ ∀ i, IsReal (a3 i) := by
  have hs : Subsingleton Pre_router_finite.S_.Idx := ⟨fun x y => funext fun a => absurd a.isLt (Nat.not_lt_zero _)⟩
  have h0 := and_one (congrFun h (Shape.Idx.first hP.h_S_))
  refine ⟨fun i => real_of_word _ ?_, fun i => real_of_word _ ?_⟩
  · exact Host.reduce_andi_all _ _ _ _ _ h0.1 i
  · exact Host.reduce_andi_all _ _ _ _ _ h0.2 i

/-- The kernel and the reference, over the extended reals, end with equal results. -/
theorem equal (hP : Cert.Pre_router_finite.Facts) :
    Cert.algebraic_KernelIdeal_ReferenceIdeal_pre_router_finite (hKernelIdeal := Cert.KernelIdeal.Gen.facts)
      (hReferenceIdeal := Cert.ReferenceIdeal.Gen.facts) (hPre_router_finite := hP) := by
  intro m g m' g' hpre hm
  refine ⟨fun c => KernelIdeal.Moe.result m c, (θ_run Cert.KernelIdeal.defs _ _).mono (fun _ h => h.1) (KernelIdeal.Moe.run_main (F := Ideal) m g),
    (θ_run Cert.ReferenceIdeal.defs _ _).mono (fun r h c => ⟨(h c).1.trans ?_, (h c).2⟩) (Cert.ReferenceIdeal.Value.run (F := Ideal) m' g')⟩
  obtain ⟨hg, hw⟩ := real_of_pre _ _ _ _ _ _ _ (hpre c)
  have hR : ∀ R e, IsReal (scores (hRow m c R) (rout m c) e) := fun R e => scores_isReal _ _ _ (fun k => hg _) (fun k e => hw _) e
  choose A B hT using fun R => top2_exists (scores (hRow m c R) (rout m c))
  obtain ⟨e0, e1, e2, e3, e4, e5, e6⟩ := hm c
  have x0 : rX (StableHlo.launchContents m' c) = KernelIdeal.Moe.inX m c := e0
  have x1 : rG (StableHlo.launchContents m' c) = KernelIdeal.Moe.inG m c := e1
  have x2 : rF (StableHlo.launchContents m' c) = KernelIdeal.Moe.inF m c := e2
  have x3 : rW (StableHlo.launchContents m' c) = KernelIdeal.Moe.inW m c := e3
  have x4 : rWg (StableHlo.launchContents m' c) = KernelIdeal.Moe.inWg m c := e4
  have x5 : rWu (StableHlo.launchContents m' c) = KernelIdeal.Moe.inWu m c := e5
  have x6 : rWd (StableHlo.launchContents m' c) = KernelIdeal.Moe.inWd m c := e6
  have hrow := fun R d => reference_row (StableHlo.launchContents m' c) R (A R) (B R)
    (by rw [x0, x1, x3]; exact hT R) (by rw [x0, x1, x3]; exact hR R) d
  refine funext fun y => ?_
  obtain ⟨R, d, rfl⟩ : ∃ (R : Fin 16384) (d : Fin 1024), y = ix2 R d := ⟨y 0, y 1, by funext a; fin_cases a <;> rfl⟩
  refine (hrow R d).trans (Eq.trans ?_ (result_row m c hR A B hT R d).symm)
  simp only [x0, x1, x2, x3, x4, x5, x6]

end Cert.Moe

end

end
-- ==== Proof.ProjBlock.lean ====
/- The input projection's blocks: what a grid point leaves in the output block and in the kept block of normed rows,
   and the whole array they make. -/
module

public import proofs.«01_k».proof.Proof.Gen.Kernel2Ideal.Frame
public import proofs.«01_k».proof.Proof.Spec
public import Idealize.ShloMosaic.Lib.Pipeline.Value
public import Idealize.ShloMosaic.Lib.Pointwise

@[expose] public section

set_option maxRecDepth 16384

noncomputable section

namespace Cert.Kernel2Ideal.Proj

open Cert.Kernel2Ideal Cert.Kernel2Ideal.Gen Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ)

/-- The offset of a whole block of two dimensions. -/
theorem zero2 : (![0, 0] : Fin 2 → Nat) = fun _ => 0 := funext fun a => by fin_cases a <;> rfl
/-- The offset of a whole block of three dimensions. -/
theorem zero3 : (![0, 0, 0] : Fin 3 → Nat) = fun _ => 0 := funext fun a => by fin_cases a <;> rfl

section block
variable (c : Dev nD) (i : grid0.Coords) (arg2 : Memref sig .tc .vmem S2048x1024 .f32) (harg2 : arg2.IsWhole)
  (arg3 : Memref sig .tc .vmem S1x1x1024 .f32) (harg3 : arg3.IsWhole) (arg4 : Memref sig .tc .vmem S1x1024x1152 .bf16) (harg4 : arg4.IsWhole)
  (arg5 : Memref sig .tc .vmem S1x1x1152 .f32) (harg5 : arg5.IsWhole) (arg6 : Memref sig .tc .vmem S2048x1152 .f32) (harg6 : arg6.IsWhole)
  (arg7 : Memref sig .tc .vmem S2048x1024 .bf16) (harg7 : arg7.IsWhole)
  (x0 : Vec F S2048x1024 .f32) (x1 : Vec F S1x1x1024 .f32) (x2 : Vec F S1x1024x1152 .bf16) (x3 : Vec F S1x1x1152 .f32) (xs0 : Vec F S2048x1024 .bf16)

/-- A first column block's output: the rows normed, times the weights, plus the bias. -/
theorem out_A (hc : cond0_0 i) :
    out0_A_4 c i arg2 harg2 arg3 harg3 arg4 harg4 arg5 harg5 arg6 harg6 arg7 harg7 hc x0 x1 x2 x3 = k0_pay2 (k0_pay1 x0 x1) x2 x3 := by
  unfold out0_A_4
  rw [View.read_writes_eq_canon _ _ _ (cover0_A_4 c i arg2 harg2 arg3 harg3 arg4 harg4 arg5 harg5 arg6 harg6 arg7 harg7 hc x0 x1 x2 x3)]
  unfold kernelRun0_A
  dsimp only
  sl_unfold_words
  rw [View.canon_unit_zero (S := S2048x1152) zero2, View.readCov_unit_zero (S := S2048x1024) _ zero2]
  simp only [View.readAt_eq_ld, harg2.read_unread, harg3.read_unread, harg4.read_unread, harg5.read_unread, View.ld_unit_zero (S := S2048x1024) zero2,
    View.ld_unit_zero (S := S1x1x1024) zero3, View.ld_unit_zero (S := S1x1024x1152) zero3, View.ld_unit_zero (S := S1x1x1152) zero3]

/-- A first column block leaves the normed rows. -/
theorem sout_A (hc : cond0_0 i) :
    sout0_A_0 c i arg2 harg2 arg3 harg3 arg4 harg4 arg5 harg5 arg6 harg6 arg7 harg7 hc x0 x1 x2 x3 = k0_pay1 x0 x1 := by
  unfold sout0_A_0
  rw [View.read_writes_eq_canon _ _ _ (scover0_A_0 c i arg2 harg2 arg3 harg3 arg4 harg4 arg5 harg5 arg6 harg6 arg7 harg7 hc x0 x1 x2 x3)]
  unfold kernelRun0_A
  dsimp only
  sl_unfold_words
  rw [View.canon_unit_zero (S := S2048x1024) zero2]
  simp only [View.readAt_eq_ld, harg2.read_unread, harg3.read_unread, View.ld_unit_zero (S := S2048x1024) zero2,
    View.ld_unit_zero (S := S1x1x1024) zero3]

/-- A later column block's output: the kept rows times the weights, plus the bias. -/
theorem out_B (hc : ¬cond0_0 i) :
    out0_B_4 c i arg2 harg2 arg3 harg3 arg4 harg4 arg5 harg5 arg6 harg6 arg7 harg7 hc x0 x1 x2 x3 xs0 = k0_pay2 xs0 x2 x3 := by
  unfold out0_B_4
  rw [View.read_writes_eq_canon _ _ _ (cover0_B_4 c i arg2 harg2 arg3 harg3 arg4 harg4 arg5 harg5 arg6 harg6 arg7 harg7 hc x0 x1 x2 x3 xs0)]
  unfold kernelRun0_B
  dsimp only
  sl_unfold_words
  rw [View.canon_unit_zero (S := S2048x1152) zero2]
  simp only [View.readAt_eq_ld, harg4.read_unread, harg5.read_unread, harg7.read_unread, View.ld_unit_zero (S := S2048x1024) zero2,
    View.ld_unit_zero (S := S1x1024x1152) zero3, View.ld_unit_zero (S := S1x1x1152) zero3]

end block

/-- Which block of each array a point reads or writes. -/
theorem idx0 : ∀ t : Fin cfg0.N, win0_0.index t (0 : Fin 2) = t.val / 9 ∧ win0_0.index t (1 : Fin 2) = 0 :=
  (by decide +kernel : ∀ t : Fin grid0.N, _)
/-- The block of gains at a step: the layer. -/
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
/-- The block of weights at a step: the layer and its column tile. -/
theorem idx2 : ∀ t : Fin cfg0.N, win0_2.index t (0 : Fin 3) = 0 ∧ win0_2.index t (1 : Fin 3) = 0 ∧ win0_2.index t (2 : Fin 3) = t.val % 9 :=
  (by decide +kernel : ∀ t : Fin grid0.N, _)
/-- The block of biases at a step: the layer and its column tile. -/
theorem idx3 : ∀ t : Fin cfg0.N, win0_3.index t (0 : Fin 3) = 0 ∧ win0_3.index t (1 : Fin 3) = 0 ∧ win0_3.index t (2 : Fin 3) = t.val % 9 :=
  (by decide +kernel : ∀ t : Fin grid0.N, _)
/-- The block of the output at a step. -/
theorem idx4 : ∀ t : Fin cfg0.N, win0_4.index t (0 : Fin 2) = t.val / 9 ∧ win0_4.index t (1 : Fin 2) = t.val % 9 :=
  (by decide +kernel : ∀ t : Fin grid0.N, _)

/-- A block of rows. -/
def rows (X : Vec F S16384x1024 .f32) (q : ℕ) (hq : q < 8) : Vec F S2048x1024 .f32 :=
  fun j => X (ix2 (⟨q * 2048 + (j 0).val, by have h : (j 0).val < 2048 := (j 0).isLt; omega⟩ : Fin 16384) (j 1 : Fin 1024))
/-- The gains of the layer. -/
def gains (X : Vec F S2x1x1024 .f32) : Vec F S1x1x1024 .f32 := fun j => X (ix3 (0 : Fin 2) (0 : Fin 1) (j 2 : Fin 1024))
/-- A block of columns of the layer's weights. -/
def cols (X : Vec F S2x1024x10368 .bf16) (q : ℕ) (hq : q < 9) : Vec F S1x1024x1152 .bf16 :=
  fun j => X (ix3 (0 : Fin 2) (j 1 : Fin 1024) (⟨q * 1152 + (j 2).val, by have h : (j 2).val < 1152 := (j 2).isLt; omega⟩ : Fin 10368))
/-- A block of columns of the layer's bias. -/
def biases (X : Vec F S2x1x10368 .f32) (q : ℕ) (hq : q < 9) : Vec F S1x1x1152 .f32 :=
  fun j => X (ix3 (0 : Fin 2) (0 : Fin 1) (⟨q * 1152 + (j 2).val, by have h : (j 2).val < 1152 := (j 2).isLt; omega⟩ : Fin 10368))

/-- There are 72 steps. -/
theorem lt72 (t : Fin cfg0.N) : t.val < 72 := lt_of_lt_of_eq t.isLt (show cfg0.N = 72 from N_0)
/-- The row tile is one of eight. -/
theorem lt8 (t : Fin cfg0.N) : t.val / 9 < 8 := by have := lt72 t; omega
/-- The column tile is one of nine. -/
theorem lt9 (t : Fin cfg0.N) : t.val % 9 < 9 := Nat.mod_lt _ (by decide)

/-- The rows that a step reads. -/
theorem blk0 (c : Dev nD) (t : Fin cfg0.N) : iblk m c 0 t = rows (V m c main_v0) (t.val / 9) (lt8 t) := by
  obtain ⟨e0, e1⟩ := idx0 t
  funext j
  show V m c main_v0 (((cfg0.win 0).blk t).view.emb j) = V m c main_v0 _
  congr 1
  funext a; apply Fin.ext
  match a with
  | ⟨0, _⟩ => show win0_0.index t (0 : Fin 2) * 2048 + 1 * (j 0).val = t.val / 9 * 2048 + (j 0).val; rw [e0]; omega
  | ⟨1, _⟩ => show win0_0.index t (1 : Fin 2) * 1024 + 1 * (j 1).val = (j 1).val; rw [e1]; omega

/-- The gains that a step reads. -/
theorem blk1 (c : Dev nD) (t : Fin cfg0.N) : iblk m c 1 t = gains (V m c main_v1) := by
  obtain ⟨e0, e1, e2⟩ := idx1 t
  funext j
  show V m c main_v1 (((cfg0.win 1).blk t).view.emb j) = V m c main_v1 _
  congr 1
  have h0 : (j 0).val < 1 := (j 0).isLt
  have h1 : (j 1).val < 1 := (j 1).isLt
  funext a; apply Fin.ext
  match a with
  | ⟨0, _⟩ => show win0_1.index t (0 : Fin 3) * 1 + 1 * (j 0).val = 0; rw [e0]; omega
  | ⟨1, _⟩ => show win0_1.index t (1 : Fin 3) * 1 + 1 * (j 1).val = 0; rw [e1]; omega
  | ⟨2, _⟩ => show win0_1.index t (2 : Fin 3) * 1024 + 1 * (j 2).val = (j 2).val; rw [e2]; omega

/-- The weights that a step reads. -/
theorem blk2 (c : Dev nD) (t : Fin cfg0.N) : iblk m c 2 t = cols (V m c main_v7) (t.val % 9) (lt9 t) := by
  obtain ⟨e0, e1, e2⟩ := idx2 t
  funext j
  show V m c main_v7 (((cfg0.win 2).blk t).view.emb j) = V m c main_v7 _
  congr 1
  have h0 : (j 0).val < 1 := (j 0).isLt
  funext a; apply Fin.ext
  match a with
  | ⟨0, _⟩ => show win0_2.index t (0 : Fin 3) * 1 + 1 * (j 0).val = 0; rw [e0]; omega
  | ⟨1, _⟩ => show win0_2.index t (1 : Fin 3) * 1024 + 1 * (j 1).val = (j 1).val; rw [e1]; omega
  | ⟨2, _⟩ => show win0_2.index t (2 : Fin 3) * 1152 + 1 * (j 2).val = t.val % 9 * 1152 + (j 2).val; rw [e2]; omega

/-- The biases that a step reads. -/
theorem blk3 (c : Dev nD) (t : Fin cfg0.N) : iblk m c 3 t = biases (V m c main_v13) (t.val % 9) (lt9 t) := by
  obtain ⟨e0, e1, e2⟩ := idx3 t
  funext j
  show V m c main_v13 (((cfg0.win 3).blk t).view.emb j) = V m c main_v13 _
  congr 1
  have h0 : (j 0).val < 1 := (j 0).isLt
  have h1 : (j 1).val < 1 := (j 1).isLt
  funext a; apply Fin.ext
  match a with
  | ⟨0, _⟩ => show win0_3.index t (0 : Fin 3) * 1 + 1 * (j 0).val = 0; rw [e0]; omega
  | ⟨1, _⟩ => show win0_3.index t (1 : Fin 3) * 1 + 1 * (j 1).val = 0; rw [e1]; omega
  | ⟨2, _⟩ => show win0_3.index t (2 : Fin 3) * 1152 + 1 * (j 2).val = t.val % 9 * 1152 + (j 2).val; rw [e2]; omega

/-- The normed rows kept for a row block. -/
abbrev kept (c : Dev nD) (q : ℕ) (hq : q < 8) : FVec F S2048x1024 .bf16 := k0_pay1 (rows (V m c main_v0) q hq) (gains (V m c main_v1))

/-- The kept rows depend on the row tile alone. -/
theorem kept_congr (c : Dev nD) {q q' : ℕ} (h : q = q') (hq : q < 8) (hq' : q' < 8) : kept m c q hq = kept m c q' hq' := by subst h; rfl

/-- The output of row block `q` and column block `p`. -/
def tile (c : Dev nD) (q : ℕ) (hq : q < 8) (p : ℕ) (hp : p < 9) : FVec F S2048x1152 .f32 :=
  k0_pay2 (kept m c q hq) (cols (V m c main_v7) p hp) (biases (V m c main_v13) p hp)

/-- The written tile depends on the two tiles alone. -/
theorem tile_congr (c : Dev nD) {q q' p p' : ℕ} (h : q = q') (h' : p = p') (hq : q < 8) (hq' : q' < 8) (hp : p < 9) (hp' : p' < 9) :
    tile m c q hq p hp = tile m c q' hq' p' hp' := by subst h; subst h'; rfl

/-- A later column block keeps the rows it finds. -/
theorem scratch_B (c : Dev nD) (t : Fin cfg0.N) (h0 : ¬t.val % 9 = 0) :
    (outsAt0 m c t.val t.isLt).2 = (outsAt0 m c (t.val - 1) (Nat.lt_of_le_of_lt (Nat.sub_le _ _) t.isLt)).2 := by
  rw [outsAt0_B m c t h0]
  dsimp only [sout0_B_0]

/-- A later column block's output over the rows it finds. -/
theorem block_B (c : Dev nD) (t : Fin cfg0.N) (h0 : ¬t.val % 9 = 0) :
    (outsAt0 m c t.val t.isLt).1
      = k0_pay2 (outsAt0 m c (t.val - 1) (Nat.lt_of_le_of_lt (Nat.sub_le _ _) t.isLt)).2 (iblk m c 2 t) (iblk m c 3 t) := by
  rw [outsAt0_B m c t h0]
  dsimp only
  rw [out_B]

/-- A first column block keeps its rows normed. -/
theorem scratch_A (c : Dev nD) (t : Fin cfg0.N) (h0 : t.val % 9 = 0) :
    (outsAt0 m c t.val t.isLt).2 = kept m c (t.val / 9) (lt8 t) := by
  rw [outsAt0_A m c t h0]
  dsimp only
  rw [sout_A, blk0, blk1]

/-- A first column block's output over its rows normed. -/
theorem block_A (c : Dev nD) (t : Fin cfg0.N) (h0 : t.val % 9 = 0) :
    (outsAt0 m c t.val t.isLt).1 = k0_pay2 (kept m c (t.val / 9) (lt8 t)) (iblk m c 2 t) (iblk m c 3 t) := by
  rw [outsAt0_A m c t h0]
  dsimp only
  rw [out_A, blk0, blk1]

/-- After every point the normed rows of its row block are kept. -/
theorem scratch (c : Dev nD) (n : ℕ) (hn : n < cfg0.N) : (outsAt0 m c n hn).2 = kept m c (n / 9) (lt8 ⟨n, hn⟩) := by
  induction n with
  | zero =>
    exact scratch_A m c ⟨0, hn⟩ rfl
  | succ n ih =>
    by_cases h0 : (n + 1) % 9 = 0
    · exact scratch_A m c ⟨n + 1, hn⟩ h0
    · refine (scratch_B m c ⟨n + 1, hn⟩ h0).trans ((ih (Nat.lt_of_succ_lt hn)).trans ?_)
      exact kept_congr m c (by omega) _ _

/-- What every point leaves in its output block. -/
theorem block (c : Dev nD) (t : Fin cfg0.N) : (outsAt0 m c t.val t.isLt).1 = tile m c (t.val / 9) (lt8 t) (t.val % 9) (lt9 t) := by
  unfold tile
  by_cases h0 : t.val % 9 = 0
  · rw [block_A m c t h0, blk2, blk3]
  · rw [block_B m c t h0, scratch, blk2, blk3, kept_congr m c (show (t.val - 1) / 9 = t.val / 9 by omega) _ (lt8 t)]

/-- The array of all blocks. -/
def whole (c : Dev nD) : Vec F S16384x10368 .f32 := fun y =>
  tile m c ((y 0).val / 2048) (by have h : (y 0).val < 16384 := (y 0).isLt; omega)
    ((y 1).val / 1152) (by have h : (y 1).val < 10368 := (y 1).isLt; omega)
    (ix2 (⟨(y 0).val % 2048, Nat.mod_lt _ (by decide)⟩ : Fin 2048) (⟨(y 1).val % 1152, Nat.mod_lt _ (by decide)⟩ : Fin 1152))

/-- A point writes back its block of the array of all blocks. -/
theorem flushed (c : Dev nD) (t : Fin cfg0.N) (_hf : (cfg0.win 4).flush t = true) :
    (dats m 0 c).flushed 4 t = ((cfg0.win 4).blk t).view.read (Elt F) (whole m c) := by
  show (cfg0.win 4).cut (grid0.coords t) ((dats m 0 c).after 4 t) = _
  rw [after0_4, block]
  obtain ⟨e0, e1⟩ := idx4 t
  funext j
  have h0 : (j 0).val < 2048 := (j 0).isLt
  have h1 : (j 1).val < 1152 := (j 1).isLt
  have g0 : (((cfg0.win 4).blk t).view.emb j 0).val = t.val / 9 * 2048 + (j 0).val := by
    show win0_4.index t (0 : Fin 2) * 2048 + 1 * (j 0).val = _; rw [e0]; omega
  have g1 : (((cfg0.win 4).blk t).view.emb j 1).val = t.val % 9 * 1152 + (j 1).val := by
    show win0_4.index t (1 : Fin 2) * 1152 + 1 * (j 1).val = _; rw [e1]; omega
  have d0 : (((cfg0.win 4).blk t).view.emb j 0).val / 2048 = t.val / 9 := by rw [g0]; omega
  have d1 : (((cfg0.win 4).blk t).view.emb j 1).val / 1152 = t.val % 9 := by rw [g1]; omega
  have r0 : (((cfg0.win 4).blk t).view.emb j 0).val % 2048 = (j 0).val := by rw [g0]; omega
  have r1 : (((cfg0.win 4).blk t).view.emb j 1).val % 1152 = (j 1).val := by rw [g1]; omega
  show tile m c _ _ _ _ j = whole m c (((cfg0.win 4).blk t).view.emb j)
  unfold whole
  have hj : (ix2 (⟨(((cfg0.win 4).blk t).view.emb j 0).val % 2048, Nat.mod_lt _ (by decide)⟩ : Fin 2048)
      (⟨(((cfg0.win 4).blk t).view.emb j 1).val % 1152, Nat.mod_lt _ (by decide)⟩ : Fin 1152) : S2048x1152.Idx) = j := by
    funext a; apply Fin.ext
    match a with
    | ⟨0, _⟩ => exact r0
    | ⟨1, _⟩ => exact r1
  rw [hj]
  exact congrFun (tile_congr m c d0.symm d1.symm _ _ _ _) j

/-- Where the block of a point lies. -/
theorem mem_blk (t : Fin cfg0.N) (i : S16384x10368.Idx) :
    i ∈ ((cfg0.win 4).blk t).view.set ↔ ∀ a : Fin 2, win0_4.index t a * S2048x1152.size a ≤ (i a).val ∧ (i a).val < win0_4.index t a * S2048x1152.size a + S2048x1152.size a := by
  show i ∈ ((View.whole main_v14).slice (win0_4.rect t)).set ↔ _
  rw [View.set_slice_whole, Rect.mem_set_unit]
  exact Iff.rfl

/-- Every point writes its block back. -/
theorem flushes : ∀ t : Fin cfg0.N, (cfg0.win 4).flush t = true := (by decide +kernel : ∀ t : Fin grid0.N, _)

/-- Every place of the array is in some point's block. -/
theorem final (c : Dev nD) : (dats m 0 c).arrAt 4 cfg0.N = whole m c :=
  (dats m 0 c).arrAt_eq_of_cover 4 _ (flushed m c) fun y => by
    have h0 : (y 0).val < 16384 := (y 0).isLt
    have h1 : (y 1).val < 10368 := (y 1).isLt
    have hlt : (y 0).val / 2048 * 9 + (y 1).val / 1152 < cfg0.N := by rw [show cfg0.N = 72 from N_0]; omega
    have e := idx4 ⟨_, hlt⟩
    refine ⟨⟨_, hlt⟩, flushes _, (mem_blk _ y).2 fun a => ?_⟩
    match a with
    | ⟨0, _⟩ =>
      show win0_4.index ⟨_, hlt⟩ (0 : Fin 2) * 2048 ≤ (y 0).val ∧ (y 0).val < win0_4.index ⟨_, hlt⟩ (0 : Fin 2) * 2048 + 2048
      rw [e.1]; dsimp only; omega
    | ⟨1, _⟩ =>
      show win0_4.index ⟨_, hlt⟩ (1 : Fin 2) * 1152 ≤ (y 1).val ∧ (y 1).val < win0_4.index ⟨_, hlt⟩ (1 : Fin 2) * 1152 + 1152
      rw [e.2]; dsimp only; omega

end Cert.Kernel2Ideal.Proj

end
-- ==== Proof.Projection.lean ====
/- The mathematics of the input projection: a row normed, times the weights, plus the bias. -/
module

public import proofs.«01_k».proof.Proof.Spec

@[expose] public section

noncomputable section

namespace Cert.Moe

open Idealize.ShloMosaic

/-- Column `n` of the projection of the row `(s, r)`. -/
def proj (x : Fin 2 → Fin 8192 → Fin 1024 → EReal) (g : Fin 1024 → EReal) (w : Fin 1024 → Fin 10256 → EReal) (b : Fin 10256 → EReal)
    (s : Fin 2) (r : Fin 8192) (n : Fin 10256) : EReal :=
  (∑ k, norm (x s r) g k * w k n) + b n

section parts
variable (P : Fin 2 → Fin 8192 → Fin 10256 → EReal)

/-- Eight heads of sixty-four columns from column `o` on. -/
def heads (o : ℕ) (ho : o + 512 ≤ 10256) : (⟨4, ![2, 8192, 8, 64]⟩ : Shape).Idx → EReal := fun y =>
  P (y 0) (y 1) ⟨o + ((y 2).val * 64 + (y 3).val), by
    have h2 : (y 2).val < 8 := (y 2).isLt
    have h3 : (y 3).val < 64 := (y 3).isLt
    omega⟩

/-- `n` columns from column `o` on. -/
def columns (n o : ℕ) (ho : o + n ≤ 10256) : (⟨3, ![2, 8192, n]⟩ : Shape).Idx → EReal := fun y =>
  P (y 0) (y 1) ⟨o + (y 2).val, by have h2 : (y 2).val < n := (y 2).isLt; omega⟩

/-- The last three rows of the columns that are convolved. -/
def lastRows : (⟨3, ![2, 3, 3072]⟩ : Shape).Idx → EReal := fun y =>
  P (y 0) ⟨8189 + (y 1).val, by have h1 : (y 1).val < 3 := (y 1).isLt; omega⟩ ⟨3072 + (y 2).val, by have h2 : (y 2).val < 3072 := (y 2).isLt; omega⟩

end parts

end Cert.Moe

end
-- ==== Proof.ProjEntry.lean ====
/- What the kernel's input projection computes, place by place. -/
module

public import proofs.«01_k».proof.Proof.ProjBlock
public import proofs.«01_k».proof.Proof.Projection

@[expose] public section

set_option maxRecDepth 2048

noncomputable section

namespace Cert.Kernel2Ideal.Proj

open Cert.Kernel2Ideal Cert.Kernel2Ideal.Gen Idealize.ShloMosaic Idealize.ShloMosaic.TcCoe Idealize.ShloMosaic.Tactic Idealize.SL.Sem
open Idealize.ShloMosaic.StableHlo

/-- A place of a block's output. -/
theorem pay_apply (X : Vec Ideal S2048x1024 .f32) (G : Vec Ideal S1x1x1024 .f32) (W : Vec Ideal S1x1024x1152 .bf16) (B : Vec Ideal S1x1x1152 .f32)
    (i : Fin 2048) (j : Fin 1152) :
    k0_pay2 (k0_pay1 X G) W B (ix2 i j)
      = (∑ k, Cert.Moe.norm (fun k => X (ix2 i k)) (fun k => G (ix3 (0 : Fin 1) (0 : Fin 1) k)) k * W (ix3 (0 : Fin 1) k j)) + B (ix3 (0 : Fin 1) (0 : Fin 1) j) := by
  pointwise [k0_pay2, k0_pay1]
  rfl

section entry
variable {F : FTy → Type} [FloatOps F] (m : (ℓ : Loc nD τ sig) → Buf (Elt F) ℓ) (c : Dev nD)

/-- The activations. -/
abbrev inX : FVec F S2x8192x1024 .f32 := m ((c : Thread nD τ).loc main_arg0)
/-- The gains. -/
abbrev inG : FVec F S2x1024 .f32 := m ((c : Thread nD τ).loc main_arg1)
/-- The weights. -/
abbrev inW : FVec F S2x1024x10256 .f32 := m ((c : Thread nD τ).loc main_arg2)
/-- The bias. -/
abbrev inB : FVec F S2x10256 .f32 := m ((c : Thread nD τ).loc main_arg3)

/-- The activations that enter the launch. -/
theorem entry_x : V m c main_v0 = (shapeCast S16384x1024 (inX m c) shapeCasts_S2x8192x1024_S16384x1024 : FVec F S16384x1024 .f32) := by
  show StableHlo.after hostOps0 _ _ = _
  after_results
  rfl
/-- The gains that enter the launch. -/
theorem entry_g : V m c main_v1 = (broadcastInDim S2x1x1024 ![0, 2] bcast_S2x1024_S2x1x1024_0_2 (inG m c) : FVec F S2x1x1024 .f32) := by
  show StableHlo.after hostOps0 _ _ = _
  after_results
/-- The weights that enter the launch: columns in the order main, gates, beta and decay, zeros. -/
theorem entry_w : V m c main_v7 = (concatenate S2x1024x10368 2 [⟨S2x1024x7168, extractStridedSlice S2x1024x7168 ![0, 0, 0] (truncf .bf16 (inW m c) bitsLt_bf16_f32) slices_S2x1024x10256_S2x1024x7168_0_0_0⟩,
    ⟨S2x1024x3072, extractStridedSlice S2x1024x3072 ![0, 0, 7184] (truncf .bf16 (inW m c) bitsLt_bf16_f32) slices_S2x1024x10256_S2x1024x3072_0_0_7184⟩,
    ⟨S2x1024x16, extractStridedSlice S2x1024x16 ![0, 0, 7168] (truncf .bf16 (inW m c) bitsLt_bf16_f32) slices_S2x1024x10256_S2x1024x16_0_0_7168⟩,
    ⟨S2x1024x112, broadcastInDim S2x1024x112 ![] bcast_S_S2x1024x112 (constant S_ .bf16 0x0000#16)⟩] concatenates_S2x1024x7168_S2x1024x3072_S2x1024x16_S2x1024x112_S2x1024x10368_d2 : FVec F S2x1024x10368 .bf16) := by
  show StableHlo.after hostOps0 _ _ = _
  after_results
  rfl
/-- The biases that enter the launch, in the same order. -/
theorem entry_b : V m c main_v13 = (broadcastInDim S2x1x10368 ![0, 2] bcast_S2x10368_S2x1x10368_0_2 (concatenate S2x10368 1 [⟨S2x7168, extractStridedSlice S2x7168 ![0, 0] (inB m c) slices_S2x10256_S2x7168_0_0⟩,
    ⟨S2x3072, extractStridedSlice S2x3072 ![0, 7184] (inB m c) slices_S2x10256_S2x3072_0_7184⟩,
    ⟨S2x16, extractStridedSlice S2x16 ![0, 7168] (inB m c) slices_S2x10256_S2x16_0_7168⟩,
    ⟨S2x112, broadcastInDim S2x112 ![] bcast_S_S2x112 (constant S_ .f32 0x00000000#32)⟩] concatenates_S2x7168_S2x3072_S2x16_S2x112_S2x10368_d1) : FVec F S2x1x10368 .f32) := by
  show StableHlo.after hostOps0 _ _ = _
  after_results
  rfl

end entry

end Cert.Kernel2Ideal.Proj

end
-- ==== Proof.ProjValue.lean ====
/- What the kernel's input projection computes, place by place. -/
module

public import proofs.«01_k».proof.Proof.ProjEntry
public import proofs.«01_k».proof.Proof.Projection

@[expose] public section

set_option maxRecDepth 2048

noncomputable section

namespace Cert.Kernel2Ideal.Proj

open Cert.Kernel2Ideal Cert.Kernel2Ideal.Gen Idealize.ShloMosaic Idealize.ShloMosaic.TcCoe Idealize.ShloMosaic.Tactic Idealize.SL.Sem
open Idealize.ShloMosaic.StableHlo

section value
variable (m : (ℓ : Loc nD τ sig) → Buf (Elt Ideal) ℓ) (c : Dev nD)

/-- A place of the whole array over what the launch is entered with. -/
theorem whole_apply (R : Fin 16384) (n : Fin 10368) :
    whole m c (ix2 R n) = (∑ k, Cert.Moe.norm (fun k => (V m c main_v0 : FVec Ideal S16384x1024 .f32) (ix2 R k)) (fun k => (V m c main_v1 : FVec Ideal S2x1x1024 .f32) (ix3 (0 : Fin 2) (0 : Fin 1) k)) k
      * (V m c main_v7 : FVec Ideal S2x1024x10368 .bf16) (ix3 (0 : Fin 2) k n)) + (V m c main_v13 : FVec Ideal S2x1x10368 .f32) (ix3 (0 : Fin 2) (0 : Fin 1) n) := by
  refine (pay_apply _ _ _ _ _ _).trans ?_
  have hR : (⟨R.val / 2048 * 2048 + R.val % 2048, by omega⟩ : Fin 16384) = R := Fin.ext (Nat.div_add_mod' _ _)
  have hn : (⟨n.val / 1152 * 1152 + n.val % 1152, by omega⟩ : Fin 10368) = n := Fin.ext (Nat.div_add_mod' _ _)
  have e0 : ∀ k : Fin 1024, rows (V m c main_v0) (R.val / 2048) (by omega) (ix2 (⟨R.val % 2048, Nat.mod_lt _ (by decide)⟩ : Fin 2048) k)
      = (V m c main_v0 : FVec Ideal S16384x1024 .f32) (ix2 R k) := fun k => congrArg (fun q => (V m c main_v0 : FVec Ideal S16384x1024 .f32) (ix2 q k)) hR
  have e2 : ∀ k : Fin 1024, cols (V m c main_v7) (n.val / 1152) (by omega) (ix3 (0 : Fin 1) k (⟨n.val % 1152, Nat.mod_lt _ (by decide)⟩ : Fin 1152))
      = (V m c main_v7 : FVec Ideal S2x1024x10368 .bf16) (ix3 (0 : Fin 2) k n) := fun k => congrArg (fun q => (V m c main_v7 : FVec Ideal S2x1024x10368 .bf16) (ix3 (0 : Fin 2) k q)) hn
  have e3 : biases (V m c main_v13) (n.val / 1152) (by omega) (ix3 (0 : Fin 1) (0 : Fin 1) (⟨n.val % 1152, Nat.mod_lt _ (by decide)⟩ : Fin 1152))
      = (V m c main_v13 : FVec Ideal S2x1x10368 .f32) (ix3 (0 : Fin 2) (0 : Fin 1) n) := congrArg (fun q => (V m c main_v13 : FVec Ideal S2x1x10368 .f32) (ix3 (0 : Fin 2) (0 : Fin 1) q)) hn
  exact congrArg₂ (· + ·) (Finset.sum_congr rfl fun k _ => congrArg₂ (· * ·) (congrArg (fun f => Cert.Moe.norm f _ k) (funext e0)) (e2 k)) e3

/-- The column of the arguments a column of the launch is taken from. -/
def source (n : Fin 10368) (hn : n.val < 10256) : Fin 10256 :=
  if n.val < 7168 then ⟨n.val, hn⟩ else if h : n.val < 10240 then ⟨n.val + 16, by omega⟩ else ⟨n.val - 3072, by omega⟩

/-- A main column lies where it lay. -/
theorem source_main (n : Fin 10368) (hn : n.val < 10256) (h : n.val < 7168) : source n hn = ⟨n.val, hn⟩ := if_pos h
/-- A gate column lies 16 further on. -/
theorem source_gates (n : Fin 10368) (hn : n.val < 10256) (h : 7168 ≤ n.val) (h' : n.val < 10240) : source n hn = ⟨n.val + 16, by omega⟩ :=
  (if_neg (by omega)).trans (dif_pos h')
/-- A beta or decay column lies 3072 further back. -/
theorem source_beta (n : Fin 10368) (hn : n.val < 10256) (h : 10240 ≤ n.val) : source n hn = ⟨n.val - 3072, by omega⟩ :=
  (if_neg (by omega)).trans (dif_neg (by omega))

/-- A weight that enters the launch is one of the given weights. -/
theorem weight_apply (k : Fin 1024) (n : Fin 10368) (hn : n.val < 10256) :
    (V m c main_v7 : FVec Ideal S2x1024x10368 .bf16) (ix3 (0 : Fin 2) k n) = inW m c (ix3 (0 : Fin 2) k (source n hn)) := by
  rw [entry_w]
  pointwise
  by_cases h1 : n.val < 7168
  · rw [dif_pos h1, source_main n hn h1]
  · rw [dif_neg h1]
    by_cases h2 : n.val - 7168 < 3072
    · rw [dif_pos h2, source_gates n hn (by omega) (by omega)]
      exact congrArg (fun q => inW m c (ix3 (0 : Fin 2) k q)) (Fin.ext (by dsimp only; omega))
    · rw [dif_neg h2, dif_pos (by omega), source_beta n hn (by omega)]
      exact congrArg (fun q => inW m c (ix3 (0 : Fin 2) k q)) (Fin.ext (by dsimp only; omega))

/-- A bias that enters the launch is one of the given biases. -/
theorem bias_apply (n : Fin 10368) (hn : n.val < 10256) :
    (V m c main_v13 : FVec Ideal S2x1x10368 .f32) (ix3 (0 : Fin 2) (0 : Fin 1) n) = inB m c (ix2 (0 : Fin 2) (source n hn)) := by
  rw [entry_b]
  pointwise
  by_cases h1 : n.val < 7168
  · rw [dif_pos h1, source_main n hn h1]
  · rw [dif_neg h1]
    by_cases h2 : n.val - 7168 < 3072
    · rw [dif_pos h2, source_gates n hn (by omega) (by omega)]
      exact congrArg (fun q => inB m c (ix2 (0 : Fin 2) q)) (Fin.ext (by dsimp only; omega))
    · rw [dif_neg h2, dif_pos (by omega), source_beta n hn (by omega)]
      exact congrArg (fun q => inB m c (ix2 (0 : Fin 2) q)) (Fin.ext (by dsimp only; omega))

/-- The projection as a table. -/
abbrev table : Fin 2 → Fin 8192 → Fin 10256 → EReal :=
  Cert.Moe.proj (fun s r k => inX m c (ix3 s r k)) (fun k => inG m c (ix2 (0 : Fin 2) k)) (fun k n => inW m c (ix3 (0 : Fin 2) k n)) (fun n => inB m c (ix2 (0 : Fin 2) n))

/-- A place of the whole array over the arguments. -/
theorem whole_table (s : Fin 2) (r : Fin 8192) (n : Fin 10368) (hn : n.val < 10256) :
    whole m c (ix2 (⟨s.val * 8192 + r.val, by omega⟩ : Fin 16384) n) = table m c s r (source n hn) := by
  rw [whole_apply]
  have e0 : ∀ k : Fin 1024, (V m c main_v0 : FVec Ideal S16384x1024 .f32) (ix2 (⟨s.val * 8192 + r.val, by omega⟩ : Fin 16384) k) = inX m c (ix3 s r k) := fun k => by
    rw [entry_x]
    pointwise
  have e1 : ∀ k : Fin 1024, (V m c main_v1 : FVec Ideal S2x1x1024 .f32) (ix3 (0 : Fin 2) (0 : Fin 1) k) = inG m c (ix2 (0 : Fin 2) k) := fun k => by
    rw [entry_g]
    pointwise
  simp only [e0, e1, weight_apply m c _ n hn, bias_apply m c n hn]
  rfl

end value

end Cert.Kernel2Ideal.Proj

end
-- ==== Proof.ProjResult.lean ====
/- The results of the kernel's input projection, as parts of one table. -/
module

public import proofs.«01_k».proof.Proof.ProjValue

@[expose] public section

set_option maxRecDepth 2048

noncomputable section

namespace Cert.Kernel2Ideal.Proj

open Cert.Kernel2Ideal Cert.Kernel2Ideal.Gen Idealize.ShloMosaic Idealize.ShloMosaic.TcCoe Idealize.ShloMosaic.Tactic Idealize.SL.Sem
open Idealize.ShloMosaic.StableHlo

section lines
variable {F : FTy → Type} [FloatOps F] (X : Valuation τ sig (Elt F))

/-- The array with its rows split by sequence. -/
def wide (U : FVec F S16384x10368 .f32) : FVec F S2x8192x10368 .f32 := shapeCast S2x8192x10368 U shapeCasts_S16384x10368_S2x8192x10368

/-- The keys, from the array. -/
def part_k (U : FVec F S16384x10368 .f32) : FVec F S2x8192x8x64 .f32 := shapeCast S2x8192x8x64 (extractStridedSlice S2x8192x512 ![0, 0, 2048] (wide U) slices_S2x8192x10368_S2x8192x512_0_0_2048) shapeCasts_S2x8192x512_S2x8192x8x64

/-- The keys, read from the array after the launch. -/
theorem tail_k : StableHlo.after hostOps1 X (Proc.devRef .tc main_v17) = part_k (X (Proc.devRef .tc main_v14) : FVec F S16384x10368 .f32) := by
  after_results
  rfl

/-- The values, from the array. -/
def part_v (U : FVec F S16384x10368 .f32) : FVec F S2x8192x8x64 .f32 := shapeCast S2x8192x8x64 (extractStridedSlice S2x8192x512 ![0, 0, 2560] (wide U) slices_S2x8192x10368_S2x8192x512_0_0_2560) shapeCasts_S2x8192x512_S2x8192x8x64

/-- The values, read from the array after the launch. -/
theorem tail_v : StableHlo.after hostOps1 X (Proc.devRef .tc main_v19) = part_v (X (Proc.devRef .tc main_v14) : FVec F S16384x10368 .f32) := by
  after_results
  rfl

/-- The last rows of the convolved columns, from the array. -/
def part_c (U : FVec F S16384x10368 .f32) : FVec F S2x3x3072 .f32 := extractStridedSlice S2x3x3072 ![0, 8189, 3072] (wide U) slices_S2x8192x10368_S2x3x3072_0_8189_3072

/-- The last rows of the delta rule's columns, read from the array after the launch. -/
theorem tail_c : StableHlo.after hostOps1 X (Proc.devRef .tc main_v20) = part_c (X (Proc.devRef .tc main_v14) : FVec F S16384x10368 .f32) := by
  after_results
  rfl

/-- The columns before the gates, from the array. -/
def part_main (U : FVec F S16384x10368 .f32) : FVec F S2x8192x7168 .f32 := extractStridedSlice S2x8192x7168 ![0, 0, 0] (wide U) slices_S2x8192x10368_S2x8192x7168_0_0_0

/-- The main columns, read from the array after the launch. -/
theorem tail_main : StableHlo.after hostOps1 X (Proc.devRef .tc main_v21) = part_main (X (Proc.devRef .tc main_v14) : FVec F S16384x10368 .f32) := by
  after_results
  rfl

/-- The gates, from the array. -/
def part_gates (U : FVec F S16384x10368 .f32) : FVec F S2x8192x3072 .f32 := extractStridedSlice S2x8192x3072 ![0, 0, 7168] (wide U) slices_S2x8192x10368_S2x8192x3072_0_0_7168

/-- The merge gates, read from the array after the launch. -/
theorem tail_gates : StableHlo.after hostOps1 X (Proc.devRef .tc main_v22) = part_gates (X (Proc.devRef .tc main_v14) : FVec F S16384x10368 .f32) := by
  after_results
  rfl

/-- The steps and decays, from the array. -/
def part_beta (U : FVec F S16384x10368 .f32) : FVec F S2x8192x16 .f32 := extractStridedSlice S2x8192x16 ![0, 0, 10240] (wide U) slices_S2x8192x10368_S2x8192x16_0_0_10240

/-- The beta and decay columns, read from the array after the launch. -/
theorem tail_beta : StableHlo.after hostOps1 X (Proc.devRef .tc main_v23) = part_beta (X (Proc.devRef .tc main_v14) : FVec F S16384x10368 .f32) := by
  after_results
  rfl

end lines

section value
variable (m : (ℓ : Loc nD τ sig) → Buf (Elt Ideal) ℓ) (c : Dev nD)

/-- A place of the array with its rows split. -/
theorem wide_table (s : Fin 2) (r : Fin 8192) (n : Fin 10368) (hn : n.val < 10256) :
    wide (whole m c) (ix3 s r n) = table m c s r (source n hn) := by
  refine Eq.trans ?_ (whole_table m c s r n hn)
  unfold wide
  pointwise

/-- The array as the later lines find it. -/
theorem found : (Pipeline.withArrays (cfgs 0).spec c (V0 m c) fun w => (dats m 0 c).arrAt w (cfgs 0).N) (Proc.devRef .tc main_v14) = whole m c :=
  (Pipeline.withArrays_arr spec0 launch0.win.arr_inj c (V0 m c) (fun w => (dats m 0 c).arrAt w cfg0.N) 4).trans (final m c)

/-- The keys are those of the table. -/
theorem value_k : part_k (whole m c) = Cert.Moe.heads (table m c) 2048 (by decide) := by
  funext y
  obtain ⟨s, r, h, d, rfl⟩ : ∃ s r h d, y = ix4 s r h d := ⟨y 0, y 1, y 2, y 3, by funext a; fin_cases a <;> rfl⟩
  have h1 := wide_table m c s r (⟨2048 + (h.val * 64 + d.val), by omega⟩ : Fin 10368) (by have := h.isLt; have := d.isLt; dsimp only; omega)
  rw [source_main _ (by have := h.isLt; have := d.isLt; dsimp only; omega) (by have := h.isLt; have := d.isLt; dsimp only; omega)] at h1
  refine Eq.trans ?_ (h1.trans (congrArg (table m c s _) (Fin.ext rfl)))
  unfold part_k
  generalize wide (whole m c) = Z
  pointwise

/-- The keys at the end of the run. -/
theorem end_k : Pipeline.afterTail₀ cfgs (dats m) 0 (V0 m) [hostOps1] c main_v17 = Cert.Moe.heads (table m c) 2048 (by decide) := by
  refine (tail_k _).trans ?_
  rw [found]
  exact value_k m c

/-- The values are those of the table. -/
theorem value_v : part_v (whole m c) = Cert.Moe.heads (table m c) 2560 (by decide) := by
  funext y
  obtain ⟨s, r, h, d, rfl⟩ : ∃ s r h d, y = ix4 s r h d := ⟨y 0, y 1, y 2, y 3, by funext a; fin_cases a <;> rfl⟩
  have h1 := wide_table m c s r (⟨2560 + (h.val * 64 + d.val), by omega⟩ : Fin 10368) (by have := h.isLt; have := d.isLt; dsimp only; omega)
  rw [source_main _ (by have := h.isLt; have := d.isLt; dsimp only; omega) (by have := h.isLt; have := d.isLt; dsimp only; omega)] at h1
  refine Eq.trans ?_ (h1.trans (congrArg (table m c s _) (Fin.ext rfl)))
  unfold part_v
  generalize wide (whole m c) = Z
  pointwise

/-- The values at the end of the run. -/
theorem end_v : Pipeline.afterTail₀ cfgs (dats m) 0 (V0 m) [hostOps1] c main_v19 = Cert.Moe.heads (table m c) 2560 (by decide) := by
  refine (tail_v _).trans ?_
  rw [found]
  exact value_v m c

/-- The last rows of the delta rule's columns are those of the table. -/
theorem value_c : part_c (whole m c) = Cert.Moe.lastRows (table m c) := by
  funext y
  obtain ⟨s, r, d, rfl⟩ : ∃ s r d, y = ix3 s r d := ⟨y 0, y 1, y 2, by funext a; fin_cases a <;> rfl⟩
  have h1 := wide_table m c s ⟨8189 + r.val, by omega⟩ (⟨3072 + d.val, by omega⟩ : Fin 10368) (by have := d.isLt; dsimp only; omega)
  rw [source_main _ (by have := d.isLt; dsimp only; omega) (by have := d.isLt; dsimp only; omega)] at h1
  refine Eq.trans ?_ (h1.trans (congrArg (table m c s _) (Fin.ext rfl)))
  unfold part_c
  generalize wide (whole m c) = Z
  pointwise

/-- The last rows of the delta rule's columns at the end of the run. -/
theorem end_c : Pipeline.afterTail₀ cfgs (dats m) 0 (V0 m) [hostOps1] c main_v20 = Cert.Moe.lastRows (table m c) := by
  refine (tail_c _).trans ?_
  rw [found]
  exact value_c m c

/-- The main columns are those of the table. -/
theorem value_main : part_main (whole m c) = Cert.Moe.columns (table m c) 7168 0 (by decide) := by
  funext y
  obtain ⟨s, r, d, rfl⟩ : ∃ s r d, y = ix3 s r d := ⟨y 0, y 1, y 2, by funext a; fin_cases a <;> rfl⟩
  have h1 := wide_table m c s r (⟨d.val, by omega⟩ : Fin 10368) (by have := d.isLt; dsimp only; omega)
  rw [source_main _ (by have := d.isLt; dsimp only; omega) (by have := d.isLt; dsimp only; omega)] at h1
  refine Eq.trans ?_ (h1.trans (congrArg (table m c s _) (Fin.ext (by show d.val = 0 + d.val; omega))))
  unfold part_main
  generalize wide (whole m c) = Z
  pointwise

/-- The main columns at the end of the run. -/
theorem end_main : Pipeline.afterTail₀ cfgs (dats m) 0 (V0 m) [hostOps1] c main_v21 = Cert.Moe.columns (table m c) 7168 0 (by decide) := by
  refine (tail_main _).trans ?_
  rw [found]
  exact value_main m c

/-- The merge gates are those of the table. -/
theorem value_gates : part_gates (whole m c) = Cert.Moe.columns (table m c) 3072 7184 (by decide) := by
  funext y
  obtain ⟨s, r, d, rfl⟩ : ∃ s r d, y = ix3 s r d := ⟨y 0, y 1, y 2, by funext a; fin_cases a <;> rfl⟩
  have h1 := wide_table m c s r (⟨7168 + d.val, by omega⟩ : Fin 10368) (by have := d.isLt; dsimp only; omega)
  rw [source_gates _ (by have := d.isLt; dsimp only; omega) (by have := d.isLt; dsimp only; omega) (by have := d.isLt; dsimp only; omega)] at h1
  refine Eq.trans ?_ (h1.trans (congrArg (table m c s _) (Fin.ext (by show 7168 + d.val + 16 = 7184 + d.val; omega))))
  unfold part_gates
  generalize wide (whole m c) = Z
  pointwise

/-- The merge gates at the end of the run. -/
theorem end_gates : Pipeline.afterTail₀ cfgs (dats m) 0 (V0 m) [hostOps1] c main_v22 = Cert.Moe.columns (table m c) 3072 7184 (by decide) := by
  refine (tail_gates _).trans ?_
  rw [found]
  exact value_gates m c

/-- The beta and decay columns are those of the table. -/
theorem value_beta : part_beta (whole m c) = Cert.Moe.columns (table m c) 16 7168 (by decide) := by
  funext y
  obtain ⟨s, r, d, rfl⟩ : ∃ s r d, y = ix3 s r d := ⟨y 0, y 1, y 2, by funext a; fin_cases a <;> rfl⟩
  have h1 := wide_table m c s r (⟨10240 + d.val, by omega⟩ : Fin 10368) (by have := d.isLt; dsimp only; omega)
  rw [source_beta _ (by have := d.isLt; dsimp only; omega) (by have := d.isLt; dsimp only; omega)] at h1
  refine Eq.trans ?_ (h1.trans (congrArg (table m c s _) (Fin.ext (by show 10240 + d.val - 3072 = 7168 + d.val; omega))))
  unfold part_beta
  generalize wide (whole m c) = Z
  pointwise

/-- The beta and decay columns at the end of the run. -/
theorem end_beta : Pipeline.afterTail₀ cfgs (dats m) 0 (V0 m) [hostOps1] c main_v23 = Cert.Moe.columns (table m c) 16 7168 (by decide) := by
  refine (tail_beta _).trans ?_
  rw [found]
  exact value_beta m c

end value

end Cert.Kernel2Ideal.Proj

end
-- ==== Proof.ProjReference.lean ====
/- What the reference's input projection computes, place by place. -/
module

public import proofs.«01_k».proof.Proof.Projection
public import proofs.«01_k».proof.Proof.Gen.Reference2Ideal.Run
public import Idealize.ShloMosaic.Lib.Pointwise

@[expose] public section

set_option maxRecDepth 16384

noncomputable section

namespace Cert.Reference2Ideal.Proj

open Idealize.ShloMosaic Idealize.SL.Sem Cert.Reference2Ideal Cert.Reference2Ideal.Facts₀ Cert.Reference2Ideal.Value

section terms
variable (x : FVec Ideal S2x8192x1024 .f32) (g : FVec Ideal S2x1024 .f32) (w : FVec Ideal S2x1024x10256 .f32) (b : FVec Ideal S2x10256 .f32)

/-- The normed rows. -/
def normed : FVec Ideal S2x8192x1024 .f32 :=
  (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast S1024 (extractStridedSlice S1x1024 ![0, 0] g slices_S2x1024_S1x1024_0_0) shapeCasts_S1x1024_S1024))))

/-- The projection of every row. -/
def all : FVec Ideal S2x8192x10256 .f32 :=
  addf (Host.dotGeneral dot_S2x8192x1024_S1024x10256_S2x8192x10256_2_0_01_1_n_n none (normed x g) (shapeCast S1024x10256 (extractStridedSlice S1x1024x10256 ![0, 0, 0] w slices_S2x1024x10256_S1x1024x10256_0_0_0) shapeCasts_S1x1024x10256_S1024x10256)) (broadcastInDim S2x8192x10256 ![0, 1, 2] bcast_S1x1x10256_S2x8192x10256_0_1_2 (broadcastInDim S1x1x10256 ![2] bcast_S10256_S1x1x10256_2 (shapeCast S10256 (extractStridedSlice S1x10256 ![0, 0] b slices_S2x10256_S1x10256_0_0) shapeCasts_S1x10256_S10256)))

/-- A normed activation. -/
theorem normed_apply (s : Fin 2) (r : Fin 8192) (k : Fin 1024) :
    normed x g (ix3 s r k) = Cert.Moe.norm (fun k => x (ix3 s r k)) (fun k => g (ix2 (0 : Fin 2) k)) k := by
  pointwise [normed]
  rfl

/-- An entry of the reference's projection. -/
theorem all_apply (s : Fin 2) (r : Fin 8192) (n : Fin 10256) :
    all x g w b (ix3 s r n) = Cert.Moe.proj (fun s r k => x (ix3 s r k)) (fun k => g (ix2 (0 : Fin 2) k)) (fun k n => w (ix3 (0 : Fin 2) k n))
      (fun n => b (ix2 (0 : Fin 2) n)) s r n := by
  pointwise [all, normed_apply]
  rfl

/-- The projection as a table. -/
abbrev table : Fin 2 → Fin 8192 → Fin 10256 → EReal :=
  Cert.Moe.proj (fun s r k => x (ix3 s r k)) (fun k => g (ix2 (0 : Fin 2) k)) (fun k n => w (ix3 (0 : Fin 2) k n)) (fun n => b (ix2 (0 : Fin 2) n))

/-- The keys of the reference are those of its table. -/
theorem part_k : (shapeCast S2x8192x8x64 (extractStridedSlice S2x8192x512 ![0, 0, 2048] (extractStridedSlice S2x8192x7168 ![0, 0, 0] (all x g w b) slices_S2x8192x10256_S2x8192x7168_0_0_0) slices_S2x8192x7168_S2x8192x512_0_0_2048) shapeCasts_S2x8192x512_S2x8192x8x64 : FVec Ideal S2x8192x8x64 .f32)
      = Cert.Moe.heads (table x g w b) 2048 (by decide) := by
  funext y
  obtain ⟨s, r, h, d, rfl⟩ : ∃ s r h d, y = ix4 s r h d := ⟨y 0, y 1, y 2, y 3, by funext a; fin_cases a <;> rfl⟩
  refine Eq.trans ?_ (all_apply x g w b s r _)
  pointwise
  try rfl

/-- The values of the reference are those of its table. -/
theorem part_v : (shapeCast S2x8192x8x64 (extractStridedSlice S2x8192x512 ![0, 0, 2560] (extractStridedSlice S2x8192x7168 ![0, 0, 0] (all x g w b) slices_S2x8192x10256_S2x8192x7168_0_0_0) slices_S2x8192x7168_S2x8192x512_0_0_2560) shapeCasts_S2x8192x512_S2x8192x8x64 : FVec Ideal S2x8192x8x64 .f32)
      = Cert.Moe.heads (table x g w b) 2560 (by decide) := by
  funext y
  obtain ⟨s, r, h, d, rfl⟩ : ∃ s r h d, y = ix4 s r h d := ⟨y 0, y 1, y 2, y 3, by funext a; fin_cases a <;> rfl⟩
  refine Eq.trans ?_ (all_apply x g w b s r _)
  pointwise
  try rfl

/-- The last rows of the delta rule's columns of the reference are those of its table. -/
theorem part_c : (extractStridedSlice S2x3x3072 ![0, 8189, 0] (extractStridedSlice S2x8192x3072 ![0, 0, 3072] (extractStridedSlice S2x8192x7168 ![0, 0, 0] (all x g w b) slices_S2x8192x10256_S2x8192x7168_0_0_0) slices_S2x8192x7168_S2x8192x3072_0_0_3072) slices_S2x8192x3072_S2x3x3072_0_8189_0 : FVec Ideal S2x3x3072 .f32)
      = Cert.Moe.lastRows (table x g w b) := by
  funext y
  obtain ⟨s, r, d, rfl⟩ : ∃ s r d, y = ix3 s r d := ⟨y 0, y 1, y 2, by funext a; fin_cases a <;> rfl⟩
  refine Eq.trans ?_ (all_apply x g w b s _ _)
  pointwise
  try rfl

/-- The main columns of the reference are those of its table. -/
theorem part_main : (extractStridedSlice S2x8192x7168 ![0, 0, 0] (all x g w b) slices_S2x8192x10256_S2x8192x7168_0_0_0 : FVec Ideal S2x8192x7168 .f32)
      = Cert.Moe.columns (table x g w b) 7168 0 (by decide) := by
  funext y
  obtain ⟨s, r, d, rfl⟩ : ∃ s r d, y = ix3 s r d := ⟨y 0, y 1, y 2, by funext a; fin_cases a <;> rfl⟩
  refine Eq.trans ?_ (all_apply x g w b s r _)
  pointwise
  try simp only [Nat.zero_add]

/-- The merge gates of the reference are those of its table. -/
theorem part_gates : (extractStridedSlice S2x8192x3072 ![0, 0, 7184] (all x g w b) slices_S2x8192x10256_S2x8192x3072_0_0_7184 : FVec Ideal S2x8192x3072 .f32)
      = Cert.Moe.columns (table x g w b) 3072 7184 (by decide) := by
  funext y
  obtain ⟨s, r, d, rfl⟩ : ∃ s r d, y = ix3 s r d := ⟨y 0, y 1, y 2, by funext a; fin_cases a <;> rfl⟩
  refine Eq.trans ?_ (all_apply x g w b s r _)
  pointwise
  try rfl

/-- The beta and decay columns of the reference are those of its table. -/
theorem part_beta : (extractStridedSlice S2x8192x16 ![0, 0, 7168] (all x g w b) slices_S2x8192x10256_S2x8192x16_0_0_7168 : FVec Ideal S2x8192x16 .f32)
      = Cert.Moe.columns (table x g w b) 16 7168 (by decide) := by
  funext y
  obtain ⟨s, r, d, rfl⟩ : ∃ s r d, y = ix3 s r d := ⟨y 0, y 1, y 2, by funext a; fin_cases a <;> rfl⟩
  refine Eq.trans ?_ (all_apply x g w b s r _)
  pointwise
  try rfl

end terms

end Cert.Reference2Ideal.Proj

end
-- ==== Proof.ProjEqual.lean ====
/- The kernel's and the reference's input projections end with equal results. -/
module

public import proofs.«01_k».proof.Proof.ProjResult
public import proofs.«01_k».proof.Proof.ProjReference
public import proofs.«01_k».proof.Defs

@[expose] public section

set_option maxRecDepth 2048

noncomputable section

namespace Cert.Kernel2Ideal.Proj

open Cert.Kernel2Ideal Cert.Kernel2Ideal.Gen Idealize.ShloMosaic Idealize.ShloMosaic.TcCoe Idealize.SL.Sem

/-- A buffer that is no array of the launch, after the run. -/
theorem rest (m : (ℓ : Loc nD τ sig) → Buf (Elt Ideal) ℓ) (r : PUnit × MemSt nD τ sig (Elt Ideal))
    (h : Pipeline.FramePost cfgs (dats m) 0 (Pipeline.afterTail₀ cfgs (dats m) 0 (V0 m) [hostOps1]) r) (c : Dev nD) (b : Ref sig .tc)
    (h1 : b ∈ Pipeline.restRefs sig spec0) :
    r.2.mem ((c.tc : Thread nD τ).loc b) = Pipeline.afterTail₀ cfgs (dats m) 0 (V0 m) [hostOps1] c b := (h c).2 b h1

/-- The kernel's run, each result a part of the table. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v17) = Cert.Moe.heads (table m c) 2048 (by decide)
      ∧ r.2.mem ((c.tc : Thread nD τ).loc main_v19) = Cert.Moe.heads (table m c) 2560 (by decide)
      ∧ r.2.mem ((c.tc : Thread nD τ).loc main_v20) = Cert.Moe.lastRows (table m c)
      ∧ r.2.mem ((c.tc : Thread nD τ).loc main_v21) = Cert.Moe.columns (table m c) 7168 0 (by decide)
      ∧ r.2.mem ((c.tc : Thread nD τ).loc main_v22) = Cert.Moe.columns (table m c) 3072 7184 (by decide)
      ∧ r.2.mem ((c.tc : Thread nD τ).loc main_v23) = Cert.Moe.columns (table m c) 16 7168 (by decide)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨(rest m r h c main_v17 (Pipeline.mem_restRefs_of main_v17 (by decide) (by decide))).trans (end_k m c),
      (rest m r h c main_v19 (Pipeline.mem_restRefs_of main_v19 (by decide) (by decide))).trans (end_v m c),
      (rest m r h c main_v20 (Pipeline.mem_restRefs_of main_v20 (by decide) (by decide))).trans (end_c m c),
      (rest m r h c main_v21 (Pipeline.mem_restRefs_of main_v21 (by decide) (by decide))).trans (end_main m c),
      (rest m r h c main_v22 (Pipeline.mem_restRefs_of main_v22 (by decide) (by decide))).trans (end_gates m c),
      (rest m r h c main_v23 (Pipeline.mem_restRefs_of main_v23 (by decide) (by decide))).trans (end_beta m c),
      (rest m r h c main_arg0 (Pipeline.mem_restRefs_of main_arg0 (by decide) (by decide))).trans (W_main_arg0 m (dats m) c),
      (rest m r h c main_arg1 (Pipeline.mem_restRefs_of main_arg1 (by decide) (by decide))).trans (W_main_arg1 m (dats m) c),
      (rest m r h c main_arg2 (Pipeline.mem_restRefs_of main_arg2 (by decide) (by decide))).trans (W_main_arg2 m (dats m) c),
      (rest m r h c main_arg3 (Pipeline.mem_restRefs_of main_arg3 (by decide) (by decide))).trans (W_main_arg3 m (dats m) c)⟩)
    (run_main (F := Ideal) m g)

/-- The kernel and the reference, over the extended reals, end with equal results. -/
theorem equal : Cert.algebraic_Kernel2Ideal_Reference2Ideal (hKernel2Ideal := Cert.Kernel2Ideal.Gen.facts)
    (hReference2Ideal := Cert.Reference2Ideal.Gen.facts) := by
  intro m g m' g' _ hm
  have ht : ∀ c : Dev nD, Cert.Reference2Ideal.Proj.table (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3)) = table m c := fun c => by
    obtain ⟨e0, e1, e2, e3⟩ := hm c
    rw [e0, e1, e2, e3]
  refine ⟨fun c => Cert.Moe.heads (table m c) 2048 (by decide), fun c => Cert.Moe.heads (table m c) 2560 (by decide), fun c => Cert.Moe.lastRows (table m c),
    fun c => Cert.Moe.columns (table m c) 7168 0 (by decide), fun c => Cert.Moe.columns (table m c) 3072 7184 (by decide),
    fun c => Cert.Moe.columns (table m c) 16 7168 (by decide), run m g,
    (θ_run Cert.Reference2Ideal.defs _ _).mono (fun r h c => ?_) (Cert.Reference2Ideal.Value.run (F := Ideal) m' g')⟩
  obtain ⟨h0, h1, h2, h3, h4, h5, ha⟩ := h c
  exact ⟨h0.trans ((Cert.Reference2Ideal.Proj.part_k _ _ _ _).trans (congrArg (fun z => Cert.Moe.heads z 2048 (by decide)) (ht c))),
    h1.trans ((Cert.Reference2Ideal.Proj.part_v _ _ _ _).trans (congrArg (fun z => Cert.Moe.heads z 2560 (by decide)) (ht c))),
    h2.trans ((Cert.Reference2Ideal.Proj.part_c _ _ _ _).trans (congrArg (fun z => Cert.Moe.lastRows z) (ht c))),
    h3.trans ((Cert.Reference2Ideal.Proj.part_main _ _ _ _).trans (congrArg (fun z => Cert.Moe.columns z 7168 0 (by decide)) (ht c))),
    h4.trans ((Cert.Reference2Ideal.Proj.part_gates _ _ _ _).trans (congrArg (fun z => Cert.Moe.columns z 3072 7184 (by decide)) (ht c))),
    h5.trans ((Cert.Reference2Ideal.Proj.part_beta _ _ _ _).trans (congrArg (fun z => Cert.Moe.columns z 16 7168 (by decide)) (ht c))), ha⟩

end Cert.Kernel2Ideal.Proj

end
-- ==== Proof.DenseBlock.lean ====
/- The dense feed-forward's blocks: what a grid point leaves in the output block, in the kept block of normed rows and in
   the running sum, and the whole array they make. -/
module

public import proofs.«01_k».proof.Proof.Gen.Kernel3Ideal.Frame
public import proofs.«01_k».proof.Proof.Spec
public import Idealize.ShloMosaic.Lib.Pipeline.Value
public import Idealize.ShloMosaic.Lib.Pipeline.ValueKit.Basic
public import Idealize.ShloMosaic.Lib.Pointwise

@[expose] public section

set_option maxRecDepth 16384

noncomputable section

namespace Cert.Kernel3Ideal.Dense

open Cert.Kernel3Ideal Cert.Kernel3Ideal.Gen Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ)

/-- The offset of a whole block of two dimensions. -/
theorem zero2 : (![0, 0] : Fin 2 → Nat) = fun _ => 0 := funext fun a => by fin_cases a <;> rfl

section block
variable (c : Dev nD) (i : grid0.Coords) (arg2 : Memref sig .tc .vmem S1024x1024 .f32) (harg2 : arg2.IsWhole)
  (arg3 : Memref sig .tc .vmem S1x1024 .f32) (harg3 : arg3.IsWhole) (arg4 : Memref sig .tc .vmem S1x1024 .f32) (harg4 : arg4.IsWhole)
  (arg5 : Memref sig .tc .vmem S1024x1408 .bf16) (harg5 : arg5.IsWhole) (arg6 : Memref sig .tc .vmem S1024x1408 .bf16) (harg6 : arg6.IsWhole)
  (arg7 : Memref sig .tc .vmem S1408x1024 .bf16) (harg7 : arg7.IsWhole) (arg8 : Memref sig .tc .vmem S1024x1024 .f32) (harg8 : arg8.IsWhole)
  (arg9 : Memref sig .tc .vmem S1024x1024 .bf16) (harg9 : arg9.IsWhole) (arg10 : Memref sig .tc .vmem S1024x1024 .f32) (harg10 : arg10.IsWhole)
  (x0 : Vec F S1024x1024 .f32) (x1 : Vec F S1x1024 .f32) (x2 : Vec F S1x1024 .f32) (x3 : Vec F S1024x1408 .bf16) (x4 : Vec F S1024x1408 .bf16)
  (x5 : Vec F S1408x1024 .bf16) (xs0 : Vec F S1024x1024 .bf16) (xs1 : Vec F S1024x1024 .f32)

/-- The first half of the hidden width leaves the normed rows. -/
theorem rows_A (hc0 : cond0_0 i) (hc1 : ¬cond0_1 i) :
    sout0_A_0 c i arg2 harg2 arg3 harg3 arg4 harg4 arg5 harg5 arg6 harg6 arg7 harg7 arg8 harg8 arg9 harg9 arg10 harg10 hc0 hc1 x0 x1 x2 x3 x4 x5 = k0_pay1 x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_unit_zero (S := S1024x1024) zero2]
  simp only [View.readAt_eq_ld, harg2.read_unread, harg3.read_unread, View.ld_unit_zero (S := S1024x1024) zero2,
    View.ld_unit_zero (S := S1x1024) zero2]

/-- The first half of the hidden width leaves its share of the sum. -/
theorem sum_A (hc0 : cond0_0 i) (hc1 : ¬cond0_1 i) :
    sout0_A_1 c i arg2 harg2 arg3 harg3 arg4 harg4 arg5 harg5 arg6 harg6 arg7 harg7 arg8 harg8 arg9 harg9 arg10 harg10 hc0 hc1 x0 x1 x2 x3 x4 x5
      = k0_pay3 (k0_pay1 x0 x1) x3 x4 k0_pay2 x5 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1024x1024) zero2]
  simp only [View.readCov_unit_zero (S := S1024x1024) _ zero2, View.readAt_eq_ld, harg2.read_unread, harg3.read_unread, harg5.read_unread,
    harg6.read_unread, harg7.read_unread, View.ld_unit_zero (S := S1024x1024) zero2,
    View.ld_unit_zero (S := S1x1024) zero2, View.ld_unit_zero (S := S1024x1408) zero2, View.ld_unit_zero (S := S1408x1024) zero2]

/-- The second half's output: its rows, plus the sum it finds and its own share. -/
theorem out_B (hc0 : ¬cond0_0 i) (hc1 : cond0_1 i) :
    out0_B_6 c i arg2 harg2 arg3 harg3 arg4 harg4 arg5 harg5 arg6 harg6 arg7 harg7 arg8 harg8 arg9 harg9 arg10 harg10 hc0 hc1 x0 x1 x2 x3 x4 x5 xs0 xs1
      = k0_pay4 (k0_pay3 xs0 x3 x4 xs1 x5) x0 := by
  unfold out0_B_6
  rw [View.read_writes_eq_canon _ _ _ (cover0_B_6 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero (S := S1024x1024) zero2]
  simp only [View.readCov_unit_zero (S := S1024x1024) _ zero2, View.readAt_eq_ld, harg2.read_unread, harg5.read_unread,
    harg6.read_unread, harg7.read_unread, harg9.read_unread, harg10.read_unread, View.ld_unit_zero (S := S1024x1024) zero2,
    View.ld_unit_zero (S := S1024x1408) zero2, View.ld_unit_zero (S := S1408x1024) zero2]

end block

/-- The block of activations at a step: its rows. -/
theorem idx0 : ∀ t : Fin cfg0.N, win0_0.index t (0 : Fin 2) = t.val / 2 ∧ win0_0.index t (1 : Fin 2) = 0 :=
  (by decide +kernel : ∀ t : Fin grid0.N, _)
/-- The block of gains at a step: all of them. -/
theorem idx1 : ∀ t : Fin cfg0.N, win0_1.index t (0 : Fin 2) = 0 ∧ win0_1.index t (1 : Fin 2) = 0 :=
  (by decide +kernel : ∀ t : Fin grid0.N, _)
/-- The block of gate weights at a step: its half of the columns. -/
theorem idx3 : ∀ t : Fin cfg0.N, win0_3.index t (0 : Fin 2) = 0 ∧ win0_3.index t (1 : Fin 2) = t.val % 2 :=
  (by decide +kernel : ∀ t : Fin grid0.N, _)
/-- The block of up weights at a step: its half of the columns. -/
theorem idx4 : ∀ t : Fin cfg0.N, win0_4.index t (0 : Fin 2) = 0 ∧ win0_4.index t (1 : Fin 2) = t.val % 2 :=
  (by decide +kernel : ∀ t : Fin grid0.N, _)
/-- The block of down weights at a step: its half of the rows. -/
theorem idx5 : ∀ t : Fin cfg0.N, win0_5.index t (0 : Fin 2) = t.val % 2 ∧ win0_5.index t (1 : Fin 2) = 0 :=
  (by decide +kernel : ∀ t : Fin grid0.N, _)
/-- The block of the output at a step: its rows. -/
theorem idx6 : ∀ t : Fin cfg0.N, win0_6.index t (0 : Fin 2) = t.val / 2 ∧ win0_6.index t (1 : Fin 2) = 0 :=
  (by decide +kernel : ∀ t : Fin grid0.N, _)

/-- A block of rows. -/
def rows (X : Vec F S16384x1024 .f32) (q : ℕ) (hq : q < 16) : Vec F S1024x1024 .f32 :=
  fun j => X (ix2 (⟨q * 1024 + (j 0).val, by have h : (j 0).val < 1024 := (j 0).isLt; omega⟩ : Fin 16384) (j 1 : Fin 1024))
/-- Half of the hidden width's columns. -/
def cols (X : Vec F S1024x2816 .bf16) (q : ℕ) (hq : q < 2) : Vec F S1024x1408 .bf16 :=
  fun j => X (ix2 (j 0 : Fin 1024) (⟨q * 1408 + (j 1).val, by have h : (j 1).val < 1408 := (j 1).isLt; omega⟩ : Fin 2816))
/-- Half of the hidden width's rows. -/
def downs (X : Vec F S2816x1024 .bf16) (q : ℕ) (hq : q < 2) : Vec F S1408x1024 .bf16 :=
  fun j => X (ix2 (⟨q * 1408 + (j 0).val, by have h : (j 0).val < 1408 := (j 0).isLt; omega⟩ : Fin 2816) (j 1 : Fin 1024))

/-- There are 32 steps. -/
theorem lt32 (t : Fin cfg0.N) : t.val < 32 := lt_of_lt_of_eq t.isLt (show cfg0.N = 32 from N_0)
/-- The row tile is one of sixteen. -/
theorem lt16 (t : Fin cfg0.N) : t.val / 2 < 16 := by have := lt32 t; omega
/-- The half is one of two. -/
theorem lt2 (t : Fin cfg0.N) : t.val % 2 < 2 := Nat.mod_lt _ (by decide)

/-- The rows that a step reads. -/
theorem blk0 (c : Dev nD) (t : Fin cfg0.N) (q : ℕ) (hq : q < 16) (e : t.val / 2 = q) : iblk m c 0 t = rows (V m c main_arg0) q hq := by
  subst e
  obtain ⟨e0, e1⟩ := idx0 t
  funext j
  show V m c main_arg0 (((cfg0.win 0).blk t).view.emb j) = V m c main_arg0 _
  congr 1
  funext a; apply Fin.ext
  match a with
  | ⟨0, _⟩ => show win0_0.index t (0 : Fin 2) * 1024 + 1 * (j 0).val = t.val / 2 * 1024 + (j 0).val; rw [e0]; omega
  | ⟨1, _⟩ => show win0_0.index t (1 : Fin 2) * 1024 + 1 * (j 1).val = (j 1).val; rw [e1]; omega

/-- The gains that a step reads. -/
theorem blk1 (c : Dev nD) (t : Fin cfg0.N) : iblk m c 1 t = V m c main_v0 := by
  obtain ⟨e0, e1⟩ := idx1 t
  funext j
  show V m c main_v0 (((cfg0.win 1).blk t).view.emb j) = V m c main_v0 j
  congr 1
  funext a; apply Fin.ext
  match a with
  | ⟨0, _⟩ => show win0_1.index t (0 : Fin 2) * 1 + 1 * (j 0).val = (j 0).val; rw [e0]; omega
  | ⟨1, _⟩ => show win0_1.index t (1 : Fin 2) * 1024 + 1 * (j 1).val = (j 1).val; rw [e1]; omega

/-- The gate weights that a step reads. -/
theorem blk3 (c : Dev nD) (t : Fin cfg0.N) (q : ℕ) (hq : q < 2) (e : t.val % 2 = q) : iblk m c 3 t = cols (V m c main_v2) q hq := by
  subst e
  obtain ⟨e0, e1⟩ := idx3 t
  funext j
  show V m c main_v2 (((cfg0.win 3).blk t).view.emb j) = V m c main_v2 _
  congr 1
  funext a; apply Fin.ext
  match a with
  | ⟨0, _⟩ => show win0_3.index t (0 : Fin 2) * 1024 + 1 * (j 0).val = (j 0).val; rw [e0]; omega
  | ⟨1, _⟩ => show win0_3.index t (1 : Fin 2) * 1408 + 1 * (j 1).val = t.val % 2 * 1408 + (j 1).val; rw [e1]; omega

/-- The up weights that a step reads. -/
theorem blk4 (c : Dev nD) (t : Fin cfg0.N) (q : ℕ) (hq : q < 2) (e : t.val % 2 = q) : iblk m c 4 t = cols (V m c main_v3) q hq := by
  subst e
  obtain ⟨e0, e1⟩ := idx4 t
  funext j
  show V m c main_v3 (((cfg0.win 4).blk t).view.emb j) = V m c main_v3 _
  congr 1
  funext a; apply Fin.ext
  match a with
  | ⟨0, _⟩ => show win0_4.index t (0 : Fin 2) * 1024 + 1 * (j 0).val = (j 0).val; rw [e0]; omega
  | ⟨1, _⟩ => show win0_4.index t (1 : Fin 2) * 1408 + 1 * (j 1).val = t.val % 2 * 1408 + (j 1).val; rw [e1]; omega

/-- The down weights that a step reads. -/
theorem blk5 (c : Dev nD) (t : Fin cfg0.N) (q : ℕ) (hq : q < 2) (e : t.val % 2 = q) : iblk m c 5 t = downs (V m c main_v4) q hq := by
  subst e
  obtain ⟨e0, e1⟩ := idx5 t
  funext j
  show V m c main_v4 (((cfg0.win 5).blk t).view.emb j) = V m c main_v4 _
  congr 1
  funext a; apply Fin.ext
  match a with
  | ⟨0, _⟩ => show win0_5.index t (0 : Fin 2) * 1408 + 1 * (j 0).val = t.val % 2 * 1408 + (j 0).val; rw [e0]; omega
  | ⟨1, _⟩ => show win0_5.index t (1 : Fin 2) * 1024 + 1 * (j 1).val = (j 1).val; rw [e1]; omega

/-- The normed rows of a row tile. -/
abbrev kept (c : Dev nD) (q : ℕ) (hq : q < 16) : FVec F S1024x1024 .bf16 := k0_pay1 (rows (V m c main_arg0) q hq) (V m c main_v0)

/-- The first half's share of a row tile's sum. -/
abbrev half (c : Dev nD) (q : ℕ) (hq : q < 16) : FVec F S1024x1024 .f32 :=
  k0_pay3 (kept m c q hq) (cols (V m c main_v2) 0 (by decide)) (cols (V m c main_v3) 0 (by decide)) k0_pay2 (downs (V m c main_v4) 0 (by decide))

/-- The output of a row tile. -/
def tile (c : Dev nD) (q : ℕ) (hq : q < 16) : FVec F S1024x1024 .f32 :=
  k0_pay4 (k0_pay3 (kept m c q hq) (cols (V m c main_v2) 1 (by decide)) (cols (V m c main_v3) 1 (by decide)) (half m c q hq) (downs (V m c main_v4) 1 (by decide)))
    (rows (V m c main_arg0) q hq)

/-- The output depends on the row tile alone. -/
theorem tile_congr (c : Dev nD) {q q' : ℕ} (h : q = q') (hq : q < 16) (hq' : q' < 16) : tile m c q hq = tile m c q' hq' := by subst h; rfl

/-- The rows kept after the first half. -/
theorem kept_A (c : Dev nD) (t : Fin cfg0.N) (h0 : t.val % 2 = 0) (q : ℕ) (hq : q < 16) (e : t.val / 2 = q) :
    (outsAt0 m c t.val t.isLt).2.1 = kept m c q hq := by
  rw [outsAt0_A m c t h0 (by omega)]
  dsimp only
  rw [rows_A, blk0 m c t q hq e, blk1]

/-- The sum after the first half. -/
theorem half_A (c : Dev nD) (t : Fin cfg0.N) (h0 : t.val % 2 = 0) (q : ℕ) (hq : q < 16) (e : t.val / 2 = q) :
    (outsAt0 m c t.val t.isLt).2.2 = half m c q hq := by
  rw [outsAt0_A m c t h0 (by omega)]
  dsimp only
  rw [sum_A, blk0 m c t q hq e, blk1, blk3 m c t 0 (by decide) h0, blk4 m c t 0 (by decide) h0, blk5 m c t 0 (by decide) h0]

/-- The output block after the second half, over what it finds. -/
theorem block_B (c : Dev nD) (t : Fin cfg0.N) (h1 : t.val % 2 = 1) :
    (outsAt0 m c t.val t.isLt).1
      = k0_pay4 (k0_pay3 (outsAt0 m c (t.val - 1) (Nat.lt_of_le_of_lt (Nat.sub_le _ _) t.isLt)).2.1 (iblk m c 3 t) (iblk m c 4 t)
          (outsAt0 m c (t.val - 1) (Nat.lt_of_le_of_lt (Nat.sub_le _ _) t.isLt)).2.2 (iblk m c 5 t)) (iblk m c 0 t) := by
  rw [outsAt0_B m c t (by omega) h1]
  dsimp only
  rw [out_B]

/-- The output block after the second half. -/
theorem block (c : Dev nD) (t : Fin cfg0.N) (h1 : t.val % 2 = 1) : (outsAt0 m c t.val t.isLt).1 = tile m c (t.val / 2) (lt16 t) := by
  have hs : t.val - 1 < cfg0.N := Nat.lt_of_le_of_lt (Nat.sub_le _ _) t.isLt
  have ea := kept_A m c ⟨t.val - 1, hs⟩ (show (t.val - 1) % 2 = 0 by omega) (t.val / 2) (lt16 t) (show (t.val - 1) / 2 = t.val / 2 by omega)
  have eb := half_A m c ⟨t.val - 1, hs⟩ (show (t.val - 1) % 2 = 0 by omega) (t.val / 2) (lt16 t) (show (t.val - 1) / 2 = t.val / 2 by omega)
  dsimp only at ea eb
  rw [block_B m c t h1, ea, eb, blk0 m c t _ (lt16 t) rfl, blk3 m c t 1 (by decide) h1, blk4 m c t 1 (by decide) h1, blk5 m c t 1 (by decide) h1]
  rfl

/-- The array of all blocks. -/
def whole (c : Dev nD) : Vec F S16384x1024 .f32 := fun y =>
  tile m c ((y 0).val / 1024) (by have h : (y 0).val < 16384 := (y 0).isLt; omega)
    (ix2 (⟨(y 0).val % 1024, Nat.mod_lt _ (by decide)⟩ : Fin 1024) (y 1 : Fin 1024))

/-- A point that writes back writes its block of the array of all blocks. -/
theorem flushed (c : Dev nD) (t : Fin cfg0.N) (hf : (cfg0.win 6).flush t = true) :
    (dats m 0 c).flushed 6 t = ((cfg0.win 6).blk t).view.read (Elt F) (whole m c) := by
  show (cfg0.win 6).cut (grid0.coords t) ((dats m 0 c).after 6 t) = _
  rw [after0_6, block m c t ((flush0_6 t).1 hf)]
  obtain ⟨e0, e1⟩ := idx6 t
  funext j
  have h0 : (j 0).val < 1024 := (j 0).isLt
  have g0 : (((cfg0.win 6).blk t).view.emb j 0).val = t.val / 2 * 1024 + (j 0).val := by
    show win0_6.index t (0 : Fin 2) * 1024 + 1 * (j 0).val = _; rw [e0]; omega
  have g1 : (((cfg0.win 6).blk t).view.emb j 1).val = (j 1).val := by
    show win0_6.index t (1 : Fin 2) * 1024 + 1 * (j 1).val = _; rw [e1]; omega
  have d0 : (((cfg0.win 6).blk t).view.emb j 0).val / 1024 = t.val / 2 := by rw [g0]; omega
  have r0 : (((cfg0.win 6).blk t).view.emb j 0).val % 1024 = (j 0).val := by rw [g0]; omega
  show tile m c _ _ j = whole m c (((cfg0.win 6).blk t).view.emb j)
  unfold whole
  have hj : (ix2 (⟨(((cfg0.win 6).blk t).view.emb j 0).val % 1024, Nat.mod_lt _ (by decide)⟩ : Fin 1024)
      (((cfg0.win 6).blk t).view.emb j 1 : Fin 1024) : S1024x1024.Idx) = j := by
    funext a; apply Fin.ext
    match a with
    | ⟨0, _⟩ => exact r0
    | ⟨1, _⟩ => exact g1
  rw [hj]
  exact congrFun (tile_congr m c d0.symm _ _) j

/-- Where the block of a point lies. -/
theorem mem_blk (t : Fin cfg0.N) (i : S16384x1024.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v5).slice (win0_6.rect t)).set ↔ _
  rw [View.set_slice_whole, Rect.mem_set_unit]
  exact Iff.rfl

/-- Every place of the array is in the block of some point that writes back. -/
theorem final (c : Dev nD) : (dats m 0 c).arrAt 6 cfg0.N = whole m c :=
  (dats m 0 c).arrAt_eq_of_cover 6 _ (flushed m c) fun y => by
    have h0 : (y 0).val < 16384 := (y 0).isLt
    have h1 : (y 1).val < 1024 := (y 1).isLt
    have hlt : (y 0).val / 1024 * 2 + 1 < cfg0.N := by rw [show cfg0.N = 32 from N_0]; omega
    have e := idx6 ⟨_, hlt⟩
    refine ⟨⟨_, hlt⟩, (flush0_6 _).2 (by dsimp only; omega), (mem_blk _ y).2 fun a => ?_⟩
    match a with
    | ⟨0, _⟩ =>
      show win0_6.index ⟨_, hlt⟩ (0 : Fin 2) * 1024 ≤ (y 0).val ∧ (y 0).val < win0_6.index ⟨_, hlt⟩ (0 : Fin 2) * 1024 + 1024
      rw [e.1]; dsimp only; omega
    | ⟨1, _⟩ =>
      show win0_6.index ⟨_, hlt⟩ (1 : Fin 2) * 1024 ≤ (y 1).val ∧ (y 1).val < win0_6.index ⟨_, hlt⟩ (1 : Fin 2) * 1024 + 1024
      rw [e.2]; omega

end Cert.Kernel3Ideal.Dense

end
-- ==== Proof.Dense.lean ====
/- The mathematics of the dense feed-forward: a row, plus the gated product of the row normed. -/
module

public import proofs.«01_k».proof.Proof.Spec

@[expose] public section

noncomputable section

namespace Cert.Moe

open Idealize.ShloMosaic

/-- A hidden entry of a normed row, times a down weight. -/
def share (h : Fin 1024 → EReal) (wg wu : Fin 1024 → Fin 2816 → EReal) (wd : Fin 2816 → Fin 1024 → EReal) (d : Fin 1024) (m : Fin 2816) : EReal :=
  act (∑ k, h k * wg k m) (∑ k, h k * wu k m) * wd m d

/-- The dense feed-forward of a row, with the row added. -/
def dense (x g : Fin 1024 → EReal) (wg wu : Fin 1024 → Fin 2816 → EReal) (wd : Fin 2816 → Fin 1024 → EReal) (d : Fin 1024) : EReal :=
  x d + ∑ m, share (norm x g) wg wu wd d m

/-- A sum over the hidden width, half by half. -/
theorem sum_halves (f : Fin 2816 → EReal) :
    ∑ m, f m = ∑ k : Fin 1408, f ⟨0 * 1408 + k.val, by omega⟩ + ∑ k : Fin 1408, f ⟨1 * 1408 + k.val, by omega⟩ := by
  refine (Fin.sum_univ_add (a := 1408) (b := 1408) f).trans ?_
  refine congrArg₂ (· + ·) (Finset.sum_congr rfl fun k _ => congrArg f (Fin.ext ?_)) (Finset.sum_congr rfl fun k _ => congrArg f (Fin.ext ?_))
  · show k.val = 0 * 1408 + k.val; omega
  · show 1408 + k.val = 1 * 1408 + k.val; omega

end Cert.Moe

end
-- ==== Proof.DenseValue.lean ====
/- What the kernel's dense feed-forward computes, place by place. -/
module

public import proofs.«01_k».proof.Proof.DenseBlock
public import proofs.«01_k».proof.Proof.Dense

@[expose] public section

set_option maxRecDepth 2048

noncomputable section

namespace Cert.Kernel3Ideal.Dense

open Cert.Kernel3Ideal Cert.Kernel3Ideal.Gen Idealize.ShloMosaic Idealize.ShloMosaic.TcCoe Idealize.ShloMosaic.Tactic Idealize.SL.Sem
open Idealize.ShloMosaic.StableHlo

/-- A place of the normed rows. -/
theorem pay1_apply (X : Vec Ideal S1024x1024 .f32) (G : Vec Ideal S1x1024 .f32) (i k : Fin 1024) :
    k0_pay1 X G (ix2 i k) = Cert.Moe.norm (fun k => X (ix2 i k)) (fun k => G (ix2 (0 : Fin 1) k)) k := by
  pointwise [k0_pay1]
  rfl

/-- A place of the sum after a half: what it was and the half's share. -/
theorem pay3_apply (H : Vec Ideal S1024x1024 .bf16) (Wg Wu : Vec Ideal S1024x1408 .bf16) (A : Vec Ideal S1024x1024 .f32) (Wd : Vec Ideal S1408x1024 .bf16)
    (i d : Fin 1024) :
    k0_pay3 H Wg Wu A Wd (ix2 i d)
      = A (ix2 i d) + ∑ m : Fin 1408, Cert.Moe.act (∑ k, H (ix2 i k) * Wg (ix2 k m)) (∑ k, H (ix2 i k) * Wu (ix2 k m)) * Wd (ix2 m d) := by
  pointwise [k0_pay3]
  simp only [zero_sub]
  rfl

/-- The sum begins at zero. -/
theorem pay2_apply (i d : Fin 1024) : (k0_pay2 : FVec Ideal S1024x1024 .f32) (ix2 i d) = 0 := by
  pointwise [k0_pay2]

/-- A place of the output. -/
theorem pay4_apply (A X : Vec Ideal S1024x1024 .f32) (i d : Fin 1024) : k0_pay4 A X (ix2 i d) = X (ix2 i d) + A (ix2 i d) := by
  pointwise [k0_pay4]

section entry
variable {F : FTy → Type} [FloatOps F] (m : (ℓ : Loc nD τ sig) → Buf (Elt F) ℓ) (c : Dev nD)

/-- The activations. -/
abbrev inX : FVec F S16384x1024 .f32 := m ((c : Thread nD τ).loc main_arg0)
/-- The gains. -/
abbrev inG : FVec F S1024 .f32 := m ((c : Thread nD τ).loc main_arg1)
/-- The gate weights. -/
abbrev inWg : FVec F S1024x2816 .f32 := m ((c : Thread nD τ).loc main_arg3)
/-- The up weights. -/
abbrev inWu : FVec F S1024x2816 .f32 := m ((c : Thread nD τ).loc main_arg4)
/-- The down weights. -/
abbrev inWd : FVec F S2816x1024 .f32 := m ((c : Thread nD τ).loc main_arg5)

/-- The gains that enter the launch. -/
theorem entry_g : V m c main_v0 = (broadcastInDim S1x1024 ![1] bcast_S1024_S1x1024_1 (inG m c) : FVec F S1x1024 .f32) := by
  show StableHlo.after hostOps0 _ _ = _
  after_results
/-- The gate weights that enter the launch. -/
theorem entry_wg : V m c main_v2 = (truncf .bf16 (inWg m c) bitsLt_bf16_f32 : FVec F S1024x2816 .bf16) := by
  show StableHlo.after hostOps0 _ _ = _
  after_results
/-- The up weights that enter the launch. -/
theorem entry_wu : V m c main_v3 = (truncf .bf16 (inWu m c) bitsLt_bf16_f32 : FVec F S1024x2816 .bf16) := by
  show StableHlo.after hostOps0 _ _ = _
  after_results
/-- The down weights that enter the launch. -/
theorem entry_wd : V m c main_v4 = (truncf .bf16 (inWd m c) bitsLt_bf16_f32 : FVec F S2816x1024 .bf16) := by
  show StableHlo.after hostOps0 _ _ = _
  after_results

end entry

section value
variable (m : (ℓ : Loc nD τ sig) → Buf (Elt Ideal) ℓ) (c : Dev nD)

/-- The layer's values. -/
abbrev table (r : Fin 16384) (d : Fin 1024) : EReal :=
  Cert.Moe.dense (fun k => inX m c (ix2 r k)) (fun k => inG m c (Idealize.ShloMosaic.ix1 k)) (fun k n => inWg m c (ix2 k n))
    (fun k n => inWu m c (ix2 k n)) (fun n d => inWd m c (ix2 n d)) d

/-- A place of the tile's kept rows. -/
theorem kept_apply (q : ℕ) (hq : q < 16) (i k : Fin 1024) (r : Fin 16384) (hr : q * 1024 + i.val = r.val) :
    kept m c q hq (ix2 i k) = Cert.Moe.norm (fun k => inX m c (ix2 r k)) (fun k => inG m c (Idealize.ShloMosaic.ix1 k)) k := by
  refine (pay1_apply _ _ _ _).trans ?_
  refine congrArg₂ (fun f g => Cert.Moe.norm f g k) (funext fun k => ?_) (funext fun k => ?_)
  · show V m c main_arg0 (ix2 (⟨q * 1024 + i.val, _⟩ : Fin 16384) k) = _
    rw [V_main_arg0]
    exact congrArg (fun r => inX m c (ix2 r k)) (Fin.ext hr)
  · rw [entry_g]
    pointwise

/-- A gate weight of a half. -/
theorem wg_apply (q : ℕ) (hq : q < 2) (k : Fin 1024) (n : Fin 1408) :
    cols (V m c main_v2) q hq (ix2 k n) = inWg m c (ix2 k (⟨q * 1408 + n.val, by omega⟩ : Fin 2816)) := by
  rw [entry_wg]; rfl

/-- An up weight of a half. -/
theorem wu_apply (q : ℕ) (hq : q < 2) (k : Fin 1024) (n : Fin 1408) :
    cols (V m c main_v3) q hq (ix2 k n) = inWu m c (ix2 k (⟨q * 1408 + n.val, by omega⟩ : Fin 2816)) := by
  rw [entry_wu]; rfl

/-- A down weight of a half. -/
theorem wd_apply (q : ℕ) (hq : q < 2) (n : Fin 1408) (d : Fin 1024) :
    downs (V m c main_v4) q hq (ix2 n d) = inWd m c (ix2 (⟨q * 1408 + n.val, by omega⟩ : Fin 2816) d) := by
  rw [entry_wd]; rfl

/-- A half's share of the sum. -/
theorem share_apply (q : ℕ) (hq : q < 16) (i d : Fin 1024) (r : Fin 16384) (hr : q * 1024 + i.val = r.val) (p : ℕ) (hp : p < 2) (n : Fin 1408) :
    Cert.Moe.act (∑ k, kept m c q hq (ix2 i k) * cols (V m c main_v2) p hp (ix2 k n)) (∑ k, kept m c q hq (ix2 i k) * cols (V m c main_v3) p hp (ix2 k n))
        * downs (V m c main_v4) p hp (ix2 n d)
      = Cert.Moe.share (Cert.Moe.norm (fun k => inX m c (ix2 r k)) (fun k => inG m c (Idealize.ShloMosaic.ix1 k))) (fun k n => inWg m c (ix2 k n))
          (fun k n => inWu m c (ix2 k n)) (fun n d => inWd m c (ix2 n d)) d ⟨p * 1408 + n.val, by omega⟩ := by
  unfold Cert.Moe.share
  rw [wd_apply]
  refine congrArg₂ (fun a b => Cert.Moe.act a b * _) (Finset.sum_congr rfl fun k _ => ?_) (Finset.sum_congr rfl fun k _ => ?_)
  · rw [kept_apply m c q hq i k r hr, wg_apply]
  · rw [kept_apply m c q hq i k r hr, wu_apply]

/-- A place of a row tile's output. -/
theorem tile_apply (q : ℕ) (hq : q < 16) (i d : Fin 1024) (r : Fin 16384) (hr : q * 1024 + i.val = r.val) :
    tile m c q hq (ix2 i d) = table m c r d := by
  unfold tile
  refine (pay4_apply _ _ _ _).trans ?_
  refine congrArg₂ (· + ·) ?_ ?_
  · show V m c main_arg0 (ix2 (⟨q * 1024 + i.val, _⟩ : Fin 16384) d) = _
    rw [V_main_arg0]
    exact congrArg (fun r => inX m c (ix2 r d)) (Fin.ext hr)
  · refine (pay3_apply _ _ _ _ _ _ _).trans ?_
    rw [Cert.Moe.sum_halves]
    refine congrArg₂ (· + ·) ?_ (Finset.sum_congr rfl fun n _ => share_apply m c q hq i d r hr 1 (by decide) n)
    refine (pay3_apply _ _ _ _ _ _ _).trans ?_
    rw [pay2_apply, zero_add]
    exact Finset.sum_congr rfl fun n _ => share_apply m c q hq i d r hr 0 (by decide) n

/-- The whole array is the layer. -/
theorem whole_table : whole m c = fun y => table m c (y 0) (y 1) := by
  funext y
  exact tile_apply m c _ _ _ _ (y 0) (Nat.div_add_mod' _ _)

end value

end Cert.Kernel3Ideal.Dense

end
-- ==== Proof.DenseReference.lean ====
/- What the reference's dense feed-forward computes, place by place. -/
module

public import proofs.«01_k».proof.Proof.Dense
public import proofs.«01_k».proof.Proof.Gen.Reference3Ideal.Run
public import Idealize.ShloMosaic.Lib.Pointwise

@[expose] public section

set_option maxRecDepth 16384

noncomputable section

namespace Cert.Reference3Ideal.Dense

open Idealize.ShloMosaic Idealize.SL.Sem Cert.Reference3Ideal Cert.Reference3Ideal.Facts₀ Cert.Reference3Ideal.Value

section terms
variable (x : FVec Ideal S16384x1024 .f32) (g : FVec Ideal S1024 .f32) (wg wu : FVec Ideal S1024x2816 .f32) (wd : FVec Ideal S2816x1024 .f32)

/-- The normed rows. -/
def normed : FVec Ideal S16384x1024 .f32 :=
  (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g)))

/-- The gate's products. -/
def gates : FVec Ideal S16384x2816 .f32 := Host.dotGeneral dot_S16384x1024_S1024x2816_S16384x2816_1_0_0_1_n_n none (normed x g) wg

/-- The layer's output. -/
def all : FVec Ideal S16384x1024 .f32 :=
  addf x (Host.dotGeneral dot_S16384x2816_S2816x1024_S16384x1024_1_0_0_1_n_n none (mulf (mulf (gates x g wg) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (gates x g wg)))))) (Host.dotGeneral dot_S16384x1024_S1024x2816_S16384x2816_1_0_0_1_n_n none (normed x g) wu)) wd)

/-- A normed activation. -/
theorem normed_apply (r : Fin 16384) (k : Fin 1024) :
    normed x g (ix2 r k) = Cert.Moe.norm (fun k => x (ix2 r k)) (fun k => g (Idealize.ShloMosaic.ix1 k)) k := by
  pointwise [normed]
  rfl

/-- An entry of the reference's output. -/
theorem all_apply (r : Fin 16384) (d : Fin 1024) :
    all x g wg wu wd (ix2 r d) = Cert.Moe.dense (fun k => x (ix2 r k)) (fun k => g (Idealize.ShloMosaic.ix1 k)) (fun k n => wg (ix2 k n))
      (fun k n => wu (ix2 k n)) (fun n d => wd (ix2 n d)) d := by
  pointwise [all, gates, normed_apply]
  rfl

/-- The reference's output is the layer. -/
theorem all_table : all x g wg wu wd = fun y => Cert.Moe.dense (fun k => x (ix2 (y 0) k)) (fun k => g (Idealize.ShloMosaic.ix1 k)) (fun k n => wg (ix2 k n))
      (fun k n => wu (ix2 k n)) (fun n d => wd (ix2 n d)) (y 1) := by
  funext y
  obtain ⟨r, d, rfl⟩ : ∃ r d, y = ix2 r d := ⟨y 0, y 1, by funext a; fin_cases a <;> rfl⟩
  exact all_apply x g wg wu wd r d

end terms

end Cert.Reference3Ideal.Dense

end
-- ==== Proof.DenseEqual.lean ====
/- The kernel's and the reference's dense feed-forwards end with equal results. -/
module

public import proofs.«01_k».proof.Proof.DenseValue
public import proofs.«01_k».proof.Proof.DenseReference
public import proofs.«01_k».proof.Defs

@[expose] public section

set_option maxRecDepth 2048

noncomputable section

namespace Cert.Kernel3Ideal.Dense

open Cert.Kernel3Ideal Cert.Kernel3Ideal.Gen Idealize.ShloMosaic Idealize.ShloMosaic.TcCoe Idealize.SL.Sem

/-- The kernel's run, its result the layer. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v5) = (fun y => table m c (y 0) (y 1) : S16384x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).1 6).trans ((final m c).trans (whole_table m c)),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main (F := Ideal) m g)

/-- The kernel and the reference, over the extended reals, end with equal results. -/
theorem equal : Cert.algebraic_Kernel3Ideal_Reference3Ideal (hKernel3Ideal := Cert.Kernel3Ideal.Gen.facts)
    (hReference3Ideal := Cert.Reference3Ideal.Gen.facts) := by
  intro m g m' g' _ hm
  refine ⟨fun c => (fun y => table m c (y 0) (y 1) : S16384x1024.Idx → EReal), run m g,
    (θ_run Cert.Reference3Ideal.defs _ _).mono (fun r h c => ?_) (Cert.Reference3Ideal.Value.run (F := Ideal) m' g')⟩
  obtain ⟨h0, ha⟩ := h c
  refine ⟨h0.trans ((Cert.Reference3Ideal.Dense.all_table _ _ _ _ _).trans ?_), ha⟩
  obtain ⟨e0, e1, e2, e3, e4, e5⟩ := hm c
  rw [e0, e1, e3, e4, e5]

end Cert.Kernel3Ideal.Dense

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2.Frame
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Frames
public import proofs.«01_k».proof.Proof.Equal
public import proofs.«01_k».proof.Proof.ProjEqual
public import proofs.«01_k».proof.Proof.DenseEqual
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Moe.pre_facts,
    Cert.Frames.frame_kernel, Cert.Frames.frame_kernelIdeal, fun m g _ => Cert.Frames.frame_kernelIdeal m g trivial,
    Cert.Frames.frame_referenceIdeal, fun m g _ => Cert.Frames.frame_referenceIdeal m g trivial,
    fun m g _ => Cert.Kernel2.Gen.frame m g, fun m g _ => Cert.Kernel2Ideal.Gen.frame m g, Cert.Frames.frame_reference2Ideal,
    fun m g _ => Cert.Kernel3.Gen.frame m g, fun m g _ => Cert.Kernel3Ideal.Gen.frame m g, Cert.Frames.frame_reference3Ideal,
    trivial, Cert.Moe.equal Cert.Moe.pre_facts, trivial, Cert.Kernel2Ideal.Proj.equal,
    trivial, Cert.Kernel3Ideal.Dense.equal⟩

end Cert.Proof

end
